-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x1024 : Shape := ⟨3, ![4, 2048, 1024]⟩
abbrev S6208x1024 : Shape := ⟨2, ![6208, 1024]⟩
abbrev S16x64 : Shape := ⟨2, ![16, 64]⟩
abbrev S2048x4 : Shape := ⟨2, ![2048, 4]⟩
abbrev S2048 : Shape := ⟨1, ![2048]⟩
abbrev S16x128 : Shape := ⟨2, ![16, 128]⟩
abbrev S16 : Shape := ⟨1, ![16]⟩
abbrev S1024x2048 : Shape := ⟨2, ![1024, 2048]⟩
abbrev S2048x1024 : Shape := ⟨2, ![2048, 1024]⟩
abbrev S1x16 : Shape := ⟨2, ![1, 16]⟩
abbrev S_ : Shape := ⟨0, ![]⟩
abbrev S128 : Shape := ⟨1, ![128]⟩
abbrev S128x1 : Shape := ⟨2, ![128, 1]⟩
abbrev S128x16 : Shape := ⟨2, ![128, 16]⟩
abbrev S2048x1 : Shape := ⟨2, ![2048, 1]⟩
abbrev S2112x1024 : Shape := ⟨2, ![2112, 1024]⟩
abbrev S1024x6208 : Shape := ⟨2, ![1024, 6208]⟩
abbrev S4x2048x6208 : Shape := ⟨3, ![4, 2048, 6208]⟩
abbrev S4x2048x2048 : Shape := ⟨3, ![4, 2048, 2048]⟩
abbrev S4x2048x64 : Shape := ⟨3, ![4, 2048, 64]⟩
abbrev S64x16 : Shape := ⟨2, ![64, 16]⟩
abbrev S4x2048x16 : Shape := ⟨3, ![4, 2048, 16]⟩
abbrev S1x1x16 : Shape := ⟨3, ![1, 1, 16]⟩
abbrev S4x2048x16x64 : Shape := ⟨4, ![4, 2048, 16, 64]⟩
abbrev S1x1024 : Shape := ⟨2, ![1, 1024]⟩
abbrev S16x16 : Shape := ⟨2, ![16, 16]⟩
abbrev S16x16x64 : Shape := ⟨3, ![16, 16, 64]⟩
abbrev S16x1024 : Shape := ⟨2, ![16, 1024]⟩
abbrev S1024x16 : Shape := ⟨2, ![1024, 16]⟩
abbrev S4x2048 : Shape := ⟨2, ![4, 2048]⟩
abbrev S1x2048 : Shape := ⟨2, ![1, 2048]⟩
abbrev S1x128x2048 : Shape := ⟨3, ![1, 128, 2048]⟩
abbrev S1x128x1024 : Shape := ⟨3, ![1, 128, 1024]⟩
abbrev S128x1024 : Shape := ⟨2, ![128, 1024]⟩
abbrev S8x2048 : Shape := ⟨2, ![8, 2048]⟩
abbrev S136x2048 : Shape := ⟨2, ![136, 2048]⟩
abbrev S8x16x128x16 : Shape := ⟨4, ![8, 16, 128, 16]⟩
abbrev S16x128x1024 : Shape := ⟨3, ![16, 128, 1024]⟩
abbrev S128x2048 : Shape := ⟨2, ![128, 2048]⟩
abbrev S1x16x128x16 : Shape := ⟨4, ![1, 16, 128, 16]⟩
abbrev S16x128x16 : Shape := ⟨3, ![16, 128, 16]⟩
abbrev S2048x16 : Shape := ⟨2, ![2048, 16]⟩
abbrev S1024 : Shape := ⟨1, ![1024]⟩
abbrev S1x1x1024 : Shape := ⟨3, ![1, 1, 1024]⟩
abbrev S1x128x16 : Shape := ⟨3, ![1, 128, 16]⟩

abbrev nBuf : Space → Nat
  | .hbm => 147
  | .vmem => 30
  | .smem => 0
  | _ => 0

abbrev hbmTy0_0 (i : Nat) : BufTy := match i % 128 with
  | 0 => ⟨S4x2048x1024, .f32⟩
  | 1 => ⟨S6208x1024, .f32⟩
  | 2 => ⟨S16x64, .f32⟩
  | 3 => ⟨S2048x4, .f32⟩
  | 4 => ⟨S2048, .f32⟩
  | 5 => ⟨S16x64, .f32⟩
  | 6 => ⟨S16x128, .f32⟩
  | 7 => ⟨S16, .f32⟩
  | 8 => ⟨S2048, .f32⟩
  | 9 => ⟨S1024x2048, .f32⟩
  | 10 => ⟨S2048x1024, .f32⟩
  | 11 => ⟨S16, .i32⟩
  | 12 => ⟨S1x16, .i32⟩
  | 13 => ⟨S_, .i32⟩
  | 14 => ⟨S1x16, .i32⟩
  | 15 => ⟨S1x16, .i32⟩
  | 16 => ⟨S128, .i32⟩
  | 17 => ⟨S128x1, .i32⟩
  | 18 => ⟨S128x16, .i32⟩
  | 19 => ⟨S128x16, .i32⟩
  | 20 => ⟨S128x16, .i32⟩
  | 21 => ⟨S2048, .i32⟩
  | 22 => ⟨S2048x1024, .f32⟩
  | 23 => ⟨S_, .i32⟩
  | 24 => ⟨S2048, .i32⟩
  | 25 => ⟨S2048, .i1⟩
  | 26 => ⟨S_, .i32⟩
  | 27 => ⟨S2048, .i32⟩
  | 28 => ⟨S2048, .i32⟩
  | 29 => ⟨S2048, .i32⟩
  | 30 => ⟨S2048x1, .i32⟩
  | 31 => ⟨S2048x1024, .f32⟩
  | 32 => ⟨S2048x1024, .f32⟩
  | 33 => ⟨S_, .i32⟩
  | 34 => ⟨S2048, .i32⟩
  | 35 => ⟨S2048, .i1⟩
  | 36 => ⟨S_, .i32⟩
  | 37 => ⟨S2048, .i32⟩
  | 38 => ⟨S2048, .i32⟩
  | 39 => ⟨S2048, .i32⟩
  | 40 => ⟨S2048x1, .i32⟩
  | 41 => ⟨S2048x1024, .f32⟩
  | 42 => ⟨S2112x1024, .f32⟩
  | 43 => ⟨S6208x1024, .f32⟩
  | 44 => ⟨S1024x6208, .f32⟩
  | 45 => ⟨S4x2048x6208, .f32⟩
  | 46 => ⟨S4x2048x2048, .f32⟩
  | 47 => ⟨S4x2048x2048, .f32⟩
  | 48 => ⟨S4x2048x64, .f32⟩
  | 49 => ⟨S4x2048x1024, .f32⟩
  | 50 => ⟨S4x2048x1024, .f32⟩
  | 51 => ⟨S64x16, .f32⟩
  | 52 => ⟨S4x2048x16, .f32⟩
  | 53 => ⟨S1x1x16, .f32⟩
  | 54 => ⟨S4x2048x16, .f32⟩
  | 55 => ⟨S4x2048x16, .f32⟩
  | 56 => ⟨S_, .f32⟩
  | 57 => ⟨S4x2048x16, .f32⟩
  | 58 => ⟨S4x2048x16, .f32⟩
  | 59 => ⟨S4x2048x16, .f32⟩
  | 60 => ⟨S4x2048x16, .f32⟩
  | 61 => ⟨S4x2048x16, .i1⟩
  | 62 => ⟨S4x2048x16, .f32⟩
  | 63 => ⟨S4x2048x16, .f32⟩
  | 64 => ⟨S4x2048x16, .f32⟩
  | 65 => ⟨S4x2048x16, .f32⟩
  | 66 => ⟨S4x2048x16, .f32⟩
  | 67 => ⟨S4x2048x16, .f32⟩
  | 68 => ⟨S4x2048x16, .f32⟩
  | 69 => ⟨S4x2048x16, .f32⟩
  | 70 => ⟨S_, .f32⟩
  | 71 => ⟨S_, .f32⟩
  | 72 => ⟨S_, .f32⟩
  | 73 => ⟨S4x2048x16, .f32⟩
  | 74 => ⟨S4x2048x16, .f32⟩
  | 75 => ⟨S_, .f32⟩
  | 76 => ⟨S4x2048x16, .f32⟩
  | 77 => ⟨S4x2048x16, .f32⟩
  | 78 => ⟨S4x2048x16x64, .f32⟩
  | 79 => ⟨S4x2048x1024, .f32⟩
  | 80 => ⟨S_, .i32⟩
  | 81 => ⟨S2048, .i32⟩
  | 82 => ⟨S2048, .i1⟩
  | 83 => ⟨S_, .i32⟩
  | 84 => ⟨S2048, .i32⟩
  | 85 => ⟨S2048, .i32⟩
  | 86 => ⟨S2048, .i32⟩
  | 87 => ⟨S2048x1, .i32⟩
  | 88 => ⟨S2048x1024, .f32⟩
  | 89 => ⟨S1024x2048, .f32⟩
  | 90 => ⟨S4x2048x2048, .f32⟩
  | 91 => ⟨S16x64, .f32⟩
  | 92 => ⟨S16x64, .f32⟩
  | 93 => ⟨S1x1024, .f32⟩
  | 94 => ⟨S16x16, .i32⟩
  | 95 => ⟨S16x16, .i32⟩
  | 96 => ⟨S_, .i32⟩
  | 97 => ⟨S16x16, .i32⟩
  | 98 => ⟨S16x16, .i32⟩
  | 99 => ⟨S16x16, .i1⟩
  | 100 => ⟨S16x16, .f32⟩
  | 101 => ⟨S16x16x64, .f32⟩
  | 102 => ⟨S16x1024, .f32⟩
  | 103 => ⟨S1024x16, .f32⟩
  | 104 => ⟨S128x16, .f32⟩
  | 105 => ⟨S_, .i32⟩
  | 106 => ⟨S2048, .i32⟩
  | 107 => ⟨S2048, .i1⟩
  | 108 => ⟨S_, .i32⟩
  | 109 => ⟨S2048, .i32⟩
  | 110 => ⟨S2048, .i32⟩
  | 111 => ⟨S2048, .i32⟩
  | 112 => ⟨S2048x1, .i32⟩
  | 113 => ⟨S2048x4, .f32⟩
  | 114 => ⟨S4x2048, .f32⟩
  | 115 => ⟨S_, .i32⟩
  | 116 => ⟨S2048, .i32⟩
  | 117 => ⟨S2048, .i1⟩
  | 118 => ⟨S_, .i32⟩
  | 119 => ⟨S2048, .i32⟩
  | 120 => ⟨S2048, .i32⟩
  | 121 => ⟨S2048, .i32⟩
  | 122 => ⟨S2048x1, .i32⟩
  | 123 => ⟨S2048, .f32⟩
  | 124 => ⟨S1x2048, .f32⟩
  | 125 => ⟨S_, .i32⟩
  | 126 => ⟨S2048, .i32⟩
  | 127 => ⟨S2048, .i1⟩
  | _ => ⟨S4x2048x1024, .f32⟩

abbrev hbmTy0_1 (i : Nat) : BufTy := match i % 128 with
  | 0 => ⟨S_, .i32⟩
  | 1 => ⟨S2048, .i32⟩
  | 2 => ⟨S2048, .i32⟩
  | 3 => ⟨S2048, .i32⟩
  | 4 => ⟨S2048x1, .i32⟩
  | 5 => ⟨S2048, .f32⟩
  | 6 => ⟨S1x2048, .f32⟩
  | 7 => ⟨S4x2048x2048, .f32⟩
  | 8 => ⟨S_, .i32⟩
  | 9 => ⟨S2048, .i32⟩
  | 10 => ⟨S2048, .i1⟩
  | 11 => ⟨S_, .i32⟩
  | 12 => ⟨S2048, .i32⟩
  | 13 => ⟨S2048, .i32⟩
  | 14 => ⟨S2048, .i32⟩
  | 15 => ⟨S2048x1, .i32⟩
  | 16 => ⟨S1024x2048, .f32⟩
  | 17 => ⟨S2048x1024, .f32⟩
  | 18 => ⟨S4x2048x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x2048, .f32⟩
  | .local _ .vmem, ⟨11, _⟩ => ⟨S1x128x2048, .f32⟩
  | .local _ .vmem, ⟨12, _⟩ => ⟨S1x1024, .f32⟩
  | .local _ .vmem, ⟨13, _⟩ => ⟨S128x16, .f32⟩
  | .local _ .vmem, ⟨14, _⟩ => ⟨S4x2048, .f32⟩
  | .local _ .vmem, ⟨15, _⟩ => ⟨S1x2048, .f32⟩
  | .local _ .vmem, ⟨16, _⟩ => ⟨S1x2048, .f32⟩
  | .local _ .vmem, ⟨17, _⟩ => ⟨S16x1024, .f32⟩
  | .local _ .vmem, ⟨18, _⟩ => ⟨S1024x16, .f32⟩
  | .local _ .vmem, ⟨19, _⟩ => ⟨S1x128x2048, .f32⟩
  | .local _ .vmem, ⟨20, _⟩ => ⟨S1x128x2048, .f32⟩
  | .local _ .vmem, ⟨21, _⟩ => ⟨S128x1024, .f32⟩
  | .local _ .vmem, ⟨22, _⟩ => ⟨S8x2048, .f32⟩
  | .local _ .vmem, ⟨23, _⟩ => ⟨S136x2048, .f32⟩
  | .local _ .vmem, ⟨24, _⟩ => ⟨S8x16x128x16, .f32⟩
  | .local _ .vmem, ⟨25, _⟩ => ⟨S16x128x1024, .f32⟩
  | .local _ .vmem, ⟨26, _⟩ => ⟨S16x128x1024, .f32⟩
  | .local _ .vmem, ⟨27, _⟩ => ⟨S128x1024, .f32⟩
  | .local _ .vmem, ⟨28, _⟩ => ⟨S128x1024, .f32⟩
  | .local _ .vmem, ⟨29, _⟩ => ⟨S8x16x128x16, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_v6 : Ref sig .tc := ⟨.hbm, 63, rfl⟩
abbrev main_call0_v7 : Ref sig .tc := ⟨.hbm, 64, rfl⟩
abbrev main_call0_v8 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_v40 : Ref sig .tc := ⟨.hbm, 69, rfl⟩
abbrev main_cst : Ref sig .tc := ⟨.hbm, 70, rfl⟩
abbrev main_cst_4 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_c_5 : Ref sig .tc := ⟨.hbm, 80, rfl⟩
abbrev main_v44 : Ref sig .tc := ⟨.hbm, 81, rfl⟩
abbrev main_v45 : Ref sig .tc := ⟨.hbm, 82, rfl⟩
abbrev main_c_6 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_c_7 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_c_8 : Ref sig .tc := ⟨.hbm, 105, rfl⟩
abbrev main_v66 : Ref sig .tc := ⟨.hbm, 106, rfl⟩
abbrev main_v67 : Ref sig .tc := ⟨.hbm, 107, rfl⟩
abbrev main_c_9 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_c_10 : Ref sig .tc := ⟨.hbm, 115, rfl⟩
abbrev main_v74 : Ref sig .tc := ⟨.hbm, 116, rfl⟩
abbrev main_v75 : Ref sig .tc := ⟨.hbm, 117, rfl⟩
abbrev main_c_11 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_c_12 : Ref sig .tc := ⟨.hbm, 125, rfl⟩
abbrev main_v82 : Ref sig .tc := ⟨.hbm, 126, rfl⟩
abbrev main_v83 : Ref sig .tc := ⟨.hbm, 127, rfl⟩
abbrev main_c_13 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_c_14 : Ref sig .tc := ⟨.hbm, 136, rfl⟩
abbrev main_v91 : Ref sig .tc := ⟨.hbm, 137, rfl⟩
abbrev main_v92 : Ref sig .tc := ⟨.hbm, 138, rfl⟩
abbrev main_c_15 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_51 : BitVec 32 := 0#32
  let c16_i32 : BitVec 32 := 16#32
  let v81 : BitVec 32 := Scalar.addi c0_i32_51 c16_i32
  let c1_i32 : BitVec 32 := 1#32
  ⟨c0_i32_51, v81, c1_i32⟩
def k0_off1 (k0_t1 : Fin k0_t1_loop.trips) : Fin 2 → Nat :=
  let c0_i32_218 : BitVec 32 := 0#32
  let c0_i32_51 : BitVec 32 := 0#32
  let c1_i32 : BitVec 32 := 1#32
  let arg25 : BitVec 32 := Scf.iv c0_i32_51 c1_i32 k0_t1
  let v260 : BitVec 32 := Scalar.addi c0_i32_218 arg25
  let v261 : Index := Scalar.indexCast v260
  let c0_219 : Index := 0#32
  ![v261.toNat, 0]
def k0_off2 (k0_t1 : Fin k0_t1_loop.trips) : Fin 3 → Nat :=
  let c0_i32_51 : BitVec 32 := 0#32
  let c1_i32 : BitVec 32 := 1#32
  let arg25 : BitVec 32 := Scf.iv c0_i32_51 c1_i32 k0_t1
  let v272 : Index := Scalar.indexCast arg25
  let c0_223 : Index := 0#32
  let c0_224 : Index := 0#32
  ![v272.toNat, 0, 0]
def k0_off3 (k0_t1 : Fin k0_t1_loop.trips) : Fin 3 → Nat :=
  let c0_227 : Index := 0#32
  let c0_i32_218 : BitVec 32 := 0#32
  let c0_i32_51 : BitVec 32 := 0#32
  let c1_i32 : BitVec 32 := 1#32
  let arg25 : BitVec 32 := Scf.iv c0_i32_51 c1_i32 k0_t1
  let v260 : BitVec 32 := Scalar.addi c0_i32_218 arg25
  let v281 : Index := Scalar.indexCast v260
  let c0_228 : Index := 0#32
  ![0, v281.toNat, 0]
@[reducible] def k0_t2_loop : Scf.Loop 32 :=
  let c0_i32_69 : BitVec 32 := 0#32
  let c16_i32_70 : BitVec 32 := 16#32
  let v101 : BitVec 32 := Scalar.addi c0_i32_69 c16_i32_70
  let c1_i32_71 : BitVec 32 := 1#32
  ⟨c0_i32_69, v101, c1_i32_71⟩
def k0_off4 (k0_t2 : Fin k0_t2_loop.trips) : Fin 2 → Nat :=
  let c16_i32_218 : BitVec 32 := 16#32
  let c0_i32_69 : BitVec 32 := 0#32
  let c1_i32_71 : BitVec 32 := 1#32
  let arg25 : BitVec 32 := Scf.iv c0_i32_69 c1_i32_71 k0_t2
  let v260 : BitVec 32 := Scalar.addi c16_i32_218 arg25
  let v261 : Index := Scalar.indexCast v260
  let c0_219 : Index := 0#32
  ![v261.toNat, 0]
def k0_off5 (k0_t2 : Fin k0_t2_loop.trips) : Fin 3 → Nat :=
  let c0_i32_69 : BitVec 32 := 0#32
  let c1_i32_71 : BitVec 32 := 1#32
  let arg25 : BitVec 32 := Scf.iv c0_i32_69 c1_i32_71 k0_t2
  let v272 : Index := Scalar.indexCast arg25
  let c0_223 : Index := 0#32
  let c0_224 : Index := 0#32
  ![v272.toNat, 0, 0]
def k0_off6 (k0_t2 : Fin k0_t2_loop.trips) : Fin 3 → Nat :=
  let c0_227 : Index := 0#32
  let c16_i32_218 : BitVec 32 := 16#32
  let c0_i32_69 : BitVec 32 := 0#32
  let c1_i32_71 : BitVec 32 := 1#32
  let arg25 : BitVec 32 := Scf.iv c0_i32_69 c1_i32_71 k0_t2
  let v260 : BitVec 32 := Scalar.addi c16_i32_218 arg25
  let v281 : Index := Scalar.indexCast v260
  let c0_228 : Index := 0#32
  ![0, v281.toNat, 0]
@[reducible] def k0_t3_loop : Scf.Loop 32 :=
  let c0_i32_89 : BitVec 32 := 0#32
  let c16_i32_90 : BitVec 32 := 16#32
  let v121 : BitVec 32 := Scalar.addi c0_i32_89 c16_i32_90
  let c1_i32_91 : BitVec 32 := 1#32
  ⟨c0_i32_89, v121, c1_i32_91⟩
def k0_off7 (k0_t3 : Fin k0_t3_loop.trips) : Fin 2 → Nat :=
  let c32_i32 : BitVec 32 := 32#32
  let c0_i32_89 : BitVec 32 := 0#32
  let c1_i32_91 : BitVec 32 := 1#32
  let arg25 : BitVec 32 := Scf.iv c0_i32_89 c1_i32_91 k0_t3
  let v260 : BitVec 32 := Scalar.addi c32_i32 arg25
  let v261 : Index := Scalar.indexCast v260
  let c0_218 : Index := 0#32
  ![v261.toNat, 0]
def k0_off8 (k0_t3 : Fin k0_t3_loop.trips) : Fin 3 → Nat :=
  let c0_i32_89 : BitVec 32 := 0#32
  let c1_i32_91 : BitVec 32 := 1#32
  let arg25 : BitVec 32 := Scf.iv c0_i32_89 c1_i32_91 k0_t3
  let v272 : Index := Scalar.indexCast arg25
  let c0_222 : Index := 0#32
  let c0_223 : Index := 0#32
  ![v272.toNat, 0, 0]
def k0_off9 (k0_t3 : Fin k0_t3_loop.trips) : Fin 3 → Nat :=
  let c0_226 : Index := 0#32
  let c32_i32 : BitVec 32 := 32#32
  let c0_i32_89 : BitVec 32 := 0#32
  let c1_i32_91 : BitVec 32 := 1#32
  let arg25 : BitVec 32 := Scf.iv c0_i32_89 c1_i32_91 k0_t3
  let v260 : BitVec 32 := Scalar.addi c32_i32 arg25
  let v281 : Index := Scalar.indexCast v260
  let c0_227 : Index := 0#32
  ![0, v281.toNat, 0]
@[reducible] def k0_t4_loop : Scf.Loop 32 :=
  let c0_i32_109 : BitVec 32 := 0#32
  let c16_i32_110 : BitVec 32 := 16#32
  let v141 : BitVec 32 := Scalar.addi c0_i32_109 c16_i32_110
  let c1_i32_111 : BitVec 32 := 1#32
  ⟨c0_i32_109, v141, c1_i32_111⟩
def k0_off10 (k0_t4 : Fin k0_t4_loop.trips) : Fin 2 → Nat :=
  let c48_i32 : BitVec 32 := 48#32
  let c0_i32_109 : BitVec 32 := 0#32
  let c1_i32_111 : BitVec 32 := 1#32
  let arg25 : BitVec 32 := Scf.iv c0_i32_109 c1_i32_111 k0_t4
  let v260 : BitVec 32 := Scalar.addi c48_i32 arg25
  let v261 : Index := Scalar.indexCast v260
  let c0_218 : Index := 0#32
  ![v261.toNat, 0]
def k0_off11 (k0_t4 : Fin k0_t4_loop.trips) : Fin 3 → Nat :=
  let c0_i32_109 : BitVec 32 := 0#32
  let c1_i32_111 : BitVec 32 := 1#32
  let arg25 : BitVec 32 := Scf.iv c0_i32_109 c1_i32_111 k0_t4
  let v272 : Index := Scalar.indexCast arg25
  let c0_222 : Index := 0#32
  let c0_223 : Index := 0#32
  ![v272.toNat, 0, 0]
def k0_off12 (k0_t4 : Fin k0_t4_loop.trips) : Fin 3 → Nat :=
  let c0_226 : Index := 0#32
  let c48_i32 : BitVec 32 := 48#32
  let c0_i32_109 : BitVec 32 := 0#32
  let c1_i32_111 : BitVec 32 := 1#32
  let arg25 : BitVec 32 := Scf.iv c0_i32_109 c1_i32_111 k0_t4
  let v260 : BitVec 32 := Scalar.addi c48_i32 arg25
  let v281 : Index := Scalar.indexCast v260
  let c0_227 : Index := 0#32
  ![0, v281.toNat, 0]
@[reducible] def k0_t5_loop : Scf.Loop 32 :=
  let c0_i32_128 : BitVec 32 := 0#32
  let c16_i32_129 : BitVec 32 := 16#32
  let v161 : BitVec 32 := Scalar.addi c0_i32_128 c16_i32_129
  let c1_i32_130 : BitVec 32 := 1#32
  ⟨c0_i32_128, v161, c1_i32_130⟩
def k0_off13 (k0_t5 : Fin k0_t5_loop.trips) : Fin 2 → Nat :=
  let c64_i32 : BitVec 32 := 64#32
  let c0_i32_128 : BitVec 32 := 0#32
  let c1_i32_130 : BitVec 32 := 1#32
  let arg25 : BitVec 32 := Scf.iv c0_i32_128 c1_i32_130 k0_t5
  let v260 : BitVec 32 := Scalar.addi c64_i32 arg25
  let v261 : Index := Scalar.indexCast v260
  let c0_218 : Index := 0#32
  ![v261.toNat, 0]
def k0_off14 (k0_t5 : Fin k0_t5_loop.trips) : Fin 3 → Nat :=
  let c0_i32_128 : BitVec 32 := 0#32
  let c1_i32_130 : BitVec 32 := 1#32
  let arg25 : BitVec 32 := Scf.iv c0_i32_128 c1_i32_130 k0_t5
  let v272 : Index := Scalar.indexCast arg25
  let c0_222 : Index := 0#32
  let c0_223 : Index := 0#32
  ![v272.toNat, 0, 0]
def k0_off15 (k0_t5 : Fin k0_t5_loop.trips) : Fin 3 → Nat :=
  let c0_226 : Index := 0#32
  let c64_i32 : BitVec 32 := 64#32
  let c0_i32_128 : BitVec 32 := 0#32
  let c1_i32_130 : BitVec 32 := 1#32
  let arg25 : BitVec 32 := Scf.iv c0_i32_128 c1_i32_130 k0_t5
  let v260 : BitVec 32 := Scalar.addi c64_i32 arg25
  let v281 : Index := Scalar.indexCast v260
  let c0_227 : Index := 0#32
  ![0, v281.toNat, 0]
@[reducible] def k0_t6_loop : Scf.Loop 32 :=
  let c0_i32_148 : BitVec 32 := 0#32
  let c16_i32_149 : BitVec 32 := 16#32
  let v181 : BitVec 32 := Scalar.addi c0_i32_148 c16_i32_149
  let c1_i32_150 : BitVec 32 := 1#32
  ⟨c0_i32_148, v181, c1_i32_150⟩
def k0_off16 (k0_t6 : Fin k0_t6_loop.trips) : Fin 2 → Nat :=
  let c80_i32 : BitVec 32 := 80#32
  let c0_i32_148 : BitVec 32 := 0#32
  let c1_i32_150 : BitVec 32 := 1#32
  let arg25 : BitVec 32 := Scf.iv c0_i32_148 c1_i32_150 k0_t6
  let v260 : BitVec 32 := Scalar.addi c80_i32 arg25
  let v261 : Index := Scalar.indexCast v260
  let c0_218 : Index := 0#32
  ![v261.toNat, 0]
def k0_off17 (k0_t6 : Fin k0_t6_loop.trips) : Fin 3 → Nat :=
  let c0_i32_148 : BitVec 32 := 0#32
  let c1_i32_150 : BitVec 32 := 1#32
  let arg25 : BitVec 32 := Scf.iv c0_i32_148 c1_i32_150 k0_t6
  let v272 : Index := Scalar.indexCast arg25
  let c0_222 : Index := 0#32
  let c0_223 : Index := 0#32
  ![v272.toNat, 0, 0]
def k0_off18 (k0_t6 : Fin k0_t6_loop.trips) : Fin 3 → Nat :=
  let c0_226 : Index := 0#32
  let c80_i32 : BitVec 32 := 80#32
  let c0_i32_148 : BitVec 32 := 0#32
  let c1_i32_150 : BitVec 32 := 1#32
  let arg25 : BitVec 32 := Scf.iv c0_i32_148 c1_i32_150 k0_t6
  let v260 : BitVec 32 := Scalar.addi c80_i32 arg25
  let v281 : Index := Scalar.indexCast v260
  let c0_227 : Index := 0#32
  ![0, v281.toNat, 0]
@[reducible] def k0_t7_loop : Scf.Loop 32 :=
  let c0_i32_168 : BitVec 32 := 0#32
  let c16_i32_169 : BitVec 32 := 16#32
  let v201 : BitVec 32 := Scalar.addi c0_i32_168 c16_i32_169
  let c1_i32_170 : BitVec 32 := 1#32
  ⟨c0_i32_168, v201, c1_i32_170⟩
def k0_off19 (k0_t7 : Fin k0_t7_loop.trips) : Fin 2 → Nat :=
  let c96_i32 : BitVec 32 := 96#32
  let c0_i32_168 : BitVec 32 := 0#32
  let c1_i32_170 : BitVec 32 := 1#32
  let arg25 : BitVec 32 := Scf.iv c0_i32_168 c1_i32_170 k0_t7
  let v260 : BitVec 32 := Scalar.addi c96_i32 arg25
  let v261 : Index := Scalar.indexCast v260
  let c0_218 : Index := 0#32
  ![v261.toNat, 0]
def k0_off20 (k0_t7 : Fin k0_t7_loop.trips) : Fin 3 → Nat :=
  let c0_i32_168 : BitVec 32 := 0#32
  let c1_i32_170 : BitVec 32 := 1#32
  let arg25 : BitVec 32 := Scf.iv c0_i32_168 c1_i32_170 k0_t7
  let v272 : Index := Scalar.indexCast arg25
  let c0_222 : Index := 0#32
  let c0_223 : Index := 0#32
  ![v272.toNat, 0, 0]
def k0_off21 (k0_t7 : Fin k0_t7_loop.trips) : Fin 3 → Nat :=
  let c0_226 : Index := 0#32
  let c96_i32 : BitVec 32 := 96#32
  let c0_i32_168 : BitVec 32 := 0#32
  let c1_i32_170 : BitVec 32 := 1#32
  let arg25 : BitVec 32 := Scf.iv c0_i32_168 c1_i32_170 k0_t7
  let v260 : BitVec 32 := Scalar.addi c96_i32 arg25
  let v281 : Index := Scalar.indexCast v260
  let c0_227 : Index := 0#32
  ![0, v281.toNat, 0]
@[reducible] def k0_t8_loop : Scf.Loop 32 :=
  let c0_i32_188 : BitVec 32 := 0#32
  let c16_i32_189 : BitVec 32 := 16#32
  let v221 : BitVec 32 := Scalar.addi c0_i32_188 c16_i32_189
  let c1_i32_190 : BitVec 32 := 1#32
  ⟨c0_i32_188, v221, c1_i32_190⟩
def k0_off22 (k0_t8 : Fin k0_t8_loop.trips) : Fin 2 → Nat :=
  let c112_i32 : BitVec 32 := 112#32
  let c0_i32_188 : BitVec 32 := 0#32
  let c1_i32_190 : BitVec 32 := 1#32
  let arg25 : BitVec 32 := Scf.iv c0_i32_188 c1_i32_190 k0_t8
  let v260 : BitVec 32 := Scalar.addi c112_i32 arg25
  let v261 : Index := Scalar.indexCast v260
  let c0_218 : Index := 0#32
  ![v261.toNat, 0]
def k0_off23 (k0_t8 : Fin k0_t8_loop.trips) : Fin 3 → Nat :=
  let c0_i32_188 : BitVec 32 := 0#32
  let c1_i32_190 : BitVec 32 := 1#32
  let arg25 : BitVec 32 := Scf.iv c0_i32_188 c1_i32_190 k0_t8
  let v272 : Index := Scalar.indexCast arg25
  let c0_222 : Index := 0#32
  let c0_223 : Index := 0#32
  ![v272.toNat, 0, 0]
def k0_off24 (k0_t8 : Fin k0_t8_loop.trips) : Fin 3 → Nat :=
  let c0_226 : Index := 0#32
  let c112_i32 : BitVec 32 := 112#32
  let c0_i32_188 : BitVec 32 := 0#32
  let c1_i32_190 : BitVec 32 := 1#32
  let arg25 : BitVec 32 := Scf.iv c0_i32_188 c1_i32_190 k0_t8
  let v260 : BitVec 32 := Scalar.addi c112_i32 arg25
  let v281 : Index := Scalar.indexCast v260
  let c0_227 : Index := 0#32
  ![0, v281.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S16x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x128x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S4x2048x1024 : Shape := ⟨3, ![4, 2048, 1024]⟩
abbrev S6208x1024 : Shape := ⟨2, ![6208, 1024]⟩
abbrev S16x64 : Shape := ⟨2, ![16, 64]⟩
abbrev S2048x4 : Shape := ⟨2, ![2048, 4]⟩
abbrev S2048 : Shape := ⟨1, ![2048]⟩
abbrev S16x128 : Shape := ⟨2, ![16, 128]⟩
abbrev S16 : Shape := ⟨1, ![16]⟩
abbrev S1024x2048 : Shape := ⟨2, ![1024, 2048]⟩
abbrev S2048x1024 : Shape := ⟨2, ![2048, 1024]⟩
abbrev S1024x6208 : Shape := ⟨2, ![1024, 6208]⟩
abbrev S4x2048x6208 : Shape := ⟨3, ![4, 2048, 6208]⟩
abbrev S4x2048x2048 : Shape := ⟨3, ![4, 2048, 2048]⟩
abbrev S4x2048x64 : Shape := ⟨3, ![4, 2048, 64]⟩
abbrev S4x2048x16x64 : Shape := ⟨4, ![4, 2048, 16, 64]⟩
abbrev S_ : Shape := ⟨0, ![]⟩
abbrev S4x2051x2048 : Shape := ⟨3, ![4, 2051, 2048]⟩
abbrev S2048x1 : Shape := ⟨2, ![2048, 1]⟩
abbrev S1x1x2048 : Shape := ⟨3, ![1, 1, 2048]⟩
abbrev S64x16 : Shape := ⟨2, ![64, 16]⟩
abbrev S4x2048x16 : Shape := ⟨3, ![4, 2048, 16]⟩
abbrev S1x1x16 : Shape := ⟨3, ![1, 1, 16]⟩
abbrev S4x2048x16x128 : Shape := ⟨4, ![4, 2048, 16, 128]⟩
abbrev S4x16x128x64 : Shape := ⟨4, ![4, 16, 128, 64]⟩
abbrev S2048x4x16x128 : Shape := ⟨4, ![2048, 4, 16, 128]⟩
abbrev S2048x4x16 : Shape := ⟨3, ![2048, 4, 16]⟩
abbrev S2048x4x16x64 : Shape := ⟨4, ![2048, 4, 16, 64]⟩
abbrev S1x4x16x128 : Shape := ⟨4, ![1, 4, 16, 128]⟩
abbrev S4x16x128 : Shape := ⟨3, ![4, 16, 128]⟩
abbrev S1x4x16 : Shape := ⟨3, ![1, 4, 16]⟩
abbrev S4x16 : Shape := ⟨2, ![4, 16]⟩
abbrev S1x4x16x64 : Shape := ⟨4, ![1, 4, 16, 64]⟩
abbrev S4x16x64 : Shape := ⟨3, ![4, 16, 64]⟩
abbrev S4x16x1 : Shape := ⟨3, ![4, 16, 1]⟩
abbrev S1x16x64 : Shape := ⟨3, ![1, 16, 64]⟩
abbrev S4x16x1x64 : Shape := ⟨4, ![4, 16, 1, 64]⟩
abbrev S4x16x1x1 : Shape := ⟨4, ![4, 16, 1, 1]⟩
abbrev S4x16x128x1 : Shape := ⟨4, ![4, 16, 128, 1]⟩
abbrev S1x16x128 : Shape := ⟨3, ![1, 16, 128]⟩
abbrev S4x2048 : Shape := ⟨2, ![4, 2048]⟩
abbrev S4x2048x1 : Shape := ⟨3, ![4, 2048, 1]⟩

abbrev nBuf : Space → Nat
  | .hbm => 190
  | .vmem => 0
  | .smem => 0
  | _ => 0

abbrev hbmTy0_0 (i : Nat) : BufTy := match i % 128 with
  | 0 => ⟨S4x2048x1024, .f32⟩
  | 1 => ⟨S6208x1024, .f32⟩
  | 2 => ⟨S16x64, .f32⟩
  | 3 => ⟨S2048x4, .f32⟩
  | 4 => ⟨S2048, .f32⟩
  | 5 => ⟨S16x64, .f32⟩
  | 6 => ⟨S16x128, .f32⟩
  | 7 => ⟨S16, .f32⟩
  | 8 => ⟨S2048, .f32⟩
  | 9 => ⟨S1024x2048, .f32⟩
  | 10 => ⟨S2048x1024, .f32⟩
  | 11 => ⟨S1024x6208, .f32⟩
  | 12 => ⟨S4x2048x6208, .f32⟩
  | 13 => ⟨S4x2048x2048, .f32⟩
  | 14 => ⟨S4x2048x64, .f32⟩
  | 15 => ⟨S4x2048x1024, .f32⟩
  | 16 => ⟨S4x2048x16x64, .f32⟩
  | 17 => ⟨S4x2048x1024, .f32⟩
  | 18 => ⟨S4x2048x16x64, .f32⟩
  | 19 => ⟨S_, .i32⟩
  | 20 => ⟨S_, .f32⟩
  | 21 => ⟨S4x2051x2048, .f32⟩
  | 22 => ⟨S4x2048x2048, .f32⟩
  | 23 => ⟨S2048x1, .f32⟩
  | 24 => ⟨S2048, .f32⟩
  | 25 => ⟨S1x1x2048, .f32⟩
  | 26 => ⟨S4x2048x2048, .f32⟩
  | 27 => ⟨S4x2048x2048, .f32⟩
  | 28 => ⟨S_, .f32⟩
  | 29 => ⟨S4x2048x2048, .f32⟩
  | 30 => ⟨S4x2048x2048, .f32⟩
  | 31 => ⟨S4x2048x2048, .f32⟩
  | 32 => ⟨S2048x1, .f32⟩
  | 33 => ⟨S2048, .f32⟩
  | 34 => ⟨S1x1x2048, .f32⟩
  | 35 => ⟨S4x2048x2048, .f32⟩
  | 36 => ⟨S4x2048x2048, .f32⟩
  | 37 => ⟨S4x2048x2048, .f32⟩
  | 38 => ⟨S4x2048x2048, .f32⟩
  | 39 => ⟨S2048x1, .f32⟩
  | 40 => ⟨S2048, .f32⟩
  | 41 => ⟨S1x1x2048, .f32⟩
  | 42 => ⟨S4x2048x2048, .f32⟩
  | 43 => ⟨S4x2048x2048, .f32⟩
  | 44 => ⟨S4x2048x2048, .f32⟩
  | 45 => ⟨S4x2048x2048, .f32⟩
  | 46 => ⟨S2048x1, .f32⟩
  | 47 => ⟨S2048, .f32⟩
  | 48 => ⟨S1x1x2048, .f32⟩
  | 49 => ⟨S4x2048x2048, .f32⟩
  | 50 => ⟨S4x2048x2048, .f32⟩
  | 51 => ⟨S4x2048x2048, .f32⟩
  | 52 => ⟨S1x1x2048, .f32⟩
  | 53 => ⟨S4x2048x2048, .f32⟩
  | 54 => ⟨S4x2048x2048, .f32⟩
  | 55 => ⟨S64x16, .f32⟩
  | 56 => ⟨S4x2048x16, .f32⟩
  | 57 => ⟨S1x1x16, .f32⟩
  | 58 => ⟨S4x2048x16, .f32⟩
  | 59 => ⟨S4x2048x16, .f32⟩
  | 60 => ⟨S_, .f32⟩
  | 61 => ⟨S4x2048x16, .f32⟩
  | 62 => ⟨S4x2048x16, .f32⟩
  | 63 => ⟨S4x2048x16, .f32⟩
  | 64 => ⟨S4x2048x16, .f32⟩
  | 65 => ⟨S4x2048x16, .i1⟩
  | 66 => ⟨S4x2048x16, .f32⟩
  | 67 => ⟨S4x2048x16, .f32⟩
  | 68 => ⟨S4x2048x16, .f32⟩
  | 69 => ⟨S4x2048x16, .f32⟩
  | 70 => ⟨S4x2048x16, .f32⟩
  | 71 => ⟨S4x2048x16, .f32⟩
  | 72 => ⟨S4x2048x16, .f32⟩
  | 73 => ⟨S4x2048x16, .f32⟩
  | 74 => ⟨S_, .f32⟩
  | 75 => ⟨S_, .f32⟩
  | 76 => ⟨S_, .f32⟩
  | 77 => ⟨S4x2048x16, .f32⟩
  | 78 => ⟨S4x2048x16, .f32⟩
  | 79 => ⟨S_, .f32⟩
  | 80 => ⟨S4x2048x16, .f32⟩
  | 81 => ⟨S4x2048x16, .f32⟩
  | 82 => ⟨S16x64, .f32⟩
  | 83 => ⟨S16x64, .f32⟩
  | 84 => ⟨S4x2048x16x128, .f32⟩
  | 85 => ⟨S_, .f32⟩
  | 86 => ⟨S4x16x128x64, .f32⟩
  | 87 => ⟨S2048x4x16x128, .f32⟩
  | 88 => ⟨S2048x4x16, .f32⟩
  | 89 => ⟨S2048x4x16x64, .f32⟩
  | 90 => ⟨S2048x4x16x64, .f32⟩
  | 91 => ⟨S_, .f32⟩
  | 92 => ⟨S2048x4x16x128, .f32⟩
  | 93 => ⟨S_, .i32⟩
  | 94 => ⟨S2048x4x16x128, .f32⟩
  | 95 => ⟨S2048x4x16, .f32⟩
  | 96 => ⟨S2048x4x16x64, .f32⟩
  | 97 => ⟨S2048x4x16x64, .f32⟩
  | 98 => ⟨S16x64, .f32⟩
  | 99 => ⟨S16x128, .f32⟩
  | 100 => ⟨S_, .i32⟩
  | 101 => ⟨S4x16x128x64, .f32⟩
  | 102 => ⟨S2048x4x16x128, .f32⟩
  | 103 => ⟨S_, .i32⟩
  | 104 => ⟨S_, .i1⟩
  | 105 => ⟨S_, .i32⟩
  | 106 => ⟨S_, .i32⟩
  | 107 => ⟨S_, .i32⟩
  | 108 => ⟨S1x4x16x128, .f32⟩
  | 109 => ⟨S4x16x128, .f32⟩
  | 110 => ⟨S_, .i32⟩
  | 111 => ⟨S_, .i32⟩
  | 112 => ⟨S1x4x16, .f32⟩
  | 113 => ⟨S4x16, .f32⟩
  | 114 => ⟨S_, .i32⟩
  | 115 => ⟨S_, .i32⟩
  | 116 => ⟨S_, .i32⟩
  | 117 => ⟨S1x4x16x64, .f32⟩
  | 118 => ⟨S4x16x64, .f32⟩
  | 119 => ⟨S_, .i32⟩
  | 120 => ⟨S_, .i32⟩
  | 121 => ⟨S_, .i32⟩
  | 122 => ⟨S1x4x16x64, .f32⟩
  | 123 => ⟨S4x16x64, .f32⟩
  | 124 => ⟨S4x16x1, .f32⟩
  | 125 => ⟨S1x16x64, .f32⟩
  | 126 => ⟨S4x16x64, .f32⟩
  | 127 => ⟨S4x16x64, .f32⟩
  | _ => ⟨S4x2048x1024, .f32⟩

abbrev hbmTy0_1 (i : Nat) : BufTy := match i % 128 with
  | 0 => ⟨S4x16x64, .f32⟩
  | 1 => ⟨S4x16x64, .f32⟩
  | 2 => ⟨S4x16x1x64, .f32⟩
  | 3 => ⟨S4x16x128x64, .f32⟩
  | 4 => ⟨S4x16x128x64, .f32⟩
  | 5 => ⟨S4x16x1x1, .f32⟩
  | 6 => ⟨S4x16x1x64, .f32⟩
  | 7 => ⟨S4x16x1x64, .f32⟩
  | 8 => ⟨S4x16x1x64, .f32⟩
  | 9 => ⟨S4x16x128x1, .f32⟩
  | 10 => ⟨S4x16x128x64, .f32⟩
  | 11 => ⟨S4x16x128x64, .f32⟩
  | 12 => ⟨S4x16x128x64, .f32⟩
  | 13 => ⟨S4x16x128x64, .f32⟩
  | 14 => ⟨S4x16x128, .f32⟩
  | 15 => ⟨S1x16x128, .f32⟩
  | 16 => ⟨S4x16x128, .f32⟩
  | 17 => ⟨S4x16x128, .f32⟩
  | 18 => ⟨S4x16x128, .f32⟩
  | 19 => ⟨S1x4x16x128, .f32⟩
  | 20 => ⟨S_, .i32⟩
  | 21 => ⟨S_, .i32⟩
  | 22 => ⟨S_, .i32⟩
  | 23 => ⟨S2048x4x16x128, .f32⟩
  | 24 => ⟨S_, .i32⟩
  | 25 => ⟨S_, .i32⟩
  | 26 => ⟨S4x2048x16x128, .f32⟩
  | 27 => ⟨S4x2048x2048, .f32⟩
  | 28 => ⟨S1024x2048, .f32⟩
  | 29 => ⟨S4x2048x2048, .f32⟩
  | 30 => ⟨S1024x6208, .f32⟩
  | 31 => ⟨S4x2048x6208, .f32⟩
  | 32 => ⟨S4x2048x2048, .f32⟩
  | 33 => ⟨S4x2048x2048, .f32⟩
  | 34 => ⟨S4x2048x2048, .f32⟩
  | 35 => ⟨S_, .f32⟩
  | 36 => ⟨S4x2048x2048, .f32⟩
  | 37 => ⟨S4x2048x2048, .f32⟩
  | 38 => ⟨S_, .f32⟩
  | 39 => ⟨S4x2048x2048, .f32⟩
  | 40 => ⟨S4x2048x2048, .f32⟩
  | 41 => ⟨S4x2048x2048, .f32⟩
  | 42 => ⟨S4x2048x2048, .f32⟩
  | 43 => ⟨S4x2048x2048, .f32⟩
  | 44 => ⟨S4x2048x2048, .f32⟩
  | 45 => ⟨S_, .f32⟩
  | 46 => ⟨S4x2048, .f32⟩
  | 47 => ⟨S4x2048x1, .f32⟩
  | 48 => ⟨S_, .f32⟩
  | 49 => ⟨S4x2048x1, .f32⟩
  | 50 => ⟨S4x2048x1, .f32⟩
  | 51 => ⟨S_, .f32⟩
  | 52 => ⟨S4x2048x1, .f32⟩
  | 53 => ⟨S4x2048x1, .f32⟩
  | 54 => ⟨S4x2048x1, .f32⟩
  | 55 => ⟨S4x2048x2048, .f32⟩
  | 56 => ⟨S4x2048x2048, .f32⟩
  | 57 => ⟨S1x1x2048, .f32⟩
  | 58 => ⟨S4x2048x2048, .f32⟩
  | 59 => ⟨S4x2048x2048, .f32⟩
  | 60 => ⟨S2048x1024, .f32⟩
  | 61 => ⟨S4x2048x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_call1_cst : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_v46 : Ref sig .tc := ⟨.hbm, 73, rfl⟩
abbrev main_cst_0 : Ref sig .tc := ⟨.hbm, 74, rfl⟩
abbrev main_cst_1 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_2 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_3 : Ref sig .tc := ⟨.hbm, 91, rfl⟩
abbrev main_v56 : Ref sig .tc := ⟨.hbm, 92, rfl⟩
abbrev main_c_4 : Ref sig .tc := ⟨.hbm, 93, rfl⟩
abbrev main_v57_0 : Ref sig .tc := ⟨.hbm, 94, rfl⟩
abbrev main_v57_1 : Ref sig .tc := ⟨.hbm, 95, rfl⟩
abbrev main_v57_2 : Ref sig .tc := ⟨.hbm, 96, rfl⟩
abbrev main_v57_3 : Ref sig .tc := ⟨.hbm, 97, rfl⟩
abbrev main_v57_4 : Ref sig .tc := ⟨.hbm, 98, rfl⟩
abbrev main_v57_5 : Ref sig .tc := ⟨.hbm, 99, rfl⟩
abbrev main_v57_6 : Ref sig .tc := ⟨.hbm, 100, rfl⟩
abbrev main_v57_7 : Ref sig .tc := ⟨.hbm, 101, rfl⟩
abbrev main_v57_8 : Ref sig .tc := ⟨.hbm, 102, rfl⟩
abbrev main_while0c_c_16 : Ref sig .tc := ⟨.hbm, 103, rfl⟩
abbrev main_while0c_v83 : Ref sig .tc := ⟨.hbm, 104, rfl⟩
abbrev main_while0b_call3_c : Ref sig .tc := ⟨.hbm, 105, rfl⟩
abbrev main_while0b_call3_c_0 : Ref sig .tc := ⟨.hbm, 106, rfl⟩
abbrev main_while0b_call3_c_1 : Ref sig .tc := ⟨.hbm, 107, rfl⟩
abbrev main_while0b_call3_v0 : Ref sig .tc := ⟨.hbm, 108, rfl⟩
abbrev main_while0b_v83 : Ref sig .tc := ⟨.hbm, 109, rfl⟩
abbrev main_while0b_call4_c : Ref sig .tc := ⟨.hbm, 110, rfl⟩
abbrev main_while0b_call4_c_0 : Ref sig .tc := ⟨.hbm, 111, rfl⟩
abbrev main_while0b_call4_v0 : Ref sig .tc := ⟨.hbm, 112, rfl⟩
abbrev main_while0b_v84 : Ref sig .tc := ⟨.hbm, 113, rfl⟩
abbrev main_while0b_call5_c : Ref sig .tc := ⟨.hbm, 114, rfl⟩
abbrev main_while0b_call5_c_0 : Ref sig .tc := ⟨.hbm, 115, rfl⟩
abbrev main_while0b_call5_c_1 : Ref sig .tc := ⟨.hbm, 116, rfl⟩
abbrev main_while0b_call5_v0 : Ref sig .tc := ⟨.hbm, 117, rfl⟩
abbrev main_while0b_v85 : Ref sig .tc := ⟨.hbm, 118, rfl⟩
abbrev main_while0b_call6_c : Ref sig .tc := ⟨.hbm, 119, rfl⟩
abbrev main_while0b_call6_c_0 : Ref sig .tc := ⟨.hbm, 120, rfl⟩
abbrev main_while0b_call6_c_1 : Ref sig .tc := ⟨.hbm, 121, rfl⟩
abbrev main_while0b_call6_v0 : Ref sig .tc := ⟨.hbm, 122, rfl⟩
abbrev main_while0b_v86 : Ref sig .tc := ⟨.hbm, 123, rfl⟩
abbrev main_while0b_v87 : Ref sig .tc := ⟨.hbm, 124, rfl⟩
abbrev main_while0b_v88 : Ref sig .tc := ⟨.hbm, 125, rfl⟩
abbrev main_while0b_v89 : Ref sig .tc := ⟨.hbm, 126, rfl⟩
abbrev main_while0b_v90 : Ref sig .tc := ⟨.hbm, 127, rfl⟩
abbrev main_while0b_v91 : Ref sig .tc := ⟨.hbm, 128, rfl⟩
abbrev main_while0b_v92 : Ref sig .tc := ⟨.hbm, 129, rfl⟩
abbrev main_while0b_v93 : Ref sig .tc := ⟨.hbm, 130, rfl⟩
abbrev main_while0b_v94 : Ref sig .tc := ⟨.hbm, 131, rfl⟩
abbrev main_while0b_v95 : Ref sig .tc := ⟨.hbm, 132, rfl⟩
abbrev main_while0b_v96 : Ref sig .tc := ⟨.hbm, 133, rfl⟩
abbrev main_while0b_v97 : Ref sig .tc := ⟨.hbm, 134, rfl⟩
abbrev main_while0b_v98 : Ref sig .tc := ⟨.hbm, 135, rfl⟩
abbrev main_while0b_v99 : Ref sig .tc := ⟨.hbm, 136, rfl⟩
abbrev main_while0b_v100 : Ref sig .tc := ⟨.hbm, 137, rfl⟩
abbrev main_while0b_v101 : Ref sig .tc := ⟨.hbm, 138, rfl⟩
abbrev main_while0b_v102 : Ref sig .tc := ⟨.hbm, 139, rfl⟩
abbrev main_while0b_v103 : Ref sig .tc := ⟨.hbm, 140, rfl⟩
abbrev main_while0b_v104 : Ref sig .tc := ⟨.hbm, 141, rfl⟩
abbrev main_while0b_v105 : Ref sig .tc := ⟨.hbm, 142, rfl⟩
abbrev main_while0b_v106 : Ref sig .tc := ⟨.hbm, 143, rfl⟩
abbrev main_while0b_v107 : Ref sig .tc := ⟨.hbm, 144, rfl⟩
abbrev main_while0b_v108 : Ref sig .tc := ⟨.hbm, 145, rfl⟩
abbrev main_while0b_v109 : Ref sig .tc := ⟨.hbm, 146, rfl⟩
abbrev main_while0b_call7_v0 : Ref sig .tc := ⟨.hbm, 147, rfl⟩
abbrev main_while0b_call7_c : Ref sig .tc := ⟨.hbm, 148, rfl⟩
abbrev main_while0b_call7_c_0 : Ref sig .tc := ⟨.hbm, 149, rfl⟩
abbrev main_while0b_call7_c_1 : Ref sig .tc := ⟨.hbm, 150, rfl⟩
abbrev main_while0b_v110 : Ref sig .tc := ⟨.hbm, 151, rfl⟩
abbrev main_while0b_c_16 : Ref sig .tc := ⟨.hbm, 152, rfl⟩
abbrev main_while0b_v111 : Ref sig .tc := ⟨.hbm, 153, rfl⟩
abbrev main_v58 : Ref sig .tc := ⟨.hbm, 154, rfl⟩
abbrev main_v59 : Ref sig .tc := ⟨.hbm, 155, rfl⟩
abbrev main_v60 : Ref sig .tc := ⟨.hbm, 156, rfl⟩
abbrev main_v61 : Ref sig .tc := ⟨.hbm, 157, rfl⟩
abbrev main_v62 : Ref sig .tc := ⟨.hbm, 158, rfl⟩
abbrev main_v63 : Ref sig .tc := ⟨.hbm, 159, rfl⟩
abbrev main_v64 : Ref sig .tc := ⟨.hbm, 160, rfl⟩
abbrev main_call8_v0 : Ref sig .tc := ⟨.hbm, 161, rfl⟩
abbrev main_call8_v1 : Ref sig .tc := ⟨.hbm, 162, rfl⟩
abbrev main_call8_cst : Ref sig .tc := ⟨.hbm, 163, rfl⟩
abbrev main_call8_v2 : Ref sig .tc := ⟨.hbm, 164, rfl⟩
abbrev main_call8_v3 : Ref sig .tc := ⟨.hbm, 165, rfl⟩
abbrev main_call8_cst_0 : Ref sig .tc := ⟨.hbm, 166, rfl⟩
abbrev main_call8_v4 : Ref sig .tc := ⟨.hbm, 167, rfl⟩
abbrev main_call8_v5 : Ref sig .tc := ⟨.hbm, 168, rfl⟩
abbrev main_v65 : Ref sig .tc := ⟨.hbm, 169, rfl⟩
abbrev main_v66 : Ref sig .tc := ⟨.hbm, 170, rfl⟩
abbrev main_v67 : Ref sig .tc := ⟨.hbm, 171, rfl⟩
abbrev main_v68 : Ref sig .tc := ⟨.hbm, 172, rfl⟩
abbrev main_cst_5 : Ref sig .tc := ⟨.hbm, 173, rfl⟩
abbrev main_v69 : Ref sig .tc := ⟨.hbm, 174, rfl⟩
abbrev main_v70 : Ref sig .tc := ⟨.hbm, 175, rfl⟩
abbrev main_cst_6 : Ref sig .tc := ⟨.hbm, 176, rfl⟩
abbrev main_v71 : Ref sig .tc := ⟨.hbm, 177, rfl⟩
abbrev main_v72 : Ref sig .tc := ⟨.hbm, 178, rfl⟩
abbrev main_cst_7 : Ref sig .tc := ⟨.hbm, 179, rfl⟩
abbrev main_v73 : Ref sig .tc := ⟨.hbm, 180, rfl⟩
abbrev main_v74 : Ref sig .tc := ⟨.hbm, 181, rfl⟩
abbrev main_v75 : Ref sig .tc := ⟨.hbm, 182, rfl⟩
abbrev main_v76 : Ref sig .tc := ⟨.hbm, 183, rfl⟩
abbrev main_v77 : Ref sig .tc := ⟨.hbm, 184, rfl⟩
abbrev main_v78 : Ref sig .tc := ⟨.hbm, 185, rfl⟩
abbrev main_v79 : Ref sig .tc := ⟨.hbm, 186, rfl⟩
abbrev main_v80 : Ref sig .tc := ⟨.hbm, 187, rfl⟩
abbrev main_v81 : Ref sig .tc := ⟨.hbm, 188, rfl⟩
abbrev main_v82 : Ref sig .tc := ⟨.hbm, 189, rfl⟩

abbrev nD : Nat := 1
abbrev τ : Topo := Topo.v7x

variable {F : FTy → Type} [FloatOps F]

abbrev main_while0_count : Scf.Loop 32 := ⟨0#32, 2048#32, 1#32⟩
-- ==== Proof.Same.lean ====
/- The kernel and its ideal reading are one text, so their functions and their mains are the same programs at any float
   values. -/
module

public import proofs.«01_k».proof.Proof.Gen.Kernel
public import proofs.«01_k».proof.Proof.Gen.KernelIdeal

@[expose] public section

set_option maxRecDepth 100000
set_option maxHeartbeats 2000000

noncomputable section

namespace Cert.Frames

open Idealize.ShloMosaic

variable {F : FTy → Type} [FloatOps F]

/-- The two mains are the same program. -/
theorem same_main : @Cert.Kernel.main F _ Cert.Kernel.Gen.facts = @Cert.KernelIdeal.main F _ Cert.KernelIdeal.Gen.facts := rfl

/-- The two kernel functions are the same program at every label. -/
theorem same_defs₀ : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc (funext fun l => funext fun a => ?_)
  match l, a with
  | 0, (t, s) => rfl

/-- The two programs call the same functions. -/
theorem same_defs : @Cert.Kernel.defs F _ Cert.Kernel.Gen.facts = @Cert.KernelIdeal.defs F _ Cert.KernelIdeal.Gen.facts :=
  congrArg (Pipeline.defs (Cert.KernelIdeal.pcfgs (F := F))) same_defs₀

end Cert.Frames

end
-- ==== Proof.Scan.Trip.lean ====
/- One step of the recurrence inside a block of sixteen time steps: the program of a trip of the kernel's counted
   loops with its three offsets named, what it does to the memory, and the contents the trips before the `n`-th
   leave in the two buffers they write. All eight loops of the kernel are this trip at their own offsets. -/
module

public import proofs.«01_k».proof.Proof.Gen.KernelIdeal.Loops
public import Idealize.ShloMosaic.Lib.ValueIdx
public import Idealize.ShloMosaic.Lib.WritesUnit
public import Idealize.ShloMosaic.Lib.Pipeline.FrameBody
public import Idealize.ShloMosaic.Lib.Pipeline.Value

@[expose] public section

set_option maxRecDepth 8192

noncomputable section

namespace Cert.KernelIdeal.Scan

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- Row `n` of a 128 by 1024 array, as a one-row array. -/
def row (a : Vec F S128x1024 .f32) (n : Fin 128) : Vec F S1x1024 .f32 := fun j => a (ix2 n (j 1))
/-- Row `n` of the block of the output matrix C, as a one-row array. -/
def crow (a : Vec F S1x128x1024 .f32) (n : Fin 128) : Vec F S1x1x1024 .f32 := fun j => a (ix3 0 n (j 2))
/-- Slab `t` of the sixteen slabs of the expanded inputs. -/
def slab (a : Vec F S16x128x1024 .f32) (t : Fin 16) : Vec F S1x128x1024 .f32 := fun j => a (ix3 t (j 1) (j 2))
/-- Time step `t` of block `k`, within the chunk of 128 steps. -/
def tm (k : Fin 8) (t : Fin 16) : Fin 128 := ⟨k.val * 16 + t.val, by omega⟩

/-- The state after a step, of the state before it: decay row times state plus input row times expanded input. -/
def stepState (k : Fin 8) (dA Bm : Vec F S128x1024 .f32) (ub : Vec F S16x128x1024 .f32) (t : Fin 16) (s : Vec F S128x1024 .f32) :
    Vec F S128x1024 .f32 := k0_pay21 (row dA (tm k t)) s (row Bm (tm k t)) (slab ub t)

/-- What a step stores of the state: the new state times the row of C. -/
def stepOut (k : Fin 8) (C : Vec F S1x128x1024 .f32) (dA Bm : Vec F S128x1024 .f32) (ub : Vec F S16x128x1024 .f32) (t : Fin 16)
    (s : Vec F S128x1024 .f32) : Vec F S1x128x1024 .f32 :=
  k0_pay22 (row dA (tm k t)) s (row Bm (tm k t)) (slab ub t) (crow C (tm k t))

/-- The state before step `n` of block `k`, from the state `s` the block is entered with. -/
def stateAt (k : Fin 8) (dA Bm : Vec F S128x1024 .f32) (ub : Vec F S16x128x1024 .f32) (s : Vec F S128x1024 .f32) : ℕ → Vec F S128x1024 .f32
  | 0 => s
  | n + 1 => if h : n < 16 then stepState k dA Bm ub ⟨n, h⟩ (stateAt k dA Bm ub s n) else stateAt k dA Bm ub s n

/-- The state after a step of a block. -/
theorem stateAt_succ (k : Fin 8) (dA Bm : Vec F S128x1024 .f32) (ub : Vec F S16x128x1024 .f32) (s : Vec F S128x1024 .f32) (n : ℕ) (h : n < 16) :
    stateAt k dA Bm ub s (n + 1) = stepState k dA Bm ub ⟨n, h⟩ (stateAt k dA Bm ub s n) := by
  rw [stateAt]; exact dif_pos h

/-- The products the steps of block `k` store, as one array of sixteen slabs. -/
def outs (k : Fin 8) (C : Vec F S1x128x1024 .f32) (dA Bm : Vec F S128x1024 .f32) (ub : Vec F S16x128x1024 .f32) (s : Vec F S128x1024 .f32) :
    Vec F S16x128x1024 .f32 := fun i => stepOut k C dA Bm ub (i 0) (stateAt k dA Bm ub s (i 0).val) (ix3 0 (i 1) (i 2))

/-- The sixteen slabs when the first `n` have been stored over `g`. -/
def outsTo (k : Fin 8) (C : Vec F S1x128x1024 .f32) (dA Bm : Vec F S128x1024 .f32) (ub : Vec F S16x128x1024 .f32) (s : Vec F S128x1024 .f32)
    (g : Vec F S16x128x1024 .f32) (n : ℕ) : Vec F S16x128x1024 .f32 := fun i => if (i 0).val < n then outs k C dA Bm ub s i else g i

section Prog
variable (arg6 : Memref sig .tc .vmem S1x128x1024 .f32) (arg16 : Memref sig .tc .vmem S128x1024 .f32) (arg20 : Memref sig .tc .vmem S16x128x1024 .f32)
  (arg21 : Memref sig .tc .vmem S16x128x1024 .f32) (arg22 : Memref sig .tc .vmem S128x1024 .f32) (arg23 : Memref sig .tc .vmem S128x1024 .f32)

/-- The program of one trip, at its offsets. -/
def tripProg (o1 : Fin 2 → ℕ) (h1 : ∀ a, o1 a + S1x1024.size a ≤ S128x1024.size a) (o2 : Fin 3 → ℕ) (h2 : ∀ a, o2 a + S1x128x1024.size a ≤ S16x128x1024.size a)
    (o3 : Fin 3 → ℕ) (h3 : ∀ a, o3 a + S1x1x1024.size a ≤ S1x128x1024.size a) : Prog (TpuEff nD τ sig (Elt F) Λ₀ .tc) Unit := do
  let v262 : Vec F S1x1024 .f32 ← Prog.lift (.load arg22 (Rect.unit (s := S128x1024) o1 S1x1024.size h1).toLoadRect (View.loadsAt_vmem h_S1x1024))
  let v265 : Vec F S128x1024 .f32 ← Prog.lift (.load arg16 (Rect.unit (s := S128x1024) ![0, 0] S128x1024.size inb_S128x1024_S128x1024_0_0).toLoadRect (View.loadsAt_vmem h_S128x1024))
  let v269 : Vec F S1x1024 .f32 ← Prog.lift (.load arg23 (Rect.unit (s := S128x1024) o1 S1x1024.size h1).toLoadRect (View.loadsAt_vmem h_S1x1024))
  let v273 : Vec F S1x128x1024 .f32 ← Prog.lift (.load arg20 (Rect.unit (s := S16x128x1024) o2 S1x128x1024.size h2).toLoadRect (View.loadsAt_vmem h_S1x128x1024))
  let v278 : Vec F S128x1024 .f32 ← Prog.lift (.load arg16 (Rect.unit (s := S128x1024) ![0, 0] S128x1024.size inb_S128x1024_S128x1024_0_0).toLoadRect (View.loadsAt_vmem h_S128x1024))
  Prog.lift (.store arg16 (Rect.unit (s := S128x1024) ![0, 0] S128x1024.size inb_S128x1024_S128x1024_0_0) (k0_pay21 v262 v265 v269 v273) Finset.univ (View.stores_vmem_bits_univ h_S128x1024 rfl) (.inl rfl))
  let v282 : Vec F S1x1x1024 .f32 ← Prog.lift (.load arg6 (Rect.unit (s := S1x128x1024) o3 S1x1x1024.size h3).toLoadRect (View.loadsAt_vmem h_S1x1x1024))
  let v288 : Vec F S1x128x1024 .f32 ← Prog.lift (.load arg21 (Rect.unit (s := S16x128x1024) o2 S1x128x1024.size h2).toLoadRect (View.loadsAt_vmem h_S1x128x1024))
  Prog.lift (.store arg21 (Rect.unit (s := S16x128x1024) o2 S1x128x1024.size h2) (k0_pay22 v262 v265 v269 v273 v282) Finset.univ (View.stores_vmem_bits_univ h_S1x128x1024 rfl) (.inl rfl))
  pure ⟨⟩

/-- The six buffers a trip touches, each at its contents. -/
abbrev Res (c : Dev nD) (X6 : BufTy.Contents (Elt F) arg6.view.ty) (X20 : BufTy.Contents (Elt F) arg20.view.ty) (X22 : BufTy.Contents (Elt F) arg22.view.ty)
    (X23 : BufTy.Contents (Elt F) arg23.view.ty) (f16 : BufTy.Contents (Elt F) arg16.view.ty) (f21 : BufTy.Contents (Elt F) arg21.view.ty) : sProp 𝕄 :=
  iprop((arg6.view.loc (c : Thread nD τ) ↦[arg6.view.set]{fullShare} X6) ∗ (arg20.view.loc (c : Thread nD τ) ↦[arg20.view.set]{fullShare} X20)
    ∗ (arg22.view.loc (c : Thread nD τ) ↦[arg22.view.set]{fullShare} X22) ∗ (arg23.view.loc (c : Thread nD τ) ↦[arg23.view.set]{fullShare} X23)
    ∗ (arg16.view.loc (c : Thread nD τ) ↦[arg16.view.set]{fullShare} f16) ∗ (arg21.view.loc (c : Thread nD τ) ↦[arg21.view.set]{fullShare} f21))

/-- One trip writes the new state over the whole state buffer, and the step's products into their slab. -/
theorem tripProg_run (𝒱 : Variants) (c : Dev nD) (bd : Option 𝒱.V) (E : Set ℕ) (n t : ℕ) (hn : n < 128) (ht : t < 16)
    (h1 : ∀ a, (![n, 0] : Fin 2 → ℕ) a + S1x1024.size a ≤ S128x1024.size a) (h2 : ∀ a, (![t, 0, 0] : Fin 3 → ℕ) a + S1x128x1024.size a ≤ S16x128x1024.size a)
    (h3 : ∀ a, (![0, n, 0] : Fin 3 → ℕ) a + S1x1x1024.size a ≤ S1x128x1024.size a)
    (X6 : BufTy.Contents (Elt F) arg6.view.ty) (X20 : BufTy.Contents (Elt F) arg20.view.ty) (X22 : BufTy.Contents (Elt F) arg22.view.ty)
    (X23 : BufTy.Contents (Elt F) arg23.view.ty) (f16 : BufTy.Contents (Elt F) arg16.view.ty) (f21 : BufTy.Contents (Elt F) arg21.view.ty) :
    Res (F := F) arg6 arg16 arg20 arg21 arg22 arg23 c X6 X20 X22 X23 f16 f21
    ⊢ wp frame (wpE (defs₀ (F := F)) 𝒱 (c : Thread nD τ) bd) E (tripProg (F := F) arg6 arg16 arg20 arg21 arg22 arg23 ![n, 0] h1 ![t, 0, 0] h2 ![0, n, 0] h3)
        (fun _ => Res (F := F) arg6 arg16 arg20 arg21 arg22 arg23 c X6 X20 X22 X23
          (arg16.view.writes (Elt F) f16 [⟨Rect.unit (s := S128x1024) ![0, 0] S128x1024.size inb_S128x1024_S128x1024_0_0,
            k0_pay21 (View.ld (arg22.view.read (Elt F) X22) (Rect.unit (s := S128x1024) ![n, 0] S1x1024.size h1))
              (View.ld (arg16.view.read (Elt F) f16) (Rect.unit (s := S128x1024) ![0, 0] S128x1024.size inb_S128x1024_S128x1024_0_0))
              (View.ld (arg23.view.read (Elt F) X23) (Rect.unit (s := S128x1024) ![n, 0] S1x1024.size h1))
              (View.ld (arg20.view.read (Elt F) X20) (Rect.unit (s := S16x128x1024) ![t, 0, 0] S1x128x1024.size h2))⟩])
          (arg21.view.writes (Elt F) f21 [⟨Rect.unit (s := S16x128x1024) ![t, 0, 0] S1x128x1024.size h2,
            k0_pay22 (View.ld (arg22.view.read (Elt F) X22) (Rect.unit (s := S128x1024) ![n, 0] S1x1024.size h1))
              (View.ld (arg16.view.read (Elt F) f16) (Rect.unit (s := S128x1024) ![0, 0] S128x1024.size inb_S128x1024_S128x1024_0_0))
              (View.ld (arg23.view.read (Elt F) X23) (Rect.unit (s := S128x1024) ![n, 0] S1x1024.size h1))
              (View.ld (arg20.view.read (Elt F) X20) (Rect.unit (s := S16x128x1024) ![t, 0, 0] S1x128x1024.size h2))
              (View.ld (arg6.view.read (Elt F) X6) (Rect.unit (s := S1x128x1024) ![0, n, 0] S1x1x1024.size h3))⟩])) := by
  unfold tripProg
  iintro ⟨HR_arg6, HR_arg20, HR_arg22, HR_arg23, HW_arg16, HW_arg21⟩
  sl_exec
  sl_step
  sl_close

section Reads
variable {F : FTy → Type} [FloatOps F]

/-- Loading one row. -/
theorem ld_row (X : Vec F S128x1024 .f32) (n : ℕ) (hn : n < 128) (h : ∀ a, (![n, 0] : Fin 2 → ℕ) a + S1x1024.size a ≤ S128x1024.size a) :
    View.ld X (Rect.unit (s := S128x1024) ![n, 0] S1x1024.size h) = row X ⟨n, hn⟩ := by
  funext j
  refine congrArg X (funext fun a => Fin.ext ?_)
  have h0 : (j 0).val < 1 := (j 0).isLt
  match a with
  | ⟨0, _⟩ => show n + 1 * (j 0).val = n; omega
  | ⟨1, _⟩ => show 0 + 1 * (j 1).val = (j 1).val; omega

/-- Loading one row of C. -/
theorem ld_crow (X : Vec F S1x128x1024 .f32) (n : ℕ) (hn : n < 128) (h : ∀ a, (![0, n, 0] : Fin 3 → ℕ) a + S1x1x1024.size a ≤ S1x128x1024.size a) :
    View.ld X (Rect.unit (s := S1x128x1024) ![0, n, 0] S1x1x1024.size h) = crow X ⟨n, hn⟩ := by
  funext j
  refine congrArg X (funext fun a => Fin.ext ?_)
  have h0 : (j 0).val < 1 := (j 0).isLt
  have h1 : (j 1).val < 1 := (j 1).isLt
  match a with
  | ⟨0, _⟩ => show 0 + 1 * (j 0).val = 0; omega
  | ⟨1, _⟩ => show n + 1 * (j 1).val = n; omega
  | ⟨2, _⟩ => show 0 + 1 * (j 2).val = (j 2).val; omega

/-- Loading one slab of the expanded inputs. -/
theorem ld_slab (X : Vec F S16x128x1024 .f32) (t : ℕ) (ht : t < 16) (h : ∀ a, (![t, 0, 0] : Fin 3 → ℕ) a + S1x128x1024.size a ≤ S16x128x1024.size a) :
    View.ld X (Rect.unit (s := S16x128x1024) ![t, 0, 0] S1x128x1024.size h) = slab X ⟨t, ht⟩ := by
  funext j
  refine congrArg X (funext fun a => Fin.ext ?_)
  have h0 : (j 0).val < 1 := (j 0).isLt
  match a with
  | ⟨0, _⟩ => show t + 1 * (j 0).val = t; omega
  | ⟨1, _⟩ => show 0 + 1 * (j 1).val = (j 1).val; omega
  | ⟨2, _⟩ => show 0 + 1 * (j 2).val = (j 2).val; omega

/-- Two zero offsets are the zero offset. -/
theorem off2_zero : (![0, 0] : Fin 2 → ℕ) = fun _ => 0 := by funext a; fin_cases a <;> rfl

end Reads

/-- The state buffer's contents before trip `n`: at first what it held, then the state. -/
def c16 (h : arg16.IsWhole) (k : Fin 8) (dA Bm : Vec F S128x1024 .f32) (ub : Vec F S16x128x1024 .f32) (G : BufTy.Contents (Elt F) arg16.view.ty) :
    ℕ → BufTy.Contents (Elt F) arg16.view.ty
  | 0 => G
  | n + 1 => h.unread (stateAt k dA Bm ub (arg16.view.read (Elt F) G) (n + 1))

/-- The products' buffer's contents before trip `n`. -/
def c21 (h : arg21.IsWhole) (k : Fin 8) (C : Vec F S1x128x1024 .f32) (dA Bm : Vec F S128x1024 .f32) (ub : Vec F S16x128x1024 .f32) (s : Vec F S128x1024 .f32)
    (G : BufTy.Contents (Elt F) arg21.view.ty) : ℕ → BufTy.Contents (Elt F) arg21.view.ty
  | 0 => G
  | n + 1 => h.unread (outsTo k C dA Bm ub s (arg21.view.read (Elt F) G) (n + 1))

/-- The state's buffer before a step holds the state. -/
theorem read_c16 (h : arg16.IsWhole) (k : Fin 8) (dA Bm : Vec F S128x1024 .f32) (ub : Vec F S16x128x1024 .f32) (G : BufTy.Contents (Elt F) arg16.view.ty) (n : ℕ) :
    arg16.view.read (Elt F) (c16 arg16 h k dA Bm ub G n) = stateAt k dA Bm ub (arg16.view.read (Elt F) G) n := by
  cases n with
  | zero => rfl
  | succ n => exact h.read_unread _

/-- The products' buffer before a step holds the products so far. -/
theorem read_c21 (h : arg21.IsWhole) (k : Fin 8) (C : Vec F S1x128x1024 .f32) (dA Bm : Vec F S128x1024 .f32) (ub : Vec F S16x128x1024 .f32) (s : Vec F S128x1024 .f32)
    (G : BufTy.Contents (Elt F) arg21.view.ty) (n : ℕ) :
    arg21.view.read (Elt F) (c21 arg21 h k C dA Bm ub s G n) = outsTo k C dA Bm ub s (arg21.view.read (Elt F) G) n := by
  cases n with
  | zero => funext i; exact (if_neg (Nat.not_lt_zero _)).symm
  | succ n => exact h.read_unread _

/-- Storing the state over the whole buffer. -/
theorem write16 (f : BufTy.Contents (Elt F) arg16.view.ty) (w : Vec F S128x1024 .f32) :
    arg16.view.read (Elt F) (arg16.view.writes (Elt F) f [⟨Rect.unit (s := S128x1024) ![0, 0] S128x1024.size inb_S128x1024_S128x1024_0_0, w⟩]) = w := by
  funext y
  exact View.read_writes_cons_unit_of_mem arg16.view f inb_S128x1024_S128x1024_0_0 w [] y y rfl
    (Fin.forall_fin_two.mpr ⟨(Nat.zero_add _).symm, (Nat.zero_add _).symm⟩)

/-- Storing a step's products after those before it. -/
theorem write21 (h : arg21.IsWhole) (k : Fin 8) (C : Vec F S1x128x1024 .f32) (dA Bm : Vec F S128x1024 .f32) (ub : Vec F S16x128x1024 .f32) (s : Vec F S128x1024 .f32)
    (G : BufTy.Contents (Elt F) arg21.view.ty) (t : ℕ) (ht : t < 16) (h2 : ∀ a, (![t, 0, 0] : Fin 3 → ℕ) a + S1x128x1024.size a ≤ S16x128x1024.size a)
    (w : Vec F S1x128x1024 .f32) (hw : w = stepOut k C dA Bm ub ⟨t, ht⟩ (stateAt k dA Bm ub s t)) :
    arg21.view.read (Elt F) (arg21.view.writes (Elt F) (c21 arg21 h k C dA Bm ub s G t) [⟨Rect.unit (s := S16x128x1024) ![t, 0, 0] S1x128x1024.size h2, w⟩])
      = outsTo k C dA Bm ub s (arg21.view.read (Elt F) G) (t + 1) := by
  subst hw
  funext y
  by_cases hy : (y 0).val = t
  · have e0 : y 0 = ⟨t, ht⟩ := Fin.ext hy
    rw [outsTo, if_pos (by omega), outs]
    rw [View.read_writes_cons_unit_of_mem arg21.view _ h2 _ [] y (ix3 0 (y 1) (y 2)) rfl (fun a => by
      match a with
      | ⟨0, _⟩ => exact hy
      | ⟨1, _⟩ => exact (Nat.zero_add _).symm
      | ⟨2, _⟩ => exact (Nat.zero_add _).symm), e0]; rfl
  · rw [View.read_writes_cons_unit_of_not_mem arg21.view _ h2 _ [] y rfl 0 (by
      show (y 0).val < t ∨ t + 1 ≤ (y 0).val
      omega)]
    refine (congrFun (read_c21 arg21 h k C dA Bm ub s G t) y).trans ?_
    simp only [outsTo]
    by_cases hlt : (y 0).val < t
    · rw [if_pos hlt, if_pos (by omega)]
    · rw [if_neg hlt, if_neg (by omega)]

/-- Trip `t` of block `k` carries the contents before it to the contents before the next. -/
theorem tripProg_step (h16 : arg16.IsWhole) (h21 : arg21.IsWhole) (𝒱 : Variants) (c : Dev nD) (bd : Option 𝒱.V) (E : Set ℕ) (k : Fin 8) (t : ℕ) (ht : t < 16)
    {o1 : Fin 2 → ℕ} (e1 : o1 = ![k.val * 16 + t, 0]) {o2 : Fin 3 → ℕ} (e2 : o2 = ![t, 0, 0]) {o3 : Fin 3 → ℕ} (e3 : o3 = ![0, k.val * 16 + t, 0])
    (h1 : ∀ a, o1 a + S1x1024.size a ≤ S128x1024.size a) (h2 : ∀ a, o2 a + S1x128x1024.size a ≤ S16x128x1024.size a)
    (h3 : ∀ a, o3 a + S1x1x1024.size a ≤ S1x128x1024.size a)
    (X6 : BufTy.Contents (Elt F) arg6.view.ty) (X20 : BufTy.Contents (Elt F) arg20.view.ty) (X22 : BufTy.Contents (Elt F) arg22.view.ty)
    (X23 : BufTy.Contents (Elt F) arg23.view.ty) (G16 : BufTy.Contents (Elt F) arg16.view.ty) (G21 : BufTy.Contents (Elt F) arg21.view.ty) :
    Res (F := F) arg6 arg16 arg20 arg21 arg22 arg23 c X6 X20 X22 X23
        (c16 arg16 h16 k (arg22.view.read (Elt F) X22) (arg23.view.read (Elt F) X23) (arg20.view.read (Elt F) X20) G16 t)
        (c21 arg21 h21 k (arg6.view.read (Elt F) X6) (arg22.view.read (Elt F) X22) (arg23.view.read (Elt F) X23) (arg20.view.read (Elt F) X20) (arg16.view.read (Elt F) G16) G21 t)
    ⊢ wp frame (wpE (defs₀ (F := F)) 𝒱 (c : Thread nD τ) bd) E (tripProg (F := F) arg6 arg16 arg20 arg21 arg22 arg23 o1 h1 o2 h2 o3 h3)
        (fun _ => Res (F := F) arg6 arg16 arg20 arg21 arg22 arg23 c X6 X20 X22 X23
        (c16 arg16 h16 k (arg22.view.read (Elt F) X22) (arg23.view.read (Elt F) X23) (arg20.view.read (Elt F) X20) G16 (t + 1))
        (c21 arg21 h21 k (arg6.view.read (Elt F) X6) (arg22.view.read (Elt F) X22) (arg23.view.read (Elt F) X23) (arg20.view.read (Elt F) X20) (arg16.view.read (Elt F) G16) G21 (t + 1))) := by
  subst e1 e2 e3
  have hn : k.val * 16 + t < 128 := by have := k.isLt; omega
  have key := tripProg_run (F := F) arg6 arg16 arg20 arg21 arg22 arg23 𝒱 c bd E _ t hn ht h1 h2 h3 X6 X20 X22 X23
    (c16 arg16 h16 k (arg22.view.read (Elt F) X22) (arg23.view.read (Elt F) X23) (arg20.view.read (Elt F) X20) G16 t)
    (c21 arg21 h21 k (arg6.view.read (Elt F) X6) (arg22.view.read (Elt F) X22) (arg23.view.read (Elt F) X23) (arg20.view.read (Elt F) X20) (arg16.view.read (Elt F) G16) G21 t)
  rw [ld_row _ _ hn, ld_row _ _ hn, ld_slab _ _ ht, ld_crow _ _ hn, View.ld_unit_zero off2_zero, read_c16] at key
  rw [h16.eq_unread (write16 arg16 _ _), h21.eq_unread (write21 arg21 h21 k (arg6.view.read (Elt F) X6) (arg22.view.read (Elt F) X22)
    (arg23.view.read (Elt F) X23) (arg20.view.read (Elt F) X20) (arg16.view.read (Elt F) G16) G21 t ht h2 _ ?_)] at key
  · rw [c16, stateAt_succ _ _ _ _ _ _ ht, c21]; exact key
  · rfl

end Prog

end Cert.KernelIdeal.Scan
-- ==== Proof.Scan.Loops.lean ====
/- The kernel's eight counted loops, block by block of sixteen time steps: each is the same trip at its own rows, and
   before trip `n` the two buffers it writes hold what `n` steps of the recurrence leave. -/
module

public import proofs.«01_k».proof.Proof.Scan.Trip

@[expose] public section

set_option maxRecDepth 8192

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

section Generic
variable (arg6 : Memref sig .tc .vmem S1x128x1024 .f32) (arg16 : Memref sig .tc .vmem S128x1024 .f32) (arg20 : Memref sig .tc .vmem S16x128x1024 .f32)
  (arg21 : Memref sig .tc .vmem S16x128x1024 .f32) (arg22 : Memref sig .tc .vmem S128x1024 .f32) (arg23 : Memref sig .tc .vmem S128x1024 .f32)

/-- Before trip `n`: what is read is as it was, the state and the products are what `n` steps leave. -/
abbrev Inv (h16 : arg16.IsWhole) (h21 : arg21.IsWhole) (k : Fin 8) (c : Dev nD)
    (X6 : BufTy.Contents (Elt F) arg6.view.ty) (X20 : BufTy.Contents (Elt F) arg20.view.ty) (X22 : BufTy.Contents (Elt F) arg22.view.ty)
    (X23 : BufTy.Contents (Elt F) arg23.view.ty) (G16 : BufTy.Contents (Elt F) arg16.view.ty) (G21 : BufTy.Contents (Elt F) arg21.view.ty) (n : ℕ) : sProp 𝕄 :=
  iprop((arg6.view.loc (c : Thread nD τ) ↦[arg6.view.set]{fullShare} X6) ∗ (arg20.view.loc (c : Thread nD τ) ↦[arg20.view.set]{fullShare} X20)
    ∗ (arg22.view.loc (c : Thread nD τ) ↦[arg22.view.set]{fullShare} X22) ∗ (arg23.view.loc (c : Thread nD τ) ↦[arg23.view.set]{fullShare} X23)
    ∗ (∃ f, (arg16.view.loc (c : Thread nD τ) ↦[arg16.view.set]{fullShare} f)
        ∗ ⌜f = c16 arg16 h16 k (arg22.view.read (Elt F) X22) (arg23.view.read (Elt F) X23) (arg20.view.read (Elt F) X20) G16 n⌝)
    ∗ (∃ f, (arg21.view.loc (c : Thread nD τ) ↦[arg21.view.set]{fullShare} f)
        ∗ ⌜f = c21 arg21 h21 k (arg6.view.read (Elt F) X6) (arg22.view.read (Elt F) X22) (arg23.view.read (Elt F) X23) (arg20.view.read (Elt F) X20)
            (arg16.view.read (Elt F) G16) G21 n⌝))

/-- A trip carries the invariant on. -/
theorem trip (h16 : arg16.IsWhole) (h21 : arg21.IsWhole) (𝒱 : Variants) (c : Dev nD) (bd : Option 𝒱.V) (E : Set ℕ) (k : Fin 8) (t : ℕ) (ht : t < 16)
    {o1 : Fin 2 → ℕ} (e1 : o1 = ![k.val * 16 + t, 0]) {o2 : Fin 3 → ℕ} (e2 : o2 = ![t, 0, 0]) {o3 : Fin 3 → ℕ} (e3 : o3 = ![0, k.val * 16 + t, 0])
    (h1 : ∀ a, o1 a + S1x1024.size a ≤ S128x1024.size a) (h2 : ∀ a, o2 a + S1x128x1024.size a ≤ S16x128x1024.size a)
    (h3 : ∀ a, o3 a + S1x1x1024.size a ≤ S1x128x1024.size a)
    (X6 : BufTy.Contents (Elt F) arg6.view.ty) (X20 : BufTy.Contents (Elt F) arg20.view.ty) (X22 : BufTy.Contents (Elt F) arg22.view.ty)
    (X23 : BufTy.Contents (Elt F) arg23.view.ty) (G16 : BufTy.Contents (Elt F) arg16.view.ty) (G21 : BufTy.Contents (Elt F) arg21.view.ty) :
    Inv (F := F) arg6 arg16 arg20 arg21 arg22 arg23 h16 h21 k c X6 X20 X22 X23 G16 G21 t
    ⊢ wp frame (wpE (defs₀ (F := F)) 𝒱 (c : Thread nD τ) bd) E (tripProg (F := F) arg6 arg16 arg20 arg21 arg22 arg23 o1 h1 o2 h2 o3 h3)
        (fun _ => Inv (F := F) arg6 arg16 arg20 arg21 arg22 arg23 h16 h21 k c X6 X20 X22 X23 G16 G21 (t + 1)) := by
  iintro ⟨HR6, HR20, HR22, HR23, ⟨%f16, HW16, %e16⟩, ⟨%f21, HW21, %e21⟩⟩
  subst e16 e21
  iapply (wp_wand_r Idealize.ShloMosaic.frame (wpE (defs₀ (F := F)) 𝒱 (c : Thread nD τ) bd) E)
  isplitl [HR6 HR20 HR22 HR23 HW16 HW21]
  · iapply (tripProg_step (F := F) arg6 arg16 arg20 arg21 arg22 arg23 h16 h21 𝒱 c bd E k t ht e1 e2 e3 h1 h2 h3 X6 X20 X22 X23 G16 G21)
    isplitl [HR6]; · iexact HR6
    isplitl [HR20]; · iexact HR20
    isplitl [HR22]; · iexact HR22
    isplitl [HR23]; · iexact HR23
    isplitl [HW16]; · iexact HW16
    iexact HW21
  · iintro %_ ⟨HR6, HR20, HR22, HR23, HW16, HW21⟩
    isplitl [HR6]; · iexact HR6
    isplitl [HR20]; · iexact HR20
    isplitl [HR22]; · iexact HR22
    isplitl [HR23]; · iexact HR23
    isplitl [HW16]
    · iexists _; isplitl [HW16]; · iexact HW16
      ipureintro; rfl
    iexists _; isplitl [HW21]; · iexact HW21
    ipureintro; rfl

/-- The row a trip of block `k` reads, with the sum the other way round. -/
theorem off_row (a b : ℕ) {k : ℕ} (h : b = k * 16) : (![a + b, 0] : Fin 2 → ℕ) = ![k * 16 + a, 0] := by rw [h, Nat.add_comm]
/-- The offset of a row of C, from the step's number in its block. -/
theorem off_crow (a b : ℕ) {k : ℕ} (h : b = k * 16) : (![0, a + b, 0] : Fin 3 → ℕ) = ![0, k * 16 + a, 0] := by rw [h, Nat.add_comm]

end Generic

variable (arg2 : Memref sig .tc .vmem S1x128x2048 .f32) (harg2 : arg2.IsWhole) (arg3 : Memref sig .tc .vmem S1x128x2048 .f32) (harg3 : arg3.IsWhole) (arg4 : Memref sig .tc .vmem S1x128x1024 .f32) (harg4 : arg4.IsWhole)
  (arg5 : Memref sig .tc .vmem S1x128x1024 .f32) (harg5 : arg5.IsWhole) (arg6 : Memref sig .tc .vmem S1x128x1024 .f32) (harg6 : arg6.IsWhole) (arg7 : Memref sig .tc .vmem S1x128x2048 .f32) (harg7 : arg7.IsWhole)
  (arg8 : Memref sig .tc .vmem S1x1024 .f32) (harg8 : arg8.IsWhole) (arg9 : Memref sig .tc .vmem S128x16 .f32) (harg9 : arg9.IsWhole) (arg10 : Memref sig .tc .vmem S4x2048 .f32) (harg10 : arg10.IsWhole)
  (arg11 : Memref sig .tc .vmem S1x2048 .f32) (harg11 : arg11.IsWhole) (arg12 : Memref sig .tc .vmem S1x2048 .f32) (harg12 : arg12.IsWhole) (arg13 : Memref sig .tc .vmem S16x1024 .f32) (harg13 : arg13.IsWhole)
  (arg14 : Memref sig .tc .vmem S1024x16 .f32) (harg14 : arg14.IsWhole) (arg15 : Memref sig .tc .vmem S1x128x2048 .f32) (harg15 : arg15.IsWhole) (arg16 : Memref sig .tc .vmem S128x1024 .f32) (harg16 : arg16.IsWhole)
  (arg17 : Memref sig .tc .vmem S8x2048 .f32) (harg17 : arg17.IsWhole) (arg18 : Memref sig .tc .vmem S136x2048 .f32) (harg18 : arg18.IsWhole) (arg19 : Memref sig .tc .vmem S8x16x128x16 .f32) (harg19 : arg19.IsWhole)
  (arg20 : Memref sig .tc .vmem S16x128x1024 .f32) (harg20 : arg20.IsWhole) (arg21 : Memref sig .tc .vmem S16x128x1024 .f32) (harg21 : arg21.IsWhole) (arg22 : Memref sig .tc .vmem S128x1024 .f32) (harg22 : arg22.IsWhole)
  (arg23 : Memref sig .tc .vmem S128x1024 .f32) (harg23 : arg23.IsWhole) (arg24 : Memref sig .tc .vmem S8x16x128x16 .f32) (harg24 : arg24.IsWhole)

set_option warn.classDefReducibility false in
/-- Block 0: the kernel's loop `k0_t1_loop`. -/
@[sl_loop] def loop1 (𝒱 : Variants) (c : Dev nD) (bd : Option 𝒱.V) (E : Set ℕ) (i : grid0.Coords) (v63 : FVec F S128x1024 .f32) (v64 : Vec F S128x1024 .f32)
    (X6 : BufTy.Contents (Elt F) arg6.view.ty) (X20 : BufTy.Contents (Elt F) arg20.view.ty) (X22 : BufTy.Contents (Elt F) arg22.view.ty)
    (X23 : BufTy.Contents (Elt F) arg23.view.ty) (G16 : BufTy.Contents (Elt F) arg16.view.ty) (G21 : BufTy.Contents (Elt F) arg21.view.ty) :
    Gen.LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v63 v64 where
  inv n _ := Inv arg6 arg16 arg20 arg21 arg22 arg23 harg16 harg21 0 c X6 X20 X22 X23 G16 G21 n
  step k _ := trip arg6 arg16 arg20 arg21 arg22 arg23 harg16 harg21 𝒱 c bd E 0 k.val (lt_of_lt_of_le k.isLt k0_t1_abs.2.1)
    ((k0_off1_eq k).trans (off_row _ 0 rfl)) (k0_off2_eq k) ((k0_off3_eq k).trans (off_crow _ 0 rfl)) (k0_off1_inb k) (k0_off2_inb k) (k0_off3_inb k) X6 X20 X22 X23 G16 G21

set_option warn.classDefReducibility false in
/-- Block 1: the kernel's loop `k0_t2_loop`. -/
@[sl_loop] def loop2 (𝒱 : Variants) (c : Dev nD) (bd : Option 𝒱.V) (E : Set ℕ) (i : grid0.Coords) (v68 : FVec F S128x16 .f32) (v70 : FVec F S16x1024 .f32) (v72 : FVec F S1024x16 .f32)
    (X6 : BufTy.Contents (Elt F) arg6.view.ty) (X20 : BufTy.Contents (Elt F) arg20.view.ty) (X22 : BufTy.Contents (Elt F) arg22.view.ty)
    (X23 : BufTy.Contents (Elt F) arg23.view.ty) (G16 : BufTy.Contents (Elt F) arg16.view.ty) (G21 : BufTy.Contents (Elt F) arg21.view.ty) :
    Gen.LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v68 v70 v72 where
  inv n _ := Inv arg6 arg16 arg20 arg21 arg22 arg23 harg16 harg21 1 c X6 X20 X22 X23 G16 G21 n
  step k _ := trip arg6 arg16 arg20 arg21 arg22 arg23 harg16 harg21 𝒱 c bd E 1 k.val (lt_of_lt_of_le k.isLt k0_t2_abs.2.1)
    ((k0_off4_eq k).trans (off_row _ _ rfl)) (k0_off5_eq k) ((k0_off6_eq k).trans (off_crow _ _ rfl)) (k0_off4_inb k) (k0_off5_inb k) (k0_off6_inb k) X6 X20 X22 X23 G16 G21

set_option warn.classDefReducibility false in
/-- Block 2: the kernel's loop `k0_t3_loop`. -/
@[sl_loop] def loop3 (𝒱 : Variants) (c : Dev nD) (bd : Option 𝒱.V) (E : Set ℕ) (i : grid0.Coords) (v68 : FVec F S128x16 .f32) (v70 : FVec F S16x1024 .f32) (v72 : FVec F S1024x16 .f32) (v114 : FVec F S16x128x16 .f32) (c0_i32_89 : BitVec 32) (c16_i32_90 : BitVec 32)
    (X6 : BufTy.Contents (Elt F) arg6.view.ty) (X20 : BufTy.Contents (Elt F) arg20.view.ty) (X22 : BufTy.Contents (Elt F) arg22.view.ty)
    (X23 : BufTy.Contents (Elt F) arg23.view.ty) (G16 : BufTy.Contents (Elt F) arg16.view.ty) (G21 : BufTy.Contents (Elt F) arg21.view.ty) :
    Gen.LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v68 v70 v72 v114 c0_i32_89 c16_i32_90 where
  inv n _ := Inv arg6 arg16 arg20 arg21 arg22 arg23 harg16 harg21 2 c X6 X20 X22 X23 G16 G21 n
  step k _ := trip arg6 arg16 arg20 arg21 arg22 arg23 harg16 harg21 𝒱 c bd E 2 k.val (lt_of_lt_of_le k.isLt k0_t3_abs.2.1)
    ((k0_off7_eq k).trans (off_row _ _ rfl)) (k0_off8_eq k) ((k0_off9_eq k).trans (off_crow _ _ rfl)) (k0_off7_inb k) (k0_off8_inb k) (k0_off9_inb k) X6 X20 X22 X23 G16 G21

set_option warn.classDefReducibility false in
/-- Block 3: the kernel's loop `k0_t4_loop`. -/
@[sl_loop] def loop4 (𝒱 : Variants) (c : Dev nD) (bd : Option 𝒱.V) (E : Set ℕ) (i : grid0.Coords) (v68 : FVec F S128x16 .f32) (v70 : FVec F S16x1024 .f32) (v72 : FVec F S1024x16 .f32) (v114 : FVec F S16x128x16 .f32) (c0_i32_89 : BitVec 32) (c16_i32_90 : BitVec 32)
    (X6 : BufTy.Contents (Elt F) arg6.view.ty) (X20 : BufTy.Contents (Elt F) arg20.view.ty) (X22 : BufTy.Contents (Elt F) arg22.view.ty)
    (X23 : BufTy.Contents (Elt F) arg23.view.ty) (G16 : BufTy.Contents (Elt F) arg16.view.ty) (G21 : BufTy.Contents (Elt F) arg21.view.ty) :
    Gen.LoopInvTy_k0_t4 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v68 v70 v72 v114 c0_i32_89 c16_i32_90 where
  inv n _ := Inv arg6 arg16 arg20 arg21 arg22 arg23 harg16 harg21 3 c X6 X20 X22 X23 G16 G21 n
  step k _ := trip arg6 arg16 arg20 arg21 arg22 arg23 harg16 harg21 𝒱 c bd E 3 k.val (lt_of_lt_of_le k.isLt k0_t4_abs.2.1)
    ((k0_off10_eq k).trans (off_row _ _ rfl)) (k0_off11_eq k) ((k0_off12_eq k).trans (off_crow _ _ rfl)) (k0_off10_inb k) (k0_off11_inb k) (k0_off12_inb k) X6 X20 X22 X23 G16 G21

set_option warn.classDefReducibility false in
/-- Block 4: the kernel's loop `k0_t5_loop`. -/
@[sl_loop] def loop5 (𝒱 : Variants) (c : Dev nD) (bd : Option 𝒱.V) (E : Set ℕ) (i : grid0.Coords) (v68 : FVec F S128x16 .f32) (v70 : FVec F S16x1024 .f32) (v72 : FVec F S1024x16 .f32) (v149 : FVec F S16x128x16 .f32)
    (X6 : BufTy.Contents (Elt F) arg6.view.ty) (X20 : BufTy.Contents (Elt F) arg20.view.ty) (X22 : BufTy.Contents (Elt F) arg22.view.ty)
    (X23 : BufTy.Contents (Elt F) arg23.view.ty) (G16 : BufTy.Contents (Elt F) arg16.view.ty) (G21 : BufTy.Contents (Elt F) arg21.view.ty) :
    Gen.LoopInvTy_k0_t5 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v68 v70 v72 v149 where
  inv n _ := Inv arg6 arg16 arg20 arg21 arg22 arg23 harg16 harg21 4 c X6 X20 X22 X23 G16 G21 n
  step k _ := trip arg6 arg16 arg20 arg21 arg22 arg23 harg16 harg21 𝒱 c bd E 4 k.val (lt_of_lt_of_le k.isLt k0_t5_abs.2.1)
    ((k0_off13_eq k).trans (off_row _ _ rfl)) (k0_off14_eq k) ((k0_off15_eq k).trans (off_crow _ _ rfl)) (k0_off13_inb k) (k0_off14_inb k) (k0_off15_inb k) X6 X20 X22 X23 G16 G21

set_option warn.classDefReducibility false in
/-- Block 5: the kernel's loop `k0_t6_loop`. -/
@[sl_loop] def loop6 (𝒱 : Variants) (c : Dev nD) (bd : Option 𝒱.V) (E : Set ℕ) (i : grid0.Coords) (v68 : FVec F S128x16 .f32) (v70 : FVec F S16x1024 .f32) (v72 : FVec F S1024x16 .f32) (v174 : FVec F S16x128x16 .f32) (v177 : FVec F S16x128x1024 .f32)
    (X6 : BufTy.Contents (Elt F) arg6.view.ty) (X20 : BufTy.Contents (Elt F) arg20.view.ty) (X22 : BufTy.Contents (Elt F) arg22.view.ty)
    (X23 : BufTy.Contents (Elt F) arg23.view.ty) (G16 : BufTy.Contents (Elt F) arg16.view.ty) (G21 : BufTy.Contents (Elt F) arg21.view.ty) :
    Gen.LoopInvTy_k0_t6 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v68 v70 v72 v174 v177 where
  inv n _ := Inv arg6 arg16 arg20 arg21 arg22 arg23 harg16 harg21 5 c X6 X20 X22 X23 G16 G21 n
  step k _ := trip arg6 arg16 arg20 arg21 arg22 arg23 harg16 harg21 𝒱 c bd E 5 k.val (lt_of_lt_of_le k.isLt k0_t6_abs.2.1)
    ((k0_off16_eq k).trans (off_row _ _ rfl)) (k0_off17_eq k) ((k0_off18_eq k).trans (off_crow _ _ rfl)) (k0_off16_inb k) (k0_off17_inb k) (k0_off18_inb k) X6 X20 X22 X23 G16 G21

set_option warn.classDefReducibility false in
/-- Block 6: the kernel's loop `k0_t7_loop`. -/
@[sl_loop] def loop7 (𝒱 : Variants) (c : Dev nD) (bd : Option 𝒱.V) (E : Set ℕ) (i : grid0.Coords) (v68 : FVec F S128x16 .f32) (v70 : FVec F S16x1024 .f32) (v72 : FVec F S1024x16 .f32) (v174 : FVec F S16x128x16 .f32) (v177 : FVec F S16x128x1024 .f32)
    (X6 : BufTy.Contents (Elt F) arg6.view.ty) (X20 : BufTy.Contents (Elt F) arg20.view.ty) (X22 : BufTy.Contents (Elt F) arg22.view.ty)
    (X23 : BufTy.Contents (Elt F) arg23.view.ty) (G16 : BufTy.Contents (Elt F) arg16.view.ty) (G21 : BufTy.Contents (Elt F) arg21.view.ty) :
    Gen.LoopInvTy_k0_t7 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v68 v70 v72 v174 v177 where
  inv n _ := Inv arg6 arg16 arg20 arg21 arg22 arg23 harg16 harg21 6 c X6 X20 X22 X23 G16 G21 n
  step k _ := trip arg6 arg16 arg20 arg21 arg22 arg23 harg16 harg21 𝒱 c bd E 6 k.val (lt_of_lt_of_le k.isLt k0_t7_abs.2.1)
    ((k0_off19_eq k).trans (off_row _ _ rfl)) (k0_off20_eq k) ((k0_off21_eq k).trans (off_crow _ _ rfl)) (k0_off19_inb k) (k0_off20_inb k) (k0_off21_inb k) X6 X20 X22 X23 G16 G21

set_option warn.classDefReducibility false in
/-- Block 7: the kernel's loop `k0_t8_loop`. -/
@[sl_loop] def loop8 (𝒱 : Variants) (c : Dev nD) (bd : Option 𝒱.V) (E : Set ℕ) (i : grid0.Coords) (v68 : FVec F S128x16 .f32) (v70 : FVec F S16x1024 .f32) (v72 : FVec F S1024x16 .f32) (v194 : FVec F S16x128x16 .f32) (v202 : Vec F S16x128x1024 .f32)
    (X6 : BufTy.Contents (Elt F) arg6.view.ty) (X20 : BufTy.Contents (Elt F) arg20.view.ty) (X22 : BufTy.Contents (Elt F) arg22.view.ty)
    (X23 : BufTy.Contents (Elt F) arg23.view.ty) (G16 : BufTy.Contents (Elt F) arg16.view.ty) (G21 : BufTy.Contents (Elt F) arg21.view.ty) :
    Gen.LoopInvTy_k0_t8 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v68 v70 v72 v194 v202 where
  inv n _ := Inv arg6 arg16 arg20 arg21 arg22 arg23 harg16 harg21 7 c X6 X20 X22 X23 G16 G21 n
  step k _ := trip arg6 arg16 arg20 arg21 arg22 arg23 harg16 harg21 𝒱 c bd E 7 k.val (lt_of_lt_of_le k.isLt k0_t8_abs.2.1)
    ((k0_off22_eq k).trans (off_row _ _ rfl)) (k0_off23_eq k) ((k0_off24_eq k).trans (off_crow _ _ rfl)) (k0_off22_inb k) (k0_off23_inb k) (k0_off24_inb k) X6 X20 X22 X23 G16 G21

end Cert.KernelIdeal.Scan
-- ==== Proof.Scan.Chunk.lean ====
/- What one grid point computes, of its blocks `x`, the tail `T` of the chunk before (its last eight rows) and the state
   `S` the chunk before left: the chunk's convolved inputs, the eight blocks of sixteen steps, the rows they give, and
   the block of the output. Stated with the kernel's own payloads, at any float values. -/
module

public import proofs.«01_k».proof.Proof.Scan.Loops

@[expose] public section

set_option maxRecDepth 16384

noncomputable section

namespace Cert.KernelIdeal.Scan

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The thirteen input blocks of a grid point. -/
structure Chunk (F : FTy → Type) where
  z : Vec F S1x128x2048 .f32
  u : Vec F S1x128x2048 .f32
  dtE : Vec F S1x128x1024 .f32
  B : Vec F S1x128x1024 .f32
  C : Vec F S1x128x1024 .f32
  r : Vec F S1x128x2048 .f32
  Af : Vec F S1x1024 .f32
  Dt : Vec F S128x16 .f32
  cw : Vec F S4x2048 .f32
  cb : Vec F S1x2048 .f32
  nw : Vec F S1x2048 .f32
  E : Vec F S16x1024 .f32
  K : Vec F S1024x16 .f32

namespace Chunk
variable (x : Chunk F) (T : Vec F S8x2048 .f32) (S : Vec F S128x1024 .f32)

/-- The chunk's inputs after the last eight rows of the chunk before. -/
def ext : Vec F S136x2048 .f32 := fun i =>
  if h : (i 0).val < 8 then k0_pay5 T (ix2 ⟨(i 0).val, h⟩ (i 1)) else k0_pay6 x.u (ix2 ⟨(i 0).val - 8, by have := (i 0).isLt; change _ < 136 at this; omega⟩ (i 1))

/-- The 128 rows of `ext` from row `o` on. -/
def rows (o : ℕ) (ho : o ≤ 8) : Vec F S128x2048 .f32 := fun i => x.ext T (ix2 ⟨o + (i 0).val, by have := (i 0).isLt; change _ < 128 at this; omega⟩ (i 1))

/-- Row `n` of the convolution's weights. -/
def cwRow (n : Fin 4) : Vec F S1x2048 .f32 := fun i => x.cw (ix2 n (i 1))

/-- The convolved inputs, in eight blocks of sixteen steps. -/
def conv : Vec F S8x16x128x16 .f32 :=
  k0_pay10 (k0_pay8 x.cb (x.cwRow 0) (x.rows T 5 (by decide))) (x.rows T 6 (by decide)) (k0_pay9 (x.cwRow 1)) (x.cwRow 2) (x.rows T 7 (by decide))
    (x.cwRow 3) (x.rows T 8 (by decide))

/-- The steps' decay rows. -/
def dA : Vec F S128x1024 .f32 := k0_pay12 x.dtE x.Af
/-- The steps' input rows. -/
def Bm : Vec F S128x1024 .f32 := k0_pay14 (k0_pay13 x.dtE x.B)

/-- Block `k` of the convolved inputs. -/
def us (k : Fin 8) : Vec F S1x16x128x16 .f32 := fun j => x.conv T (ix4 k (j 1) (j 2) (j 3))
/-- Block `k` of the convolved inputs, expanded over the heads' state dimensions. -/
def ub (k : Fin 8) : Vec F S16x128x1024 .f32 := k0_pay19 x.E (x.us T k)

/-- The state after `n` blocks. -/
def st : ℕ → Vec F S128x1024 .f32
  | 0 => S
  | n + 1 => if h : n < 8 then stateAt ⟨n, h⟩ x.dA x.Bm (x.ub T ⟨n, h⟩) (st n) 16 else st n

/-- The state after block `k` is sixteen steps from the state before it. -/
theorem st_succ (k : Fin 8) : x.st T S (k.val + 1) = stateAt k x.dA x.Bm (x.ub T k) (x.st T S k.val) 16 := by
  rw [st]; exact dif_pos k.isLt

/-- The products block `k` stores. -/
def prod (k : Fin 8) : Vec F S16x128x1024 .f32 := outs k x.C x.dA x.Bm (x.ub T k) (x.st T S k.val)

/-- The rows block `k` gives. -/
def y (k : Fin 8) : Vec F S1x16x128x16 .f32 := k0_pay23 x.Dt x.K (x.us T k) (x.prod T S k)

/-- The rows' buffer when the first `n` blocks' have been stored over `g`. -/
def yTo (g : Vec F S8x16x128x16 .f32) (n : ℕ) : Vec F S8x16x128x16 .f32 := fun i =>
  if (i 0).val < n then x.y T S (i 0) (ix4 0 (i 1) (i 2) (i 3)) else g i

/-- All the chunk's rows. -/
def ys : Vec F S8x16x128x16 .f32 := fun i => x.y T S (i 0) (ix4 0 (i 1) (i 2) (i 3))

/-- When all eight blocks have been stored, the buffer holds all the rows. -/
theorem yTo_eight (g : Vec F S8x16x128x16 .f32) : x.yTo T S g 8 = x.ys T S := by
  funext i; exact if_pos (i 0).isLt

/-- Before any block has been stored, the buffer holds what it held. -/
theorem yTo_zero (g : Vec F S8x16x128x16 .f32) : x.yTo T S g 0 = g := by
  funext i; exact if_neg (Nat.not_lt_zero _)

/-- The block of the output. -/
def out : Vec F S1x128x2048 .f32 := k0_pay1 (x.ys T S) x.z x.r x.nw

/-- The tail the chunk leaves: its own last eight rows. -/
def tail : Vec F S8x2048 .f32 := k0_pay7 x.u

end Chunk

/-! Each loop makes sixteen trips. -/
theorem trips1 : Scf.trips k0_t1_loop.lb k0_t1_loop.ub k0_t1_loop.st = 16 := by decide +kernel
/-- Loop 2 makes sixteen trips. -/
theorem trips2 : Scf.trips k0_t2_loop.lb k0_t2_loop.ub k0_t2_loop.st = 16 := by decide +kernel
/-- Loop 3 makes sixteen trips. -/
theorem trips3 : Scf.trips k0_t3_loop.lb k0_t3_loop.ub k0_t3_loop.st = 16 := by decide +kernel
/-- Loop 4 makes sixteen trips. -/
theorem trips4 : Scf.trips k0_t4_loop.lb k0_t4_loop.ub k0_t4_loop.st = 16 := by decide +kernel
/-- Loop 5 makes sixteen trips. -/
theorem trips5 : Scf.trips k0_t5_loop.lb k0_t5_loop.ub k0_t5_loop.st = 16 := by decide +kernel
/-- Loop 6 makes sixteen trips. -/
theorem trips6 : Scf.trips k0_t6_loop.lb k0_t6_loop.ub k0_t6_loop.st = 16 := by decide +kernel
/-- Loop 7 makes sixteen trips. -/
theorem trips7 : Scf.trips k0_t7_loop.lb k0_t7_loop.ub k0_t7_loop.st = 16 := by decide +kernel
/-- Loop 8 makes sixteen trips. -/
theorem trips8 : Scf.trips k0_t8_loop.lb k0_t8_loop.ub k0_t8_loop.st = 16 := by decide +kernel

/-- When all sixteen steps have been stored, the buffer holds all the products. -/
theorem outsTo_sixteen (k : Fin 8) (C : Vec F S1x128x1024 .f32) (dA Bm : Vec F S128x1024 .f32) (ub : Vec F S16x128x1024 .f32) (s : Vec F S128x1024 .f32)
    (g : Vec F S16x128x1024 .f32) : outsTo k C dA Bm ub s g 16 = outs k C dA Bm ub s := by
  funext i; exact if_pos (i 0).isLt

section Writes
variable (arg19 arg24 : Memref sig .tc .vmem S8x16x128x16 .f32) (arg20 : Memref sig .tc .vmem S16x128x1024 .f32)

/-- Three zero offsets are the zero offset. -/
theorem off3_zero : (![0, 0, 0] : Fin 3 → ℕ) = fun _ => 0 := by funext a; fin_cases a <;> rfl
/-- Four zero offsets are the zero offset. -/
theorem off4_zero : (![0, 0, 0, 0] : Fin 4 → ℕ) = fun _ => 0 := by funext a; fin_cases a <;> rfl

/-- A write over a whole buffer is what is read back. -/
theorem write_whole {s : Shape} (M : Memref sig .tc .vmem s .f32) (f : BufTy.Contents (Elt F) M.view.ty) {off : Fin s.rank → ℕ} (h : off = fun _ => 0)
    (hb : ∀ a, off a + s.size a ≤ s.size a) (w : Vec F s .f32)
    {L : List (View.Piece (Elt F) s .f32)} :
    M.view.read (Elt F) (M.view.writes (Elt F) f (⟨Rect.unit (s := s) off s.size hb, w⟩ :: L)) = w := by
  funext j
  exact View.read_writes_cons_unit_of_mem M.view f hb w L j j h (fun a => (Nat.zero_add _).symm)

/-- Loading block `k` of the convolved inputs. -/
theorem ld_us (x : Chunk F) (T : Vec F S8x2048 .f32) (k : ℕ) (hk : k < 8) (h : ∀ a, (![k, 0, 0, 0] : Fin 4 → ℕ) a + S1x16x128x16.size a ≤ S8x16x128x16.size a) :
    View.ld (x.conv T) (Rect.unit (s := S8x16x128x16) ![k, 0, 0, 0] S1x16x128x16.size h) = x.us T ⟨k, hk⟩ := by
  funext j
  refine congrArg (x.conv T) (funext fun a => Fin.ext ?_)
  have h0 : (j 0).val < 1 := (j 0).isLt
  match a with
  | ⟨0, _⟩ => show k + 1 * (j 0).val = k; omega
  | ⟨1, _⟩ => show 0 + 1 * (j 1).val = (j 1).val; omega
  | ⟨2, _⟩ => show 0 + 1 * (j 2).val = (j 2).val; omega
  | ⟨3, _⟩ => show 0 + 1 * (j 3).val = (j 3).val; omega

/-- Storing block `k`'s rows after the blocks before it. -/
theorem write_y (x : Chunk F) (T : Vec F S8x2048 .f32) (S : Vec F S128x1024 .f32) (g : Vec F S8x16x128x16 .f32) (f : BufTy.Contents (Elt F) arg24.view.ty)
    (k : ℕ) (hk : k < 8) (h : ∀ a, (![k, 0, 0, 0] : Fin 4 → ℕ) a + S1x16x128x16.size a ≤ S8x16x128x16.size a)
    (hf : arg24.view.read (Elt F) f = x.yTo T S g k) (w : Vec F S1x16x128x16 .f32) (hw : w = x.y T S ⟨k, hk⟩) :
    arg24.view.read (Elt F) (arg24.view.writes (Elt F) f [⟨Rect.unit (s := S8x16x128x16) ![k, 0, 0, 0] S1x16x128x16.size h, w⟩]) = x.yTo T S g (k + 1) := by
  subst hw
  funext i
  by_cases hi : (i 0).val = k
  · have e0 : i 0 = ⟨k, hk⟩ := Fin.ext hi
    rw [Chunk.yTo, if_pos (by omega)]
    rw [View.read_writes_cons_unit_of_mem arg24.view _ h _ [] i (ix4 0 (i 1) (i 2) (i 3)) rfl (fun a => by
      match a with
      | ⟨0, _⟩ => exact hi
      | ⟨1, _⟩ => exact (Nat.zero_add _).symm
      | ⟨2, _⟩ => exact (Nat.zero_add _).symm
      | ⟨3, _⟩ => exact (Nat.zero_add _).symm), e0]; rfl
  · rw [View.read_writes_cons_unit_of_not_mem arg24.view _ h _ [] i rfl 0 (by
      show (i 0).val < k ∨ k + 1 ≤ (i 0).val
      omega)]
    refine (congrFun hf i).trans ?_
    simp only [Chunk.yTo]
    by_cases hlt : (i 0).val < k
    · rw [if_pos hlt, if_pos (by omega)]
    · rw [if_neg hlt, if_neg (by omega)]

end Writes

end Cert.KernelIdeal.Scan
-- ==== Proof.Scan.Blk.lean ====
/- The buffers of the blocks of sixteen steps, at their values, and what one block leaves in them. -/
module

public import proofs.«01_k».proof.Proof.Scan.Chunk

@[expose] public section

set_option maxRecDepth 16384

noncomputable section

namespace Cert.KernelIdeal.Scan

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

section Pay
/-! The eight blocks' payloads are the first block's under other names. -/
variable (a : Vec F S128x16 .f32) (b : Vec F S1024x16 .f32) (e : Vec F S16x1024 .f32) (v : Vec F S1x16x128x16 .f32) (p : Vec F S16x128x1024 .f32)
/-- The same expression under another name. -/
theorem pay29 : k0_pay29 (k0_pay15 a) (k0_pay17 b) v p = k0_pay23 a b v p := rfl
/-- The same expression under another name. -/
theorem pay35 : k0_pay35 (k0_pay15 a) (k0_pay17 b) (k0_pay30 v) p = k0_pay23 a b v p := rfl
/-- The same expression under another name. -/
theorem pay42 : k0_pay42 (k0_pay41 (k0_pay15 a) (k0_pay17 b) v p) = k0_pay23 a b v p := rfl
/-- The same expression under another name. -/
theorem pay48 : k0_pay48 (k0_pay15 a) (k0_pay17 b) v p = k0_pay23 a b v p := rfl
/-- The same expression under another name. -/
theorem pay55 : k0_pay55 (k0_pay15 a) (k0_pay17 b) (k0_pay49 v) p = k0_pay23 a b v p := rfl
/-- The same expression under another name. -/
theorem pay61 : k0_pay61 (k0_pay15 a) (k0_pay17 b) (k0_pay56 v) p = k0_pay23 a b v p := rfl
/-- The same expression under another name. -/
theorem pay67 : k0_pay67 (k0_pay15 a) (k0_pay17 b) v p = k0_pay23 a b v p := rfl
/-- The same expression under another name. -/
theorem pay25 : k0_pay25 (k0_pay16 e) v = k0_pay19 e v := rfl
/-- The same expression under another name. -/
theorem pay31 : k0_pay31 (k0_pay16 e) v = k0_pay19 e v := rfl
/-- The same expression under another name. -/
theorem pay37 : k0_pay37 (k0_pay16 e) v = k0_pay19 e v := rfl
/-- The same expression under another name. -/
theorem pay44 : k0_pay44 (k0_pay16 e) v = k0_pay19 e v := rfl
/-- The same expression under another name. -/
theorem pay51 : k0_pay51 (k0_pay50 (k0_pay16 e) v) = k0_pay19 e v := rfl
/-- The same expression under another name. -/
theorem pay57 : k0_pay57 (k0_pay16 e) v = k0_pay19 e v := rfl
/-- The same expression under another name. -/
theorem pay63 : k0_pay63 (k0_pay16 e) v = k0_pay19 e v := rfl
end Pay

/-- The blocks' buffers: the inputs and the rows computed before the blocks, the state after `a` blocks, the rows of the first
    `b` blocks, and the two work buffers. -/
abbrev Blk (arg6 : Memref sig .tc .vmem S1x128x1024 .f32) (arg9 : Memref sig .tc .vmem S128x16 .f32) (arg13 : Memref sig .tc .vmem S16x1024 .f32) (arg14 : Memref sig .tc .vmem S1024x16 .f32) (arg16 : Memref sig .tc .vmem S128x1024 .f32) (arg19 : Memref sig .tc .vmem S8x16x128x16 .f32) (arg20 : Memref sig .tc .vmem S16x128x1024 .f32) (arg21 : Memref sig .tc .vmem S16x128x1024 .f32) (arg22 : Memref sig .tc .vmem S128x1024 .f32) (arg23 : Memref sig .tc .vmem S128x1024 .f32) (arg24 : Memref sig .tc .vmem S8x16x128x16 .f32) (c : Dev nD) (x : Chunk F) (T : Vec F S8x2048 .f32) (S : Vec F S128x1024 .f32) (g24 : Vec F S8x16x128x16 .f32)
    (g23 : Vec F S128x1024 .f32) (a b : ℕ) (g20 g21 : Vec F S16x128x1024 .f32) : sProp 𝕄 :=
  iprop(owns (c : Thread nD τ) arg6 fullShare x.C ∗ owns (c : Thread nD τ) arg9 fullShare x.Dt ∗ owns (c : Thread nD τ) arg13 fullShare x.E
    ∗ owns (c : Thread nD τ) arg14 fullShare x.K ∗ owns (c : Thread nD τ) arg19 fullShare (x.conv T) ∗ owns (c : Thread nD τ) arg22 fullShare x.dA
    ∗ owns (c : Thread nD τ) arg23 fullShare g23 ∗ owns (c : Thread nD τ) arg16 fullShare (x.st T S a)
    ∗ owns (c : Thread nD τ) arg24 fullShare (x.yTo T S g24 b) ∗ owns (c : Thread nD τ) arg20 fullShare g20 ∗ owns (c : Thread nD τ) arg21 fullShare g21)

/-- A load of a whole buffer reads its contents. -/
theorem rdw {s : Shape} (M : Memref sig .tc .vmem s .f32) (f : BufTy.Contents (Elt F) M.view.ty) {off : Fin s.rank → ℕ} (h : off = fun _ => 0)
    (hb : ∀ a, off a + s.size a ≤ s.size a) :
    View.readAt (Elt F) M.view (Rect.unit (s := s) off s.size hb).toLoadRect f = M.view.read (Elt F) f :=
  (show _ = View.ld (M.view.read (Elt F) f) (Rect.unit (s := s) off s.size hb) from rfl).trans (View.ld_unit_zero h _ _)

/-- A load of block `k` of the convolved inputs. -/
theorem rdus (arg19 : Memref sig .tc .vmem S8x16x128x16 .f32) {f : BufTy.Contents (Elt F) arg19.view.ty} (x : Chunk F) (T : Vec F S8x2048 .f32)
    (k : ℕ) (hk : k < 8) (hf : arg19.view.read (Elt F) f = x.conv T) (h : ∀ a, (![k, 0, 0, 0] : Fin 4 → ℕ) a + S1x16x128x16.size a ≤ S8x16x128x16.size a) :
    View.readAt (Elt F) arg19.view (Rect.unit (s := S8x16x128x16) ![k, 0, 0, 0] S1x16x128x16.size h).toLoadRect f = x.us T ⟨k, hk⟩ :=
  (show _ = View.ld (arg19.view.read (Elt F) f) (Rect.unit (s := S8x16x128x16) ![k, 0, 0, 0] S1x16x128x16.size h) from rfl).trans
    ((congrArg (fun X => View.ld X (Rect.unit (s := S8x16x128x16) ![k, 0, 0, 0] S1x16x128x16.size h)) hf).trans (ld_us x T k hk h))

/-- Two pairs with equal parts. -/
theorem pair_eq {α β : Type} {a a' : α} {b b' : β} (ha : a = a') (hb : b = b') : (⟨a, b⟩ : Σ' (_ : α), β) = ⟨a', b'⟩ := by rw [ha, hb]

/-- Block `k`'s expanded inputs, as the program's text has them. -/
theorem ub_eq (x : Chunk F) (T : Vec F S8x2048 .f32) (k : Fin 8) {e : Vec F S16x1024 .f32} {v : Vec F S1x16x128x16 .f32} (he : e = x.E) (hv : v = x.us T k) :
    k0_pay19 e v = x.ub T k := by rw [he, hv]; rfl

/-- Block `k`'s rows, as the program's text has them. -/
theorem y_eq (x : Chunk F) (T : Vec F S8x2048 .f32) (S : Vec F S128x1024 .f32) (k : Fin 8) {a : Vec F S128x16 .f32} {b : Vec F S1024x16 .f32}
    {v : Vec F S1x16x128x16 .f32} {p : Vec F S16x128x1024 .f32} (ha : a = x.Dt) (hb : b = x.K) (hv : v = x.us T k) (hp : p = x.prod T S k) :
    k0_pay23 a b v p = x.y T S k := by rw [ha, hb, hv, hp]; rfl

/-- The state block `k`'s loop leaves. -/
theorem loop_state (arg16 : Memref sig .tc .vmem S128x1024 .f32) (h16 : arg16.IsWhole) (x : Chunk F) (T : Vec F S8x2048 .f32) (S : Vec F S128x1024 .f32) (k : Fin 8)
    {dA Bm : Vec F S128x1024 .f32} {ub : Vec F S16x128x1024 .f32} {G : BufTy.Contents (Elt F) arg16.view.ty} {n : ℕ}
    (hA : dA = x.dA) (hB : Bm = x.Bm) (hu : ub = x.ub T k) (hG : arg16.view.read (Elt F) G = x.st T S k.val) (hn : n = 16) :
    arg16.view.read (Elt F) (c16 arg16 h16 k dA Bm ub G n) = x.st T S (k.val + 1) := by
  subst hA hB hu hn
  rw [read_c16, hG, Chunk.st_succ]

/-- The products block `k`'s loop leaves. -/
theorem loop_prod (arg21 : Memref sig .tc .vmem S16x128x1024 .f32) (h21 : arg21.IsWhole) (x : Chunk F) (T : Vec F S8x2048 .f32) (S : Vec F S128x1024 .f32) (k : Fin 8)
    {C : Vec F S1x128x1024 .f32} {dA Bm : Vec F S128x1024 .f32} {ub : Vec F S16x128x1024 .f32} {s : Vec F S128x1024 .f32} {G : BufTy.Contents (Elt F) arg21.view.ty} {n : ℕ}
    (hC : C = x.C) (hA : dA = x.dA) (hB : Bm = x.Bm) (hu : ub = x.ub T k) (hs : s = x.st T S k.val) (hn : n = 16) :
    arg21.view.read (Elt F) (c21 arg21 h21 k C dA Bm ub s G n) = x.prod T S k := by
  subst hC hA hB hu hs hn
  rw [read_c21, outsTo_sixteen]; rfl

end Cert.KernelIdeal.Scan
-- ==== Proof.Scan.Start.lean ====
/- What a chunk does before its blocks. -/
module

public import proofs.«01_k».proof.Proof.Scan.Blk

@[expose] public section

set_option maxRecDepth 16384

noncomputable section

namespace Cert.KernelIdeal.Scan

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The extended inputs' buffer after its two stores. -/
theorem ext_eq (M : Memref sig .tc .vmem S136x2048 .f32) (f : BufTy.Contents (Elt F) M.view.ty) (x : Chunk F) (T : Vec F S8x2048 .f32)
    (h8 : ∀ a, (![8, 0] : Fin 2 → ℕ) a + S128x2048.size a ≤ S136x2048.size a) (h0 : ∀ a, (![0, 0] : Fin 2 → ℕ) a + S8x2048.size a ≤ S136x2048.size a)
    {v : Vec F S1x128x2048 .f32} {t : Vec F S8x2048 .f32} (hv : v = x.u) (ht : t = T) :
    M.view.read (Elt F) (M.view.writes (Elt F) f [⟨Rect.unit (s := S136x2048) ![8, 0] S128x2048.size h8, k0_pay6 v⟩,
      ⟨Rect.unit (s := S136x2048) ![0, 0] S8x2048.size h0, k0_pay5 t⟩]) = x.ext T := by
  subst hv ht
  funext i
  by_cases hi : (i 0).val < 8
  · rw [View.read_writes_cons_unit_of_not_mem M.view _ h8 _ _ i rfl 0 (Or.inl hi),
      View.read_writes_cons_unit_of_mem M.view _ h0 _ [] i (ix2 ⟨(i 0).val, hi⟩ (i 1)) rfl (fun a => by
        match a with
        | ⟨0, _⟩ => exact (Nat.zero_add _).symm
        | ⟨1, _⟩ => exact (Nat.zero_add _).symm)]
    exact (show x.ext t i = _ from dif_pos hi).symm
  · rw [View.read_writes_cons_unit_of_mem M.view _ h8 _ _ i
      (ix2 ⟨(i 0).val - 8, by have := (i 0).isLt; change _ < 136 at this; omega⟩ (i 1)) rfl (fun a => by
        match a with
        | ⟨0, _⟩ => show (i 0).val = 8 + ((i 0).val - 8); omega
        | ⟨1, _⟩ => exact (Nat.zero_add _).symm)]
    exact (show x.ext t i = _ from dif_neg hi).symm

/-- A load of 128 rows of the extended inputs. -/
theorem rdrows (M : Memref sig .tc .vmem S136x2048 .f32) {f : BufTy.Contents (Elt F) M.view.ty} (x : Chunk F) (T : Vec F S8x2048 .f32) (o : ℕ) (ho : o ≤ 8)
    (hf : M.view.read (Elt F) f = x.ext T) (h : ∀ a, (![o, 0] : Fin 2 → ℕ) a + S128x2048.size a ≤ S136x2048.size a) :
    View.readAt (Elt F) M.view (Rect.unit (s := S136x2048) ![o, 0] S128x2048.size h).toLoadRect f = x.rows T o ho := by
  refine (show _ = View.ld (M.view.read (Elt F) f) (Rect.unit (s := S136x2048) ![o, 0] S128x2048.size h) from rfl).trans ?_
  rw [hf]
  funext j
  refine congrArg (x.ext T) (funext fun a => Fin.ext ?_)
  match a with
  | ⟨0, _⟩ => show o + 1 * (j 0).val = o + (j 0).val; omega
  | ⟨1, _⟩ => show 0 + 1 * (j 1).val = (j 1).val; omega

/-- A load of one row of the convolution's weights. -/
theorem rdcw (M : Memref sig .tc .vmem S4x2048 .f32) {f : BufTy.Contents (Elt F) M.view.ty} (x : Chunk F) (n : ℕ) (hn : n < 4)
    (hf : M.view.read (Elt F) f = x.cw) (h : ∀ a, (![n, 0] : Fin 2 → ℕ) a + S1x2048.size a ≤ S4x2048.size a) :
    View.readAt (Elt F) M.view (Rect.unit (s := S4x2048) ![n, 0] S1x2048.size h).toLoadRect f = x.cwRow ⟨n, hn⟩ := by
  refine (show _ = View.ld (M.view.read (Elt F) f) (Rect.unit (s := S4x2048) ![n, 0] S1x2048.size h) from rfl).trans ?_
  rw [hf]
  funext j
  refine congrArg x.cw (funext fun a => Fin.ext ?_)
  have h0 : (j 0).val < 1 := (j 0).isLt
  match a with
  | ⟨0, _⟩ => show n + 1 * (j 0).val = n; omega
  | ⟨1, _⟩ => show 0 + 1 * (j 1).val = (j 1).val; omega

end Cert.KernelIdeal.Scan
-- ==== Proof.Scan.P1.lean ====
/- The chunk's inputs put after the tail of the chunk before. -/
module

public import proofs.«01_k».proof.Proof.Scan.Start

@[expose] public section

set_option maxRecDepth 16384

noncomputable section

namespace Cert.KernelIdeal.Scan

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

section Args
variable (arg2 : Memref sig .tc .vmem S1x128x2048 .f32) (harg2 : arg2.IsWhole) (arg3 : Memref sig .tc .vmem S1x128x2048 .f32) (harg3 : arg3.IsWhole) (arg4 : Memref sig .tc .vmem S1x128x1024 .f32) (harg4 : arg4.IsWhole)
  (arg5 : Memref sig .tc .vmem S1x128x1024 .f32) (harg5 : arg5.IsWhole) (arg6 : Memref sig .tc .vmem S1x128x1024 .f32) (harg6 : arg6.IsWhole) (arg7 : Memref sig .tc .vmem S1x128x2048 .f32) (harg7 : arg7.IsWhole)
  (arg8 : Memref sig .tc .vmem S1x1024 .f32) (harg8 : arg8.IsWhole) (arg9 : Memref sig .tc .vmem S128x16 .f32) (harg9 : arg9.IsWhole) (arg10 : Memref sig .tc .vmem S4x2048 .f32) (harg10 : arg10.IsWhole)
  (arg11 : Memref sig .tc .vmem S1x2048 .f32) (harg11 : arg11.IsWhole) (arg12 : Memref sig .tc .vmem S1x2048 .f32) (harg12 : arg12.IsWhole) (arg13 : Memref sig .tc .vmem S16x1024 .f32) (harg13 : arg13.IsWhole)
  (arg14 : Memref sig .tc .vmem S1024x16 .f32) (harg14 : arg14.IsWhole) (arg15 : Memref sig .tc .vmem S1x128x2048 .f32) (harg15 : arg15.IsWhole) (arg16 : Memref sig .tc .vmem S128x1024 .f32) (harg16 : arg16.IsWhole)
  (arg17 : Memref sig .tc .vmem S8x2048 .f32) (harg17 : arg17.IsWhole) (arg18 : Memref sig .tc .vmem S136x2048 .f32) (harg18 : arg18.IsWhole) (arg19 : Memref sig .tc .vmem S8x16x128x16 .f32) (harg19 : arg19.IsWhole)
  (arg20 : Memref sig .tc .vmem S16x128x1024 .f32) (harg20 : arg20.IsWhole) (arg21 : Memref sig .tc .vmem S16x128x1024 .f32) (harg21 : arg21.IsWhole) (arg22 : Memref sig .tc .vmem S128x1024 .f32) (harg22 : arg22.IsWhole)
  (arg23 : Memref sig .tc .vmem S128x1024 .f32) (harg23 : arg23.IsWhole) (arg24 : Memref sig .tc .vmem S8x16x128x16 .f32) (harg24 : arg24.IsWhole)

set_option maxHeartbeats 1000000 in
/-- The first part of a batch's first chunk: the state and the tail start at zero. -/
theorem part1_first (c : Dev nD) (i : grid0.Coords) (x : Chunk F) (T : Vec F S8x2048 .f32) (S : Vec F S128x1024 .f32) (g18 : Vec F S136x2048 .f32) (E : Set ℕ) (hc : ((Scalar.cmpi .ne (Scalar.extui (Scalar.cmpi .eq (BitVec.ofNat 32 (i 1).val) 0#32)) 0#32) = 1#1)) :
    (iprop(owns (c : Thread nD τ) arg3 fullShare (x.u) ∗ owns (c : Thread nD τ) arg10 fullShare (x.cw) ∗ owns (c : Thread nD τ) arg11 fullShare (x.cb) ∗ owns (c : Thread nD τ) arg16 fullShare (S) ∗ owns (c : Thread nD τ) arg17 fullShare (T) ∗ owns (c : Thread nD τ) arg18 fullShare (g18)) : sProp 𝕄)
      ⊢ wp frame (wpE (defs₀ (F := F)) Variants.none c none) E (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24)
        (fun v => iprop((owns (c : Thread nD τ) arg3 fullShare (x.u) ∗ owns (c : Thread nD τ) arg10 fullShare (x.cw) ∗ owns (c : Thread nD τ) arg11 fullShare (x.cb) ∗ owns (c : Thread nD τ) arg16 fullShare (k0_pay2 (F := F)) ∗ owns (c : Thread nD τ) arg17 fullShare (x.tail) ∗ owns (c : Thread nD τ) arg18 fullShare (x.ext (k0_pay3 (F := F)))) ∗ ⌜v = ⟨k0_pay8 x.cb (x.cwRow 0) (x.rows (k0_pay3 (F := F)) 5 (by decide)), x.rows (k0_pay3 (F := F)) 6 (by decide), k0_pay9 (x.cwRow 1)⟩⌝)) := by
  rw [k0_part1_eq_skeleton]; unfold k0_part1_skel owns
  iintro ⟨⟨%f3, %hf3, H3⟩, ⟨%f10, %hf10, H10⟩, ⟨%f11, %hf11, H11⟩, ⟨%f16, %hf16, H16⟩, ⟨%f17, %hf17, H17⟩, ⟨%f18, %hf18, H18⟩⟩
  sl_exec (disch := first | sl_exact hc)
  sl_step
  isplitl [H3 H10 H11 H16 H17 H18]; swap
  · ipureintro
    exact pair_eq (congr (congr (congrArg k0_pay8 ((rdw _ _ off2_zero _).trans hf11)) (rdcw _ x 0 (by decide) hf10 _)) (rdrows _ x (k0_pay3 (F := F)) 5 (by decide) (ext_eq _ _ x (k0_pay3 (F := F)) _ _ ((rdw _ _ off3_zero _).trans hf3) ((rdw _ _ off2_zero _).trans (write_whole _ _ off2_zero _ _))) _))
      (pair_eq (rdrows _ x (k0_pay3 (F := F)) 6 (by decide) (ext_eq _ _ x (k0_pay3 (F := F)) _ _ ((rdw _ _ off3_zero _).trans hf3) ((rdw _ _ off2_zero _).trans (write_whole _ _ off2_zero _ _))) _) (congrArg k0_pay9 (rdcw _ x 1 (by decide) hf10 _)))
  isplitl [H3]
  · iexists _; isplitr; swap; · iexact H3
    ipureintro; exact hf3
  isplitl [H10]
  · iexists _; isplitr; swap; · iexact H10
    ipureintro; exact hf10
  isplitl [H11]
  · iexists _; isplitr; swap; · iexact H11
    ipureintro; exact hf11
  isplitl [H16]
  · iexists _; isplitr; swap; · iexact H16
    ipureintro; exact (write_whole _ _ off2_zero _ _)
  isplitl [H17]
  · iexists _; isplitr; swap; · iexact H17
    ipureintro; exact ((write_whole _ _ off2_zero _ _).trans (congrArg k0_pay7 ((rdw _ _ off3_zero _).trans hf3)))
  iexists _; isplitr; swap; · iexact H18
  ipureintro; exact (ext_eq _ _ x (k0_pay3 (F := F)) _ _ ((rdw _ _ off3_zero _).trans hf3) ((rdw _ _ off2_zero _).trans (write_whole _ _ off2_zero _ _)))

set_option maxHeartbeats 1000000 in
/-- The first part of a later chunk: the state and the tail are the chunk before's. -/
theorem part1_later (c : Dev nD) (i : grid0.Coords) (x : Chunk F) (T : Vec F S8x2048 .f32) (S : Vec F S128x1024 .f32) (g18 : Vec F S136x2048 .f32) (E : Set ℕ) (hc : ¬ ((Scalar.cmpi .ne (Scalar.extui (Scalar.cmpi .eq (BitVec.ofNat 32 (i 1).val) 0#32)) 0#32) = 1#1)) :
    (iprop(owns (c : Thread nD τ) arg3 fullShare (x.u) ∗ owns (c : Thread nD τ) arg10 fullShare (x.cw) ∗ owns (c : Thread nD τ) arg11 fullShare (x.cb) ∗ owns (c : Thread nD τ) arg16 fullShare (S) ∗ owns (c : Thread nD τ) arg17 fullShare (T) ∗ owns (c : Thread nD τ) arg18 fullShare (g18)) : sProp 𝕄)
      ⊢ wp frame (wpE (defs₀ (F := F)) Variants.none c none) E (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24)
        (fun v => iprop((owns (c : Thread nD τ) arg3 fullShare (x.u) ∗ owns (c : Thread nD τ) arg10 fullShare (x.cw) ∗ owns (c : Thread nD τ) arg11 fullShare (x.cb) ∗ owns (c : Thread nD τ) arg16 fullShare (S) ∗ owns (c : Thread nD τ) arg17 fullShare (x.tail) ∗ owns (c : Thread nD τ) arg18 fullShare (x.ext T)) ∗ ⌜v = ⟨k0_pay8 x.cb (x.cwRow 0) (x.rows T 5 (by decide)), x.rows T 6 (by decide), k0_pay9 (x.cwRow 1)⟩⌝)) := by
  rw [k0_part1_eq_skeleton]; unfold k0_part1_skel owns
  iintro ⟨⟨%f3, %hf3, H3⟩, ⟨%f10, %hf10, H10⟩, ⟨%f11, %hf11, H11⟩, ⟨%f16, %hf16, H16⟩, ⟨%f17, %hf17, H17⟩, ⟨%f18, %hf18, H18⟩⟩
  sl_exec (disch := first | sl_exact hc)
  sl_step
  isplitl [H3 H10 H11 H16 H17 H18]; swap
  · ipureintro
    exact pair_eq (congr (congr (congrArg k0_pay8 ((rdw _ _ off2_zero _).trans hf11)) (rdcw _ x 0 (by decide) hf10 _)) (rdrows _ x T 5 (by decide) (ext_eq _ _ x T _ _ ((rdw _ _ off3_zero _).trans hf3) ((rdw _ _ off2_zero _).trans hf17)) _))
      (pair_eq (rdrows _ x T 6 (by decide) (ext_eq _ _ x T _ _ ((rdw _ _ off3_zero _).trans hf3) ((rdw _ _ off2_zero _).trans hf17)) _) (congrArg k0_pay9 (rdcw _ x 1 (by decide) hf10 _)))
  isplitl [H3]
  · iexists _; isplitr; swap; · iexact H3
    ipureintro; exact hf3
  isplitl [H10]
  · iexists _; isplitr; swap; · iexact H10
    ipureintro; exact hf10
  isplitl [H11]
  · iexists _; isplitr; swap; · iexact H11
    ipureintro; exact hf11
  isplitl [H16]
  · iexists _; isplitr; swap; · iexact H16
    ipureintro; exact hf16
  isplitl [H17]
  · iexists _; isplitr; swap; · iexact H17
    ipureintro; exact ((write_whole _ _ off2_zero _ _).trans (congrArg k0_pay7 ((rdw _ _ off3_zero _).trans hf3)))
  iexists _; isplitr; swap; · iexact H18
  ipureintro; exact (ext_eq _ _ x T _ _ ((rdw _ _ off3_zero _).trans hf3) ((rdw _ _ off2_zero _).trans hf17))

end Args
end Cert.KernelIdeal.Scan
-- ==== Proof.Scan.P2.lean ====
/- The convolved inputs and the decay rows. -/
module

public import proofs.«01_k».proof.Proof.Scan.Start

@[expose] public section

set_option maxRecDepth 16384

noncomputable section

namespace Cert.KernelIdeal.Scan

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

section Args
variable (arg2 : Memref sig .tc .vmem S1x128x2048 .f32) (harg2 : arg2.IsWhole) (arg3 : Memref sig .tc .vmem S1x128x2048 .f32) (harg3 : arg3.IsWhole) (arg4 : Memref sig .tc .vmem S1x128x1024 .f32) (harg4 : arg4.IsWhole)
  (arg5 : Memref sig .tc .vmem S1x128x1024 .f32) (harg5 : arg5.IsWhole) (arg6 : Memref sig .tc .vmem S1x128x1024 .f32) (harg6 : arg6.IsWhole) (arg7 : Memref sig .tc .vmem S1x128x2048 .f32) (harg7 : arg7.IsWhole)
  (arg8 : Memref sig .tc .vmem S1x1024 .f32) (harg8 : arg8.IsWhole) (arg9 : Memref sig .tc .vmem S128x16 .f32) (harg9 : arg9.IsWhole) (arg10 : Memref sig .tc .vmem S4x2048 .f32) (harg10 : arg10.IsWhole)
  (arg11 : Memref sig .tc .vmem S1x2048 .f32) (harg11 : arg11.IsWhole) (arg12 : Memref sig .tc .vmem S1x2048 .f32) (harg12 : arg12.IsWhole) (arg13 : Memref sig .tc .vmem S16x1024 .f32) (harg13 : arg13.IsWhole)
  (arg14 : Memref sig .tc .vmem S1024x16 .f32) (harg14 : arg14.IsWhole) (arg15 : Memref sig .tc .vmem S1x128x2048 .f32) (harg15 : arg15.IsWhole) (arg16 : Memref sig .tc .vmem S128x1024 .f32) (harg16 : arg16.IsWhole)
  (arg17 : Memref sig .tc .vmem S8x2048 .f32) (harg17 : arg17.IsWhole) (arg18 : Memref sig .tc .vmem S136x2048 .f32) (harg18 : arg18.IsWhole) (arg19 : Memref sig .tc .vmem S8x16x128x16 .f32) (harg19 : arg19.IsWhole)
  (arg20 : Memref sig .tc .vmem S16x128x1024 .f32) (harg20 : arg20.IsWhole) (arg21 : Memref sig .tc .vmem S16x128x1024 .f32) (harg21 : arg21.IsWhole) (arg22 : Memref sig .tc .vmem S128x1024 .f32) (harg22 : arg22.IsWhole)
  (arg23 : Memref sig .tc .vmem S128x1024 .f32) (harg23 : arg23.IsWhole) (arg24 : Memref sig .tc .vmem S8x16x128x16 .f32) (harg24 : arg24.IsWhole)

set_option maxHeartbeats 1000000 in
/-- The second part: the convolved inputs and the decay rows are stored. -/
theorem part2_run (c : Dev nD) (i : grid0.Coords) (x : Chunk F) (T : Vec F S8x2048 .f32) (g19 : Vec F S8x16x128x16 .f32) (g22 g23 : Vec F S128x1024 .f32) (E : Set ℕ) :
    (iprop(owns (c : Thread nD τ) arg4 fullShare (x.dtE) ∗ owns (c : Thread nD τ) arg5 fullShare (x.B) ∗ owns (c : Thread nD τ) arg8 fullShare (x.Af) ∗ owns (c : Thread nD τ) arg10 fullShare (x.cw) ∗ owns (c : Thread nD τ) arg18 fullShare (x.ext T) ∗ owns (c : Thread nD τ) arg19 fullShare (g19) ∗ owns (c : Thread nD τ) arg22 fullShare (g22) ∗ owns (c : Thread nD τ) arg23 fullShare (g23)) : sProp 𝕄)
      ⊢ wp frame (wpE (defs₀ (F := F)) Variants.none c none) E (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24
          (k0_pay8 x.cb (x.cwRow 0) (x.rows T 5 (by decide))) (x.rows T 6 (by decide)) (k0_pay9 (x.cwRow 1)))
        (fun v => iprop((owns (c : Thread nD τ) arg4 fullShare (x.dtE) ∗ owns (c : Thread nD τ) arg5 fullShare (x.B) ∗ owns (c : Thread nD τ) arg8 fullShare (x.Af) ∗ owns (c : Thread nD τ) arg10 fullShare (x.cw) ∗ owns (c : Thread nD τ) arg18 fullShare (x.ext T) ∗ owns (c : Thread nD τ) arg19 fullShare (x.conv T) ∗ owns (c : Thread nD τ) arg22 fullShare (x.dA) ∗ owns (c : Thread nD τ) arg23 fullShare (g23)) ∗ ⌜v = ⟨k0_pay13 x.dtE x.B, g23⟩⌝)) := by
  rw [k0_part2_eq_skeleton]; unfold k0_part2_skel owns
  iintro ⟨⟨%f4, %hf4, H4⟩, ⟨%f5, %hf5, H5⟩, ⟨%f8, %hf8, H8⟩, ⟨%f10, %hf10, H10⟩, ⟨%f18, %hf18, H18⟩, ⟨%f19, %hf19, H19⟩, ⟨%f22, %hf22, H22⟩, ⟨%f23, %hf23, H23⟩⟩
  sl_exec
  sl_step
  isplitl [H4 H5 H8 H10 H18 H19 H22 H23]; swap
  · ipureintro
    exact pair_eq (congr (congrArg k0_pay13 ((rdw _ _ off3_zero _).trans hf4)) ((rdw _ _ off3_zero _).trans hf5)) ((rdw _ _ off2_zero _).trans hf23)
  isplitl [H4]
  · iexists _; isplitr; swap; · iexact H4
    ipureintro; exact hf4
  isplitl [H5]
  · iexists _; isplitr; swap; · iexact H5
    ipureintro; exact hf5
  isplitl [H8]
  · iexists _; isplitr; swap; · iexact H8
    ipureintro; exact hf8
  isplitl [H10]
  · iexists _; isplitr; swap; · iexact H10
    ipureintro; exact hf10
  isplitl [H18]
  · iexists _; isplitr; swap; · iexact H18
    ipureintro; exact hf18
  isplitl [H19]
  · iexists _; isplitr; swap; · iexact H19
    ipureintro; exact ((write_whole _ _ off4_zero _ _).trans (congr (congr (congr (congrArg (k0_pay10 _ _ _) (rdcw _ x 2 (by decide) hf10 _)) (rdrows _ x T 7 (by decide) hf18 _)) (rdcw _ x 3 (by decide) hf10 _)) (rdrows _ x T 8 (by decide) hf18 _)))
  isplitl [H22]
  · iexists _; isplitr; swap; · iexact H22
    ipureintro; exact ((write_whole _ _ off2_zero _ _).trans (congr (congrArg k0_pay12 ((rdw _ _ off3_zero _).trans hf4)) ((rdw _ _ off2_zero _).trans hf8)))
  iexists _; isplitr; swap; · iexact H23
  ipureintro; exact hf23

end Args
end Cert.KernelIdeal.Scan
-- ==== Proof.Scan.P3.lean ====
/- The first block of sixteen steps. -/
module

public import proofs.«01_k».proof.Proof.Scan.Blk

@[expose] public section

set_option maxRecDepth 16384

noncomputable section

namespace Cert.KernelIdeal.Scan

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

section Args
variable (arg2 : Memref sig .tc .vmem S1x128x2048 .f32) (harg2 : arg2.IsWhole) (arg3 : Memref sig .tc .vmem S1x128x2048 .f32) (harg3 : arg3.IsWhole) (arg4 : Memref sig .tc .vmem S1x128x1024 .f32) (harg4 : arg4.IsWhole)
  (arg5 : Memref sig .tc .vmem S1x128x1024 .f32) (harg5 : arg5.IsWhole) (arg6 : Memref sig .tc .vmem S1x128x1024 .f32) (harg6 : arg6.IsWhole) (arg7 : Memref sig .tc .vmem S1x128x2048 .f32) (harg7 : arg7.IsWhole)
  (arg8 : Memref sig .tc .vmem S1x1024 .f32) (harg8 : arg8.IsWhole) (arg9 : Memref sig .tc .vmem S128x16 .f32) (harg9 : arg9.IsWhole) (arg10 : Memref sig .tc .vmem S4x2048 .f32) (harg10 : arg10.IsWhole)
  (arg11 : Memref sig .tc .vmem S1x2048 .f32) (harg11 : arg11.IsWhole) (arg12 : Memref sig .tc .vmem S1x2048 .f32) (harg12 : arg12.IsWhole) (arg13 : Memref sig .tc .vmem S16x1024 .f32) (harg13 : arg13.IsWhole)
  (arg14 : Memref sig .tc .vmem S1024x16 .f32) (harg14 : arg14.IsWhole) (arg15 : Memref sig .tc .vmem S1x128x2048 .f32) (harg15 : arg15.IsWhole) (arg16 : Memref sig .tc .vmem S128x1024 .f32) (harg16 : arg16.IsWhole)
  (arg17 : Memref sig .tc .vmem S8x2048 .f32) (harg17 : arg17.IsWhole) (arg18 : Memref sig .tc .vmem S136x2048 .f32) (harg18 : arg18.IsWhole) (arg19 : Memref sig .tc .vmem S8x16x128x16 .f32) (harg19 : arg19.IsWhole)
  (arg20 : Memref sig .tc .vmem S16x128x1024 .f32) (harg20 : arg20.IsWhole) (arg21 : Memref sig .tc .vmem S16x128x1024 .f32) (harg21 : arg21.IsWhole) (arg22 : Memref sig .tc .vmem S128x1024 .f32) (harg22 : arg22.IsWhole)
  (arg23 : Memref sig .tc .vmem S128x1024 .f32) (harg23 : arg23.IsWhole) (arg24 : Memref sig .tc .vmem S8x16x128x16 .f32) (harg24 : arg24.IsWhole)

set_option maxHeartbeats 1000000 in
/-- The first block of sixteen steps. -/
theorem part3_run (c : Dev nD) (i : grid0.Coords) (x : Chunk F) (T : Vec F S8x2048 .f32) (S : Vec F S128x1024 .f32) (g24 : Vec F S8x16x128x16 .f32) (g20 g21 : Vec F S16x128x1024 .f32) (g23 : Vec F S128x1024 .f32) (v64 : Vec F S128x1024 .f32) (E : Set ℕ) :
    Blk (F := F) arg6 arg9 arg13 arg14 arg16 arg19 arg20 arg21 arg22 arg23 arg24 c x T S g24 (g23) 0 0 g20 g21
      ⊢ wp frame (wpE (defs₀ (F := F)) Variants.none c none) E (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (k0_pay13 x.dtE x.B) v64)
        (fun v => iprop(Blk (F := F) arg6 arg9 arg13 arg14 arg16 arg19 arg20 arg21 arg22 arg23 arg24 c x T S g24 x.Bm 1 1 (x.ub T 0) (x.prod T S 0) ∗ ⌜v = ⟨k0_pay15 x.Dt, k0_pay16 x.E, k0_pay17 x.K⟩⌝)) := by
  rw [k0_part3_eq_skeleton]; unfold k0_part3_skel Blk owns
  iintro ⟨⟨%f6, %hf6, H6⟩, ⟨%f9, %hf9, H9⟩, ⟨%f13, %hf13, H13⟩, ⟨%f14, %hf14, H14⟩, ⟨%f19, %hf19, H19⟩, ⟨%f22, %hf22, H22⟩, ⟨%f23, %hf23, H23⟩, ⟨%f16, %hf16, H16⟩, ⟨%f24, %hf24, H24⟩, ⟨%f20, %hf20, H20⟩, ⟨%f21, %hf21, H21⟩⟩
  sl_exec
  sl_step
  isplitl [H6 H9 H13 H14 H19 H22 H23 H16 H24 H20 H21]; swap
  · ipureintro; exact (by rw [rdw _ _ off2_zero, rdw _ _ off2_zero, rdw _ _ off2_zero, hf9, hf13, hf14])
  isplitl [H6]
  · iexists _; isplitr; swap; · iexact H6
    ipureintro; exact hf6
  isplitl [H9]
  · iexists _; isplitr; swap; · iexact H9
    ipureintro; exact hf9
  isplitl [H13]
  · iexists _; isplitr; swap; · iexact H13
    ipureintro; exact hf13
  isplitl [H14]
  · iexists _; isplitr; swap; · iexact H14
    ipureintro; exact hf14
  isplitl [H19]
  · iexists _; isplitr; swap; · iexact H19
    ipureintro; exact hf19
  isplitl [H22]
  · iexists _; isplitr; swap; · iexact H22
    ipureintro; exact hf22
  isplitl [H23]
  · iexists _; isplitr; swap; · iexact H23
    ipureintro; exact (write_whole _ _ off2_zero _ _)
  isplitl [H16]
  · iexists _; isplitr; swap; · iexact H16
    ipureintro; exact (loop_state _ _ x T S 0 hf22 (write_whole _ _ off2_zero _ _) ((write_whole _ _ off3_zero _ _).trans (ub_eq x T 0 ((rdw _ _ off2_zero _).trans hf13) (rdus _ x T 0 (by decide) hf19 _))) hf16 trips1)
  isplitl [H24]
  · iexists _; isplitr; swap; · iexact H24
    ipureintro; exact (write_y _ x T S g24 _ 0 (by decide) _ hf24 _ (y_eq x T S 0 ((rdw _ _ off2_zero _).trans hf9) ((rdw _ _ off2_zero _).trans hf14) (rdus _ x T 0 (by decide) hf19 _) ((rdw _ _ off3_zero _).trans (loop_prod _ _ x T S 0 hf6 hf22 (write_whole _ _ off2_zero _ _) ((write_whole _ _ off3_zero _ _).trans (ub_eq x T 0 ((rdw _ _ off2_zero _).trans hf13) (rdus _ x T 0 (by decide) hf19 _))) hf16 trips1))))
  isplitl [H20]
  · iexists _; isplitr; swap; · iexact H20
    ipureintro; exact ((write_whole _ _ off3_zero _ _).trans (ub_eq x T 0 ((rdw _ _ off2_zero _).trans hf13) (rdus _ x T 0 (by decide) hf19 _)))
  iexists _; isplitr; swap; · iexact H21
  ipureintro; exact (loop_prod _ _ x T S 0 hf6 hf22 (write_whole _ _ off2_zero _ _) ((write_whole _ _ off3_zero _ _).trans (ub_eq x T 0 ((rdw _ _ off2_zero _).trans hf13) (rdus _ x T 0 (by decide) hf19 _))) hf16 trips1)

end Args
end Cert.KernelIdeal.Scan
-- ==== Proof.Scan.P4.lean ====
/- The second block of sixteen steps. -/
module

public import proofs.«01_k».proof.Proof.Scan.Blk

@[expose] public section

set_option maxRecDepth 16384

noncomputable section

namespace Cert.KernelIdeal.Scan

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

section Args
variable (arg2 : Memref sig .tc .vmem S1x128x2048 .f32) (harg2 : arg2.IsWhole) (arg3 : Memref sig .tc .vmem S1x128x2048 .f32) (harg3 : arg3.IsWhole) (arg4 : Memref sig .tc .vmem S1x128x1024 .f32) (harg4 : arg4.IsWhole)
  (arg5 : Memref sig .tc .vmem S1x128x1024 .f32) (harg5 : arg5.IsWhole) (arg6 : Memref sig .tc .vmem S1x128x1024 .f32) (harg6 : arg6.IsWhole) (arg7 : Memref sig .tc .vmem S1x128x2048 .f32) (harg7 : arg7.IsWhole)
  (arg8 : Memref sig .tc .vmem S1x1024 .f32) (harg8 : arg8.IsWhole) (arg9 : Memref sig .tc .vmem S128x16 .f32) (harg9 : arg9.IsWhole) (arg10 : Memref sig .tc .vmem S4x2048 .f32) (harg10 : arg10.IsWhole)
  (arg11 : Memref sig .tc .vmem S1x2048 .f32) (harg11 : arg11.IsWhole) (arg12 : Memref sig .tc .vmem S1x2048 .f32) (harg12 : arg12.IsWhole) (arg13 : Memref sig .tc .vmem S16x1024 .f32) (harg13 : arg13.IsWhole)
  (arg14 : Memref sig .tc .vmem S1024x16 .f32) (harg14 : arg14.IsWhole) (arg15 : Memref sig .tc .vmem S1x128x2048 .f32) (harg15 : arg15.IsWhole) (arg16 : Memref sig .tc .vmem S128x1024 .f32) (harg16 : arg16.IsWhole)
  (arg17 : Memref sig .tc .vmem S8x2048 .f32) (harg17 : arg17.IsWhole) (arg18 : Memref sig .tc .vmem S136x2048 .f32) (harg18 : arg18.IsWhole) (arg19 : Memref sig .tc .vmem S8x16x128x16 .f32) (harg19 : arg19.IsWhole)
  (arg20 : Memref sig .tc .vmem S16x128x1024 .f32) (harg20 : arg20.IsWhole) (arg21 : Memref sig .tc .vmem S16x128x1024 .f32) (harg21 : arg21.IsWhole) (arg22 : Memref sig .tc .vmem S128x1024 .f32) (harg22 : arg22.IsWhole)
  (arg23 : Memref sig .tc .vmem S128x1024 .f32) (harg23 : arg23.IsWhole) (arg24 : Memref sig .tc .vmem S8x16x128x16 .f32) (harg24 : arg24.IsWhole)

set_option maxHeartbeats 1000000 in
/-- The second block, and what the third block reads. -/
theorem part4_run (c : Dev nD) (i : grid0.Coords) (x : Chunk F) (T : Vec F S8x2048 .f32) (S : Vec F S128x1024 .f32) (g24 : Vec F S8x16x128x16 .f32) (g20 g21 : Vec F S16x128x1024 .f32) (E : Set ℕ) :
    Blk (F := F) arg6 arg9 arg13 arg14 arg16 arg19 arg20 arg21 arg22 arg23 arg24 c x T S g24 (x.Bm) 1 1 g20 g21
      ⊢ wp frame (wpE (defs₀ (F := F)) Variants.none c none) E (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (k0_pay15 x.Dt) (k0_pay16 x.E) (k0_pay17 x.K))
        (fun v => iprop(Blk (F := F) arg6 arg9 arg13 arg14 arg16 arg19 arg20 arg21 arg22 arg23 arg24 c x T S g24 x.Bm 2 2 (x.ub T 2) (x.prod T S 1) ∗ ⌜v = ⟨k0_pay30 (x.us T 2), 0#32, 16#32⟩⌝)) := by
  rw [k0_part4_eq_skeleton]; unfold k0_part4_skel Blk owns
  iintro ⟨⟨%f6, %hf6, H6⟩, ⟨%f9, %hf9, H9⟩, ⟨%f13, %hf13, H13⟩, ⟨%f14, %hf14, H14⟩, ⟨%f19, %hf19, H19⟩, ⟨%f22, %hf22, H22⟩, ⟨%f23, %hf23, H23⟩, ⟨%f16, %hf16, H16⟩, ⟨%f24, %hf24, H24⟩, ⟨%f20, %hf20, H20⟩, ⟨%f21, %hf21, H21⟩⟩
  sl_exec
  sl_step
  isplitl [H6 H9 H13 H14 H19 H22 H23 H16 H24 H20 H21]; swap
  · ipureintro; exact (congrArg (fun v => (⟨k0_pay30 v, 0#32, 16#32⟩ : Σ' (_ : FVec F S16x128x16 .f32) (_ : BitVec 32), BitVec 32)) (rdus _ x T 2 (by decide) hf19 _))
  isplitl [H6]
  · iexists _; isplitr; swap; · iexact H6
    ipureintro; exact hf6
  isplitl [H9]
  · iexists _; isplitr; swap; · iexact H9
    ipureintro; exact hf9
  isplitl [H13]
  · iexists _; isplitr; swap; · iexact H13
    ipureintro; exact hf13
  isplitl [H14]
  · iexists _; isplitr; swap; · iexact H14
    ipureintro; exact hf14
  isplitl [H19]
  · iexists _; isplitr; swap; · iexact H19
    ipureintro; exact hf19
  isplitl [H22]
  · iexists _; isplitr; swap; · iexact H22
    ipureintro; exact hf22
  isplitl [H23]
  · iexists _; isplitr; swap; · iexact H23
    ipureintro; exact hf23
  isplitl [H16]
  · iexists _; isplitr; swap; · iexact H16
    ipureintro; exact (loop_state _ _ x T S 1 hf22 hf23 ((write_whole _ _ off3_zero _ _).trans ((pay25 _ _).trans (ub_eq x T 1 rfl (rdus _ x T 1 (by decide) hf19 _)))) hf16 trips2)
  isplitl [H24]
  · iexists _; isplitr; swap; · iexact H24
    ipureintro; exact (write_y _ x T S g24 _ 1 (by decide) _ hf24 _ ((pay29 _ _ _ _).trans (y_eq x T S 1 rfl rfl (rdus _ x T 1 (by decide) hf19 _) ((rdw _ _ off3_zero _).trans (loop_prod _ _ x T S 1 hf6 hf22 hf23 ((write_whole _ _ off3_zero _ _).trans ((pay25 _ _).trans (ub_eq x T 1 rfl (rdus _ x T 1 (by decide) hf19 _)))) hf16 trips2)))))
  isplitl [H20]
  · iexists _; isplitr; swap; · iexact H20
    ipureintro; exact ((write_whole _ _ off3_zero _ _).trans ((pay31 _ _).trans (ub_eq x T 2 rfl (rdus _ x T 2 (by decide) hf19 _))))
  iexists _; isplitr; swap; · iexact H21
  ipureintro; exact (loop_prod _ _ x T S 1 hf6 hf22 hf23 ((write_whole _ _ off3_zero _ _).trans ((pay25 _ _).trans (ub_eq x T 1 rfl (rdus _ x T 1 (by decide) hf19 _)))) hf16 trips2)

end Args
end Cert.KernelIdeal.Scan
-- ==== Proof.Scan.P5.lean ====
/- The third and the fourth block of sixteen steps. -/
module

public import proofs.«01_k».proof.Proof.Scan.Blk

@[expose] public section

set_option maxRecDepth 16384

noncomputable section

namespace Cert.KernelIdeal.Scan

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

section Args
variable (arg2 : Memref sig .tc .vmem S1x128x2048 .f32) (harg2 : arg2.IsWhole) (arg3 : Memref sig .tc .vmem S1x128x2048 .f32) (harg3 : arg3.IsWhole) (arg4 : Memref sig .tc .vmem S1x128x1024 .f32) (harg4 : arg4.IsWhole)
  (arg5 : Memref sig .tc .vmem S1x128x1024 .f32) (harg5 : arg5.IsWhole) (arg6 : Memref sig .tc .vmem S1x128x1024 .f32) (harg6 : arg6.IsWhole) (arg7 : Memref sig .tc .vmem S1x128x2048 .f32) (harg7 : arg7.IsWhole)
  (arg8 : Memref sig .tc .vmem S1x1024 .f32) (harg8 : arg8.IsWhole) (arg9 : Memref sig .tc .vmem S128x16 .f32) (harg9 : arg9.IsWhole) (arg10 : Memref sig .tc .vmem S4x2048 .f32) (harg10 : arg10.IsWhole)
  (arg11 : Memref sig .tc .vmem S1x2048 .f32) (harg11 : arg11.IsWhole) (arg12 : Memref sig .tc .vmem S1x2048 .f32) (harg12 : arg12.IsWhole) (arg13 : Memref sig .tc .vmem S16x1024 .f32) (harg13 : arg13.IsWhole)
  (arg14 : Memref sig .tc .vmem S1024x16 .f32) (harg14 : arg14.IsWhole) (arg15 : Memref sig .tc .vmem S1x128x2048 .f32) (harg15 : arg15.IsWhole) (arg16 : Memref sig .tc .vmem S128x1024 .f32) (harg16 : arg16.IsWhole)
  (arg17 : Memref sig .tc .vmem S8x2048 .f32) (harg17 : arg17.IsWhole) (arg18 : Memref sig .tc .vmem S136x2048 .f32) (harg18 : arg18.IsWhole) (arg19 : Memref sig .tc .vmem S8x16x128x16 .f32) (harg19 : arg19.IsWhole)
  (arg20 : Memref sig .tc .vmem S16x128x1024 .f32) (harg20 : arg20.IsWhole) (arg21 : Memref sig .tc .vmem S16x128x1024 .f32) (harg21 : arg21.IsWhole) (arg22 : Memref sig .tc .vmem S128x1024 .f32) (harg22 : arg22.IsWhole)
  (arg23 : Memref sig .tc .vmem S128x1024 .f32) (harg23 : arg23.IsWhole) (arg24 : Memref sig .tc .vmem S8x16x128x16 .f32) (harg24 : arg24.IsWhole)

attribute [local irreducible] Scf.trips

set_option maxHeartbeats 1000000 in
/-- The third block, and the fourth up to its rows. -/
theorem part5_run (c : Dev nD) (i : grid0.Coords) (x : Chunk F) (T : Vec F S8x2048 .f32) (S : Vec F S128x1024 .f32) (g24 : Vec F S8x16x128x16 .f32) (g21 : Vec F S16x128x1024 .f32) (E : Set ℕ) :
    Blk (F := F) arg6 arg9 arg13 arg14 arg16 arg19 arg20 arg21 arg22 arg23 arg24 c x T S g24 (x.Bm) 2 2 (x.ub T 2) g21
      ⊢ wp frame (wpE (defs₀ (F := F)) Variants.none c none) E (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (k0_pay15 x.Dt) (k0_pay16 x.E) (k0_pay17 x.K) (k0_pay30 (x.us T 2)) 0#32 16#32)
        (fun v => iprop(Blk (F := F) arg6 arg9 arg13 arg14 arg16 arg19 arg20 arg21 arg22 arg23 arg24 c x T S g24 x.Bm 4 3 (x.ub T 3) (x.prod T S 3) ∗ ⌜v = k0_pay41 (k0_pay15 x.Dt) (k0_pay17 x.K) (x.us T 3) (x.prod T S 3)⌝)) := by
  rw [k0_part5_eq_skeleton]; unfold k0_part5_skel Blk owns
  iintro ⟨⟨%f6, %hf6, H6⟩, ⟨%f9, %hf9, H9⟩, ⟨%f13, %hf13, H13⟩, ⟨%f14, %hf14, H14⟩, ⟨%f19, %hf19, H19⟩, ⟨%f22, %hf22, H22⟩, ⟨%f23, %hf23, H23⟩, ⟨%f16, %hf16, H16⟩, ⟨%f24, %hf24, H24⟩, ⟨%f20, %hf20, H20⟩, ⟨%f21, %hf21, H21⟩⟩
  sl_exec
  sl_step
  isplitl [H6 H9 H13 H14 H19 H22 H23 H16 H24 H20 H21]; swap
  · ipureintro; exact (congr (congrArg (k0_pay41 (k0_pay15 x.Dt) (k0_pay17 x.K)) (rdus _ x T 3 (by decide) hf19 _)) ((rdw _ _ off3_zero _).trans (loop_prod _ _ x T S 3 hf6 hf22 hf23 ((write_whole _ _ off3_zero _ _).trans ((pay37 _ _).trans (ub_eq x T 3 rfl (rdus _ x T 3 (by decide) hf19 _)))) (loop_state _ _ x T S 2 hf22 hf23 hf20 hf16 trips3) trips4)))
  isplitl [H6]
  · iexists _; isplitr; swap; · iexact H6
    ipureintro; exact hf6
  isplitl [H9]
  · iexists _; isplitr; swap; · iexact H9
    ipureintro; exact hf9
  isplitl [H13]
  · iexists _; isplitr; swap; · iexact H13
    ipureintro; exact hf13
  isplitl [H14]
  · iexists _; isplitr; swap; · iexact H14
    ipureintro; exact hf14
  isplitl [H19]
  · iexists _; isplitr; swap; · iexact H19
    ipureintro; exact hf19
  isplitl [H22]
  · iexists _; isplitr; swap; · iexact H22
    ipureintro; exact hf22
  isplitl [H23]
  · iexists _; isplitr; swap; · iexact H23
    ipureintro; exact hf23
  isplitl [H16]
  · iexists _; isplitr; swap; · iexact H16
    ipureintro; exact (loop_state _ _ x T S 3 hf22 hf23 ((write_whole _ _ off3_zero _ _).trans ((pay37 _ _).trans (ub_eq x T 3 rfl (rdus _ x T 3 (by decide) hf19 _)))) (loop_state _ _ x T S 2 hf22 hf23 hf20 hf16 trips3) trips4)
  isplitl [H24]
  · iexists _; isplitr; swap; · iexact H24
    ipureintro; exact (write_y _ x T S g24 _ 2 (by decide) _ hf24 _ ((pay35 _ _ _ _).trans (y_eq x T S 2 rfl rfl rfl ((rdw _ _ off3_zero _).trans (loop_prod _ _ x T S 2 hf6 hf22 hf23 hf20 hf16 trips3)))))
  isplitl [H20]
  · iexists _; isplitr; swap; · iexact H20
    ipureintro; exact ((write_whole _ _ off3_zero _ _).trans ((pay37 _ _).trans (ub_eq x T 3 rfl (rdus _ x T 3 (by decide) hf19 _))))
  iexists _; isplitr; swap; · iexact H21
  ipureintro; exact (loop_prod _ _ x T S 3 hf6 hf22 hf23 ((write_whole _ _ off3_zero _ _).trans ((pay37 _ _).trans (ub_eq x T 3 rfl (rdus _ x T 3 (by decide) hf19 _)))) (loop_state _ _ x T S 2 hf22 hf23 hf20 hf16 trips3) trips4)

end Args
end Cert.KernelIdeal.Scan
-- ==== Proof.Scan.P6.lean ====
/- The fifth block of sixteen steps. -/
module

public import proofs.«01_k».proof.Proof.Scan.Blk

@[expose] public section

set_option maxRecDepth 16384

noncomputable section

namespace Cert.KernelIdeal.Scan

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

section Args
variable (arg2 : Memref sig .tc .vmem S1x128x2048 .f32) (harg2 : arg2.IsWhole) (arg3 : Memref sig .tc .vmem S1x128x2048 .f32) (harg3 : arg3.IsWhole) (arg4 : Memref sig .tc .vmem S1x128x1024 .f32) (harg4 : arg4.IsWhole)
  (arg5 : Memref sig .tc .vmem S1x128x1024 .f32) (harg5 : arg5.IsWhole) (arg6 : Memref sig .tc .vmem S1x128x1024 .f32) (harg6 : arg6.IsWhole) (arg7 : Memref sig .tc .vmem S1x128x2048 .f32) (harg7 : arg7.IsWhole)
  (arg8 : Memref sig .tc .vmem S1x1024 .f32) (harg8 : arg8.IsWhole) (arg9 : Memref sig .tc .vmem S128x16 .f32) (harg9 : arg9.IsWhole) (arg10 : Memref sig .tc .vmem S4x2048 .f32) (harg10 : arg10.IsWhole)
  (arg11 : Memref sig .tc .vmem S1x2048 .f32) (harg11 : arg11.IsWhole) (arg12 : Memref sig .tc .vmem S1x2048 .f32) (harg12 : arg12.IsWhole) (arg13 : Memref sig .tc .vmem S16x1024 .f32) (harg13 : arg13.IsWhole)
  (arg14 : Memref sig .tc .vmem S1024x16 .f32) (harg14 : arg14.IsWhole) (arg15 : Memref sig .tc .vmem S1x128x2048 .f32) (harg15 : arg15.IsWhole) (arg16 : Memref sig .tc .vmem S128x1024 .f32) (harg16 : arg16.IsWhole)
  (arg17 : Memref sig .tc .vmem S8x2048 .f32) (harg17 : arg17.IsWhole) (arg18 : Memref sig .tc .vmem S136x2048 .f32) (harg18 : arg18.IsWhole) (arg19 : Memref sig .tc .vmem S8x16x128x16 .f32) (harg19 : arg19.IsWhole)
  (arg20 : Memref sig .tc .vmem S16x128x1024 .f32) (harg20 : arg20.IsWhole) (arg21 : Memref sig .tc .vmem S16x128x1024 .f32) (harg21 : arg21.IsWhole) (arg22 : Memref sig .tc .vmem S128x1024 .f32) (harg22 : arg22.IsWhole)
  (arg23 : Memref sig .tc .vmem S128x1024 .f32) (harg23 : arg23.IsWhole) (arg24 : Memref sig .tc .vmem S8x16x128x16 .f32) (harg24 : arg24.IsWhole)

set_option maxHeartbeats 1000000 in
/-- The fourth block's rows, the fifth block, and what the sixth reads. -/
theorem part6_run (c : Dev nD) (i : grid0.Coords) (x : Chunk F) (T : Vec F S8x2048 .f32) (S : Vec F S128x1024 .f32) (g24 : Vec F S8x16x128x16 .f32)  (E : Set ℕ) :
    Blk (F := F) arg6 arg9 arg13 arg14 arg16 arg19 arg20 arg21 arg22 arg23 arg24 c x T S g24 (x.Bm) 4 3 (x.ub T 3) (x.prod T S 3)
      ⊢ wp frame (wpE (defs₀ (F := F)) Variants.none c none) E (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (k0_pay15 x.Dt) (k0_pay16 x.E) (k0_pay17 x.K) (k0_pay41 (k0_pay15 x.Dt) (k0_pay17 x.K) (x.us T 3) (x.prod T S 3)))
        (fun v => iprop(Blk (F := F) arg6 arg9 arg13 arg14 arg16 arg19 arg20 arg21 arg22 arg23 arg24 c x T S g24 x.Bm 5 5 (x.ub T 4) (x.prod T S 4) ∗ ⌜v = ⟨k0_pay49 (x.us T 5), k0_pay50 (k0_pay16 x.E) (x.us T 5)⟩⌝)) := by
  rw [k0_part6_eq_skeleton]; unfold k0_part6_skel Blk owns
  iintro ⟨⟨%f6, %hf6, H6⟩, ⟨%f9, %hf9, H9⟩, ⟨%f13, %hf13, H13⟩, ⟨%f14, %hf14, H14⟩, ⟨%f19, %hf19, H19⟩, ⟨%f22, %hf22, H22⟩, ⟨%f23, %hf23, H23⟩, ⟨%f16, %hf16, H16⟩, ⟨%f24, %hf24, H24⟩, ⟨%f20, %hf20, H20⟩, ⟨%f21, %hf21, H21⟩⟩
  sl_exec
  sl_step
  isplitl [H6 H9 H13 H14 H19 H22 H23 H16 H24 H20 H21]; swap
  · ipureintro; exact (congrArg (fun v => (⟨k0_pay49 v, k0_pay50 (k0_pay16 x.E) v⟩ : Σ' (_ : FVec F S16x128x16 .f32), FVec F S16x128x1024 .f32)) (rdus _ x T 5 (by decide) hf19 _))
  isplitl [H6]
  · iexists _; isplitr; swap; · iexact H6
    ipureintro; exact hf6
  isplitl [H9]
  · iexists _; isplitr; swap; · iexact H9
    ipureintro; exact hf9
  isplitl [H13]
  · iexists _; isplitr; swap; · iexact H13
    ipureintro; exact hf13
  isplitl [H14]
  · iexists _; isplitr; swap; · iexact H14
    ipureintro; exact hf14
  isplitl [H19]
  · iexists _; isplitr; swap; · iexact H19
    ipureintro; exact hf19
  isplitl [H22]
  · iexists _; isplitr; swap; · iexact H22
    ipureintro; exact hf22
  isplitl [H23]
  · iexists _; isplitr; swap; · iexact H23
    ipureintro; exact hf23
  isplitl [H16]
  · iexists _; isplitr; swap; · iexact H16
    ipureintro; exact (loop_state _ _ x T S 4 hf22 hf23 ((write_whole _ _ off3_zero _ _).trans ((pay44 _ _).trans (ub_eq x T 4 rfl (rdus _ x T 4 (by decide) hf19 _)))) hf16 trips5)
  isplitl [H24]
  · iexists _; isplitr; swap; · iexact H24
    ipureintro; exact (write_y _ x T S g24 _ 4 (by decide) _ (write_y _ x T S g24 _ 3 (by decide) _ hf24 _ ((pay42 _ _ _ _).trans (y_eq x T S 3 rfl rfl rfl rfl))) _ ((pay48 _ _ _ _).trans (y_eq x T S 4 rfl rfl (rdus _ x T 4 (by decide) hf19 _) ((rdw _ _ off3_zero _).trans (loop_prod _ _ x T S 4 hf6 hf22 hf23 ((write_whole _ _ off3_zero _ _).trans ((pay44 _ _).trans (ub_eq x T 4 rfl (rdus _ x T 4 (by decide) hf19 _)))) hf16 trips5)))))
  isplitl [H20]
  · iexists _; isplitr; swap; · iexact H20
    ipureintro; exact ((write_whole _ _ off3_zero _ _).trans ((pay44 _ _).trans (ub_eq x T 4 rfl (rdus _ x T 4 (by decide) hf19 _))))
  iexists _; isplitr; swap; · iexact H21
  ipureintro; exact (loop_prod _ _ x T S 4 hf6 hf22 hf23 ((write_whole _ _ off3_zero _ _).trans ((pay44 _ _).trans (ub_eq x T 4 rfl (rdus _ x T 4 (by decide) hf19 _)))) hf16 trips5)

end Args
end Cert.KernelIdeal.Scan
-- ==== Proof.Scan.P7.lean ====
/- The sixth and the seventh block of sixteen steps. -/
module

public import proofs.«01_k».proof.Proof.Scan.Blk

@[expose] public section

set_option maxRecDepth 16384

noncomputable section

namespace Cert.KernelIdeal.Scan

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

section Args
variable (arg2 : Memref sig .tc .vmem S1x128x2048 .f32) (harg2 : arg2.IsWhole) (arg3 : Memref sig .tc .vmem S1x128x2048 .f32) (harg3 : arg3.IsWhole) (arg4 : Memref sig .tc .vmem S1x128x1024 .f32) (harg4 : arg4.IsWhole)
  (arg5 : Memref sig .tc .vmem S1x128x1024 .f32) (harg5 : arg5.IsWhole) (arg6 : Memref sig .tc .vmem S1x128x1024 .f32) (harg6 : arg6.IsWhole) (arg7 : Memref sig .tc .vmem S1x128x2048 .f32) (harg7 : arg7.IsWhole)
  (arg8 : Memref sig .tc .vmem S1x1024 .f32) (harg8 : arg8.IsWhole) (arg9 : Memref sig .tc .vmem S128x16 .f32) (harg9 : arg9.IsWhole) (arg10 : Memref sig .tc .vmem S4x2048 .f32) (harg10 : arg10.IsWhole)
  (arg11 : Memref sig .tc .vmem S1x2048 .f32) (harg11 : arg11.IsWhole) (arg12 : Memref sig .tc .vmem S1x2048 .f32) (harg12 : arg12.IsWhole) (arg13 : Memref sig .tc .vmem S16x1024 .f32) (harg13 : arg13.IsWhole)
  (arg14 : Memref sig .tc .vmem S1024x16 .f32) (harg14 : arg14.IsWhole) (arg15 : Memref sig .tc .vmem S1x128x2048 .f32) (harg15 : arg15.IsWhole) (arg16 : Memref sig .tc .vmem S128x1024 .f32) (harg16 : arg16.IsWhole)
  (arg17 : Memref sig .tc .vmem S8x2048 .f32) (harg17 : arg17.IsWhole) (arg18 : Memref sig .tc .vmem S136x2048 .f32) (harg18 : arg18.IsWhole) (arg19 : Memref sig .tc .vmem S8x16x128x16 .f32) (harg19 : arg19.IsWhole)
  (arg20 : Memref sig .tc .vmem S16x128x1024 .f32) (harg20 : arg20.IsWhole) (arg21 : Memref sig .tc .vmem S16x128x1024 .f32) (harg21 : arg21.IsWhole) (arg22 : Memref sig .tc .vmem S128x1024 .f32) (harg22 : arg22.IsWhole)
  (arg23 : Memref sig .tc .vmem S128x1024 .f32) (harg23 : arg23.IsWhole) (arg24 : Memref sig .tc .vmem S8x16x128x16 .f32) (harg24 : arg24.IsWhole)

attribute [local irreducible] Scf.trips

set_option maxHeartbeats 1000000 in
/-- The sixth block, and the seventh up to its products. -/
theorem part7_run (c : Dev nD) (i : grid0.Coords) (x : Chunk F) (T : Vec F S8x2048 .f32) (S : Vec F S128x1024 .f32) (g24 : Vec F S8x16x128x16 .f32)  (E : Set ℕ) :
    Blk (F := F) arg6 arg9 arg13 arg14 arg16 arg19 arg20 arg21 arg22 arg23 arg24 c x T S g24 (x.Bm) 5 5 (x.ub T 4) (x.prod T S 4)
      ⊢ wp frame (wpE (defs₀ (F := F)) Variants.none c none) E (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (k0_pay15 x.Dt) (k0_pay16 x.E) (k0_pay17 x.K) (k0_pay49 (x.us T 5)) (k0_pay50 (k0_pay16 x.E) (x.us T 5)))
        (fun v => iprop(Blk (F := F) arg6 arg9 arg13 arg14 arg16 arg19 arg20 arg21 arg22 arg23 arg24 c x T S g24 x.Bm 7 6 (x.ub T 6) (x.prod T S 6) ∗ ⌜v = ⟨k0_pay56 (x.us T 6), x.prod T S 6⟩⌝)) := by
  rw [k0_part7_eq_skeleton]; unfold k0_part7_skel Blk owns
  iintro ⟨⟨%f6, %hf6, H6⟩, ⟨%f9, %hf9, H9⟩, ⟨%f13, %hf13, H13⟩, ⟨%f14, %hf14, H14⟩, ⟨%f19, %hf19, H19⟩, ⟨%f22, %hf22, H22⟩, ⟨%f23, %hf23, H23⟩, ⟨%f16, %hf16, H16⟩, ⟨%f24, %hf24, H24⟩, ⟨%f20, %hf20, H20⟩, ⟨%f21, %hf21, H21⟩⟩
  sl_exec
  sl_step
  isplitl [H6 H9 H13 H14 H19 H22 H23 H16 H24 H20 H21]; swap
  · ipureintro; exact (pair_eq (congrArg k0_pay56 (rdus _ x T 6 (by decide) hf19 _)) ((rdw _ _ off3_zero _).trans (loop_prod _ _ x T S 6 hf6 hf22 hf23 ((write_whole _ _ off3_zero _ _).trans ((pay57 _ _).trans (ub_eq x T 6 rfl (rdus _ x T 6 (by decide) hf19 _)))) (loop_state _ _ x T S 5 hf22 hf23 ((write_whole _ _ off3_zero _ _).trans ((pay51 _ _).trans (ub_eq x T 5 rfl rfl))) hf16 trips6) trips7)))
  isplitl [H6]
  · iexists _; isplitr; swap; · iexact H6
    ipureintro; exact hf6
  isplitl [H9]
  · iexists _; isplitr; swap; · iexact H9
    ipureintro; exact hf9
  isplitl [H13]
  · iexists _; isplitr; swap; · iexact H13
    ipureintro; exact hf13
  isplitl [H14]
  · iexists _; isplitr; swap; · iexact H14
    ipureintro; exact hf14
  isplitl [H19]
  · iexists _; isplitr; swap; · iexact H19
    ipureintro; exact hf19
  isplitl [H22]
  · iexists _; isplitr; swap; · iexact H22
    ipureintro; exact hf22
  isplitl [H23]
  · iexists _; isplitr; swap; · iexact H23
    ipureintro; exact hf23
  isplitl [H16]
  · iexists _; isplitr; swap; · iexact H16
    ipureintro; exact (loop_state _ _ x T S 6 hf22 hf23 ((write_whole _ _ off3_zero _ _).trans ((pay57 _ _).trans (ub_eq x T 6 rfl (rdus _ x T 6 (by decide) hf19 _)))) (loop_state _ _ x T S 5 hf22 hf23 ((write_whole _ _ off3_zero _ _).trans ((pay51 _ _).trans (ub_eq x T 5 rfl rfl))) hf16 trips6) trips7)
  isplitl [H24]
  · iexists _; isplitr; swap; · iexact H24
    ipureintro; exact (write_y _ x T S g24 _ 5 (by decide) _ hf24 _ ((pay55 _ _ _ _).trans (y_eq x T S 5 rfl rfl rfl ((rdw _ _ off3_zero _).trans (loop_prod _ _ x T S 5 hf6 hf22 hf23 ((write_whole _ _ off3_zero _ _).trans ((pay51 _ _).trans (ub_eq x T 5 rfl rfl))) hf16 trips6)))))
  isplitl [H20]
  · iexists _; isplitr; swap; · iexact H20
    ipureintro; exact ((write_whole _ _ off3_zero _ _).trans ((pay57 _ _).trans (ub_eq x T 6 rfl (rdus _ x T 6 (by decide) hf19 _))))
  iexists _; isplitr; swap; · iexact H21
  ipureintro; exact (loop_prod _ _ x T S 6 hf6 hf22 hf23 ((write_whole _ _ off3_zero _ _).trans ((pay57 _ _).trans (ub_eq x T 6 rfl (rdus _ x T 6 (by decide) hf19 _)))) (loop_state _ _ x T S 5 hf22 hf23 ((write_whole _ _ off3_zero _ _).trans ((pay51 _ _).trans (ub_eq x T 5 rfl rfl))) hf16 trips6) trips7)

end Args
end Cert.KernelIdeal.Scan
-- ==== Proof.Scan.P8.lean ====
/- The eighth block of sixteen steps. -/
module

public import proofs.«01_k».proof.Proof.Scan.Blk

@[expose] public section

set_option maxRecDepth 16384

noncomputable section

namespace Cert.KernelIdeal.Scan

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

section Args
variable (arg2 : Memref sig .tc .vmem S1x128x2048 .f32) (harg2 : arg2.IsWhole) (arg3 : Memref sig .tc .vmem S1x128x2048 .f32) (harg3 : arg3.IsWhole) (arg4 : Memref sig .tc .vmem S1x128x1024 .f32) (harg4 : arg4.IsWhole)
  (arg5 : Memref sig .tc .vmem S1x128x1024 .f32) (harg5 : arg5.IsWhole) (arg6 : Memref sig .tc .vmem S1x128x1024 .f32) (harg6 : arg6.IsWhole) (arg7 : Memref sig .tc .vmem S1x128x2048 .f32) (harg7 : arg7.IsWhole)
  (arg8 : Memref sig .tc .vmem S1x1024 .f32) (harg8 : arg8.IsWhole) (arg9 : Memref sig .tc .vmem S128x16 .f32) (harg9 : arg9.IsWhole) (arg10 : Memref sig .tc .vmem S4x2048 .f32) (harg10 : arg10.IsWhole)
  (arg11 : Memref sig .tc .vmem S1x2048 .f32) (harg11 : arg11.IsWhole) (arg12 : Memref sig .tc .vmem S1x2048 .f32) (harg12 : arg12.IsWhole) (arg13 : Memref sig .tc .vmem S16x1024 .f32) (harg13 : arg13.IsWhole)
  (arg14 : Memref sig .tc .vmem S1024x16 .f32) (harg14 : arg14.IsWhole) (arg15 : Memref sig .tc .vmem S1x128x2048 .f32) (harg15 : arg15.IsWhole) (arg16 : Memref sig .tc .vmem S128x1024 .f32) (harg16 : arg16.IsWhole)
  (arg17 : Memref sig .tc .vmem S8x2048 .f32) (harg17 : arg17.IsWhole) (arg18 : Memref sig .tc .vmem S136x2048 .f32) (harg18 : arg18.IsWhole) (arg19 : Memref sig .tc .vmem S8x16x128x16 .f32) (harg19 : arg19.IsWhole)
  (arg20 : Memref sig .tc .vmem S16x128x1024 .f32) (harg20 : arg20.IsWhole) (arg21 : Memref sig .tc .vmem S16x128x1024 .f32) (harg21 : arg21.IsWhole) (arg22 : Memref sig .tc .vmem S128x1024 .f32) (harg22 : arg22.IsWhole)
  (arg23 : Memref sig .tc .vmem S128x1024 .f32) (harg23 : arg23.IsWhole) (arg24 : Memref sig .tc .vmem S8x16x128x16 .f32) (harg24 : arg24.IsWhole)

set_option maxHeartbeats 1000000 in
/-- The seventh block's rows, and the eighth block. -/
theorem part8_run (c : Dev nD) (i : grid0.Coords) (x : Chunk F) (T : Vec F S8x2048 .f32) (S : Vec F S128x1024 .f32) (g24 : Vec F S8x16x128x16 .f32)  (E : Set ℕ) :
    Blk (F := F) arg6 arg9 arg13 arg14 arg16 arg19 arg20 arg21 arg22 arg23 arg24 c x T S g24 (x.Bm) 7 6 (x.ub T 6) (x.prod T S 6)
      ⊢ wp frame (wpE (defs₀ (F := F)) Variants.none c none) E (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (k0_pay15 x.Dt) (k0_pay16 x.E) (k0_pay17 x.K) (k0_pay56 (x.us T 6)) (x.prod T S 6))
        (fun v => iprop(Blk (F := F) arg6 arg9 arg13 arg14 arg16 arg19 arg20 arg21 arg22 arg23 arg24 c x T S g24 x.Bm 8 8 (x.ub T 7) (x.prod T S 7) ∗ ⌜v = ⟨⟩⌝)) := by
  rw [k0_part8_eq_skeleton]; unfold k0_part8_skel Blk owns
  iintro ⟨⟨%f6, %hf6, H6⟩, ⟨%f9, %hf9, H9⟩, ⟨%f13, %hf13, H13⟩, ⟨%f14, %hf14, H14⟩, ⟨%f19, %hf19, H19⟩, ⟨%f22, %hf22, H22⟩, ⟨%f23, %hf23, H23⟩, ⟨%f16, %hf16, H16⟩, ⟨%f24, %hf24, H24⟩, ⟨%f20, %hf20, H20⟩, ⟨%f21, %hf21, H21⟩⟩
  sl_exec
  sl_step
  isplitl [H6 H9 H13 H14 H19 H22 H23 H16 H24 H20 H21]; swap
  · ipureintro; exact rfl
  isplitl [H6]
  · iexists _; isplitr; swap; · iexact H6
    ipureintro; exact hf6
  isplitl [H9]
  · iexists _; isplitr; swap; · iexact H9
    ipureintro; exact hf9
  isplitl [H13]
  · iexists _; isplitr; swap; · iexact H13
    ipureintro; exact hf13
  isplitl [H14]
  · iexists _; isplitr; swap; · iexact H14
    ipureintro; exact hf14
  isplitl [H19]
  · iexists _; isplitr; swap; · iexact H19
    ipureintro; exact hf19
  isplitl [H22]
  · iexists _; isplitr; swap; · iexact H22
    ipureintro; exact hf22
  isplitl [H23]
  · iexists _; isplitr; swap; · iexact H23
    ipureintro; exact hf23
  isplitl [H16]
  · iexists _; isplitr; swap; · iexact H16
    ipureintro; exact (loop_state _ _ x T S 7 hf22 hf23 ((write_whole _ _ off3_zero _ _).trans ((pay63 _ _).trans (ub_eq x T 7 rfl (rdus _ x T 7 (by decide) hf19 _)))) hf16 trips8)
  isplitl [H24]
  · iexists _; isplitr; swap; · iexact H24
    ipureintro; exact (write_y _ x T S g24 _ 7 (by decide) _ (write_y _ x T S g24 _ 6 (by decide) _ hf24 _ ((pay61 _ _ _ _).trans (y_eq x T S 6 rfl rfl rfl rfl))) _ ((pay67 _ _ _ _).trans (y_eq x T S 7 rfl rfl (rdus _ x T 7 (by decide) hf19 _) ((rdw _ _ off3_zero _).trans (loop_prod _ _ x T S 7 hf6 hf22 hf23 ((write_whole _ _ off3_zero _ _).trans ((pay63 _ _).trans (ub_eq x T 7 rfl (rdus _ x T 7 (by decide) hf19 _)))) hf16 trips8)))))
  isplitl [H20]
  · iexists _; isplitr; swap; · iexact H20
    ipureintro; exact ((write_whole _ _ off3_zero _ _).trans ((pay63 _ _).trans (ub_eq x T 7 rfl (rdus _ x T 7 (by decide) hf19 _))))
  iexists _; isplitr; swap; · iexact H21
  ipureintro; exact (loop_prod _ _ x T S 7 hf6 hf22 hf23 ((write_whole _ _ off3_zero _ _).trans ((pay63 _ _).trans (ub_eq x T 7 rfl (rdus _ x T 7 (by decide) hf19 _)))) hf16 trips8)

end Args
end Cert.KernelIdeal.Scan
-- ==== Proof.Scan.Body.lean ====
/- The kernel's body: what it leaves in its buffers, from what it finds there. -/
module

public import proofs.«01_k».proof.Proof.Scan.P1
public import proofs.«01_k».proof.Proof.Scan.P2
public import proofs.«01_k».proof.Proof.Scan.P3
public import proofs.«01_k».proof.Proof.Scan.P4
public import proofs.«01_k».proof.Proof.Scan.P5
public import proofs.«01_k».proof.Proof.Scan.P6
public import proofs.«01_k».proof.Proof.Scan.P7
public import proofs.«01_k».proof.Proof.Scan.P8

@[expose] public section

set_option maxRecDepth 16384

noncomputable section

namespace Cert.KernelIdeal.Scan

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- A program after another: the first's result is what the second starts from. -/
theorem wp_seq {α β : Type} {c : Dev nD} {E : Set ℕ} {R P P' : sProp 𝕄} {p : Prog (TpuEff nD τ sig (Elt F) Λ₀ .tc) α}
    {k : α → Prog (TpuEff nD τ sig (Elt F) Λ₀ .tc) β} {Q : β → sProp 𝕄} (v₀ : α)
    (h : P ⊢ wp frame (wpE (defs₀ (F := F)) Variants.none c none) E p (fun v => iprop(P' ∗ ⌜v = v₀⌝)))
    (hk : iprop(R ∗ P') ⊢ wp frame (wpE (defs₀ (F := F)) Variants.none c none) E (k v₀) Q) :
    iprop(R ∗ P) ⊢ wp frame (wpE (defs₀ (F := F)) Variants.none c none) E (p >>= k) Q := by
  rw [wp_bind]
  refine (sep_mono .rfl h).trans ((wp_frame_l _ _ _).trans (wp_mono _ _ _ fun v => ?_))
  iintro ⟨HR, HP, %hv⟩
  subst hv
  iapply hk
  isplitl [HR]
  · iexact HR
  iexact HP

section Args
variable (arg2 : Memref sig .tc .vmem S1x128x2048 .f32) (harg2 : arg2.IsWhole) (arg3 : Memref sig .tc .vmem S1x128x2048 .f32) (harg3 : arg3.IsWhole) (arg4 : Memref sig .tc .vmem S1x128x1024 .f32) (harg4 : arg4.IsWhole)
  (arg5 : Memref sig .tc .vmem S1x128x1024 .f32) (harg5 : arg5.IsWhole) (arg6 : Memref sig .tc .vmem S1x128x1024 .f32) (harg6 : arg6.IsWhole) (arg7 : Memref sig .tc .vmem S1x128x2048 .f32) (harg7 : arg7.IsWhole)
  (arg8 : Memref sig .tc .vmem S1x1024 .f32) (harg8 : arg8.IsWhole) (arg9 : Memref sig .tc .vmem S128x16 .f32) (harg9 : arg9.IsWhole) (arg10 : Memref sig .tc .vmem S4x2048 .f32) (harg10 : arg10.IsWhole)
  (arg11 : Memref sig .tc .vmem S1x2048 .f32) (harg11 : arg11.IsWhole) (arg12 : Memref sig .tc .vmem S1x2048 .f32) (harg12 : arg12.IsWhole) (arg13 : Memref sig .tc .vmem S16x1024 .f32) (harg13 : arg13.IsWhole)
  (arg14 : Memref sig .tc .vmem S1024x16 .f32) (harg14 : arg14.IsWhole) (arg15 : Memref sig .tc .vmem S1x128x2048 .f32) (harg15 : arg15.IsWhole) (arg16 : Memref sig .tc .vmem S128x1024 .f32) (harg16 : arg16.IsWhole)
  (arg17 : Memref sig .tc .vmem S8x2048 .f32) (harg17 : arg17.IsWhole) (arg18 : Memref sig .tc .vmem S136x2048 .f32) (harg18 : arg18.IsWhole) (arg19 : Memref sig .tc .vmem S8x16x128x16 .f32) (harg19 : arg19.IsWhole)
  (arg20 : Memref sig .tc .vmem S16x128x1024 .f32) (harg20 : arg20.IsWhole) (arg21 : Memref sig .tc .vmem S16x128x1024 .f32) (harg21 : arg21.IsWhole) (arg22 : Memref sig .tc .vmem S128x1024 .f32) (harg22 : arg22.IsWhole)
  (arg23 : Memref sig .tc .vmem S128x1024 .f32) (harg23 : arg23.IsWhole) (arg24 : Memref sig .tc .vmem S8x16x128x16 .f32) (harg24 : arg24.IsWhole)

set_option maxHeartbeats 1000000 in
/-- The kernel body at a batch's first chunk. -/
theorem body_first (c : Dev nD) (i : grid0.Coords) (x : Chunk F) (T : Vec F S8x2048 .f32) (S : Vec F S128x1024 .f32) (g15 : Vec F S1x128x2048 .f32) (g18 : Vec F S136x2048 .f32) (g19 : Vec F S8x16x128x16 .f32) (g20 : Vec F S16x128x1024 .f32) (g21 : Vec F S16x128x1024 .f32) (g22 : Vec F S128x1024 .f32) (g23 : Vec F S128x1024 .f32) (g24 : Vec F S8x16x128x16 .f32) (E : Set ℕ) (hc : ((Scalar.cmpi .ne (Scalar.extui (Scalar.cmpi .eq (BitVec.ofNat 32 (i 1).val) 0#32)) 0#32) = 1#1)) :
    (iprop(owns (c : Thread nD τ) arg2 fullShare (x.z) ∗ owns (c : Thread nD τ) arg3 fullShare (x.u) ∗ owns (c : Thread nD τ) arg4 fullShare (x.dtE) ∗ owns (c : Thread nD τ) arg5 fullShare (x.B) ∗ owns (c : Thread nD τ) arg6 fullShare (x.C) ∗ owns (c : Thread nD τ) arg7 fullShare (x.r) ∗ owns (c : Thread nD τ) arg8 fullShare (x.Af) ∗ owns (c : Thread nD τ) arg9 fullShare (x.Dt) ∗ owns (c : Thread nD τ) arg10 fullShare (x.cw) ∗ owns (c : Thread nD τ) arg11 fullShare (x.cb) ∗ owns (c : Thread nD τ) arg12 fullShare (x.nw) ∗ owns (c : Thread nD τ) arg13 fullShare (x.E) ∗ owns (c : Thread nD τ) arg14 fullShare (x.K) ∗ owns (c : Thread nD τ) arg15 fullShare (g15) ∗ owns (c : Thread nD τ) arg16 fullShare (S) ∗ owns (c : Thread nD τ) arg17 fullShare (T) ∗ owns (c : Thread nD τ) arg18 fullShare (g18) ∗ owns (c : Thread nD τ) arg19 fullShare (g19) ∗ owns (c : Thread nD τ) arg20 fullShare (g20) ∗ owns (c : Thread nD τ) arg21 fullShare (g21) ∗ owns (c : Thread nD τ) arg22 fullShare (g22) ∗ owns (c : Thread nD τ) arg23 fullShare (g23) ∗ owns (c : Thread nD τ) arg24 fullShare (g24)) : sProp 𝕄)
      ⊢ wp frame (wpE (defs₀ (F := F)) Variants.none c none) E (cc0_ssd_fused_scan (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24)
        (fun _ => (iprop(owns (c : Thread nD τ) arg2 fullShare (x.z) ∗ owns (c : Thread nD τ) arg3 fullShare (x.u) ∗ owns (c : Thread nD τ) arg4 fullShare (x.dtE) ∗ owns (c : Thread nD τ) arg5 fullShare (x.B) ∗ owns (c : Thread nD τ) arg6 fullShare (x.C) ∗ owns (c : Thread nD τ) arg7 fullShare (x.r) ∗ owns (c : Thread nD τ) arg8 fullShare (x.Af) ∗ owns (c : Thread nD τ) arg9 fullShare (x.Dt) ∗ owns (c : Thread nD τ) arg10 fullShare (x.cw) ∗ owns (c : Thread nD τ) arg11 fullShare (x.cb) ∗ owns (c : Thread nD τ) arg12 fullShare (x.nw) ∗ owns (c : Thread nD τ) arg13 fullShare (x.E) ∗ owns (c : Thread nD τ) arg14 fullShare (x.K) ∗ owns (c : Thread nD τ) arg15 fullShare (x.out (k0_pay3 (F := F)) k0_pay2 (F := F)) ∗ owns (c : Thread nD τ) arg16 fullShare (x.st (k0_pay3 (F := F)) k0_pay2 (F := F) 8) ∗ owns (c : Thread nD τ) arg17 fullShare (x.tail) ∗ owns (c : Thread nD τ) arg18 fullShare (x.ext (k0_pay3 (F := F))) ∗ owns (c : Thread nD τ) arg19 fullShare (x.conv (k0_pay3 (F := F))) ∗ owns (c : Thread nD τ) arg20 fullShare (x.ub (k0_pay3 (F := F)) 7) ∗ owns (c : Thread nD τ) arg21 fullShare (x.prod (k0_pay3 (F := F)) k0_pay2 (F := F) 7) ∗ owns (c : Thread nD τ) arg22 fullShare (x.dA) ∗ owns (c : Thread nD τ) arg23 fullShare (x.Bm) ∗ owns (c : Thread nD τ) arg24 fullShare (x.ys (k0_pay3 (F := F)) k0_pay2 (F := F))) : sProp 𝕄)) := by
  rw [cc0_ssd_fused_scan_eq_skeleton]; unfold cc0_ssd_fused_scan_skel
  have hin : (iprop(owns (c : Thread nD τ) arg2 fullShare (x.z) ∗ owns (c : Thread nD τ) arg3 fullShare (x.u) ∗ owns (c : Thread nD τ) arg4 fullShare (x.dtE) ∗ owns (c : Thread nD τ) arg5 fullShare (x.B) ∗ owns (c : Thread nD τ) arg6 fullShare (x.C) ∗ owns (c : Thread nD τ) arg7 fullShare (x.r) ∗ owns (c : Thread nD τ) arg8 fullShare (x.Af) ∗ owns (c : Thread nD τ) arg9 fullShare (x.Dt) ∗ owns (c : Thread nD τ) arg10 fullShare (x.cw) ∗ owns (c : Thread nD τ) arg11 fullShare (x.cb) ∗ owns (c : Thread nD τ) arg12 fullShare (x.nw) ∗ owns (c : Thread nD τ) arg13 fullShare (x.E) ∗ owns (c : Thread nD τ) arg14 fullShare (x.K) ∗ owns (c : Thread nD τ) arg15 fullShare (g15) ∗ owns (c : Thread nD τ) arg16 fullShare (S) ∗ owns (c : Thread nD τ) arg17 fullShare (T) ∗ owns (c : Thread nD τ) arg18 fullShare (g18) ∗ owns (c : Thread nD τ) arg19 fullShare (g19) ∗ owns (c : Thread nD τ) arg20 fullShare (g20) ∗ owns (c : Thread nD τ) arg21 fullShare (g21) ∗ owns (c : Thread nD τ) arg22 fullShare (g22) ∗ owns (c : Thread nD τ) arg23 fullShare (g23) ∗ owns (c : Thread nD τ) arg24 fullShare (g24)) : sProp 𝕄) ⊢ iprop((owns (c : Thread nD τ) arg2 fullShare (x.z) ∗ owns (c : Thread nD τ) arg4 fullShare (x.dtE) ∗ owns (c : Thread nD τ) arg5 fullShare (x.B) ∗ owns (c : Thread nD τ) arg6 fullShare (x.C) ∗ owns (c : Thread nD τ) arg7 fullShare (x.r) ∗ owns (c : Thread nD τ) arg8 fullShare (x.Af) ∗ owns (c : Thread nD τ) arg9 fullShare (x.Dt) ∗ owns (c : Thread nD τ) arg12 fullShare (x.nw) ∗ owns (c : Thread nD τ) arg13 fullShare (x.E) ∗ owns (c : Thread nD τ) arg14 fullShare (x.K) ∗ owns (c : Thread nD τ) arg15 fullShare (g15) ∗ owns (c : Thread nD τ) arg19 fullShare (g19) ∗ owns (c : Thread nD τ) arg20 fullShare (g20) ∗ owns (c : Thread nD τ) arg21 fullShare (g21) ∗ owns (c : Thread nD τ) arg22 fullShare (g22) ∗ owns (c : Thread nD τ) arg23 fullShare (g23) ∗ owns (c : Thread nD τ) arg24 fullShare (g24)) ∗ (owns (c : Thread nD τ) arg3 fullShare (x.u) ∗ owns (c : Thread nD τ) arg10 fullShare (x.cw) ∗ owns (c : Thread nD τ) arg11 fullShare (x.cb) ∗ owns (c : Thread nD τ) arg16 fullShare (S) ∗ owns (c : Thread nD τ) arg17 fullShare (T) ∗ owns (c : Thread nD τ) arg18 fullShare (g18))) := by
    iintro ⟨H2, H3, H4, H5, H6, H7, H8, H9, H10, H11, H12, H13, H14, H15, H16, H17, H18, H19, H20, H21, H22, H23, H24⟩
    isplitl [H2 H4 H5 H6 H7 H8 H9 H12 H13 H14 H15 H19 H20 H21 H22 H23 H24]
    · isplitl [H2]; · iexact H2
      isplitl [H4]; · iexact H4
      isplitl [H5]; · iexact H5
      isplitl [H6]; · iexact H6
      isplitl [H7]; · iexact H7
      isplitl [H8]; · iexact H8
      isplitl [H9]; · iexact H9
      isplitl [H12]; · iexact H12
      isplitl [H13]; · iexact H13
      isplitl [H14]; · iexact H14
      isplitl [H15]; · iexact H15
      isplitl [H19]; · iexact H19
      isplitl [H20]; · iexact H20
      isplitl [H21]; · iexact H21
      isplitl [H22]; · iexact H22
      isplitl [H23]; · iexact H23
      iexact H24
    · isplitl [H3]; · iexact H3
      isplitl [H10]; · iexact H10
      isplitl [H11]; · iexact H11
      isplitl [H16]; · iexact H16
      isplitl [H17]; · iexact H17
      iexact H18

  refine hin.trans (wp_seq _ (part1_first arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i x T S g18 E hc) ?_)
  have h2 : iprop((owns (c : Thread nD τ) arg2 fullShare (x.z) ∗ owns (c : Thread nD τ) arg4 fullShare (x.dtE) ∗ owns (c : Thread nD τ) arg5 fullShare (x.B) ∗ owns (c : Thread nD τ) arg6 fullShare (x.C) ∗ owns (c : Thread nD τ) arg7 fullShare (x.r) ∗ owns (c : Thread nD τ) arg8 fullShare (x.Af) ∗ owns (c : Thread nD τ) arg9 fullShare (x.Dt) ∗ owns (c : Thread nD τ) arg12 fullShare (x.nw) ∗ owns (c : Thread nD τ) arg13 fullShare (x.E) ∗ owns (c : Thread nD τ) arg14 fullShare (x.K) ∗ owns (c : Thread nD τ) arg15 fullShare (g15) ∗ owns (c : Thread nD τ) arg19 fullShare (g19) ∗ owns (c : Thread nD τ) arg20 fullShare (g20) ∗ owns (c : Thread nD τ) arg21 fullShare (g21) ∗ owns (c : Thread nD τ) arg22 fullShare (g22) ∗ owns (c : Thread nD τ) arg23 fullShare (g23) ∗ owns (c : Thread nD τ) arg24 fullShare (g24)) ∗ (owns (c : Thread nD τ) arg3 fullShare (x.u) ∗ owns (c : Thread nD τ) arg10 fullShare (x.cw) ∗ owns (c : Thread nD τ) arg11 fullShare (x.cb) ∗ owns (c : Thread nD τ) arg16 fullShare (k0_pay2 (F := F)) ∗ owns (c : Thread nD τ) arg17 fullShare (x.tail) ∗ owns (c : Thread nD τ) arg18 fullShare (x.ext (k0_pay3 (F := F))))) ⊢ (iprop((owns (c : Thread nD τ) arg2 fullShare (x.z) ∗ owns (c : Thread nD τ) arg3 fullShare (x.u) ∗ owns (c : Thread nD τ) arg6 fullShare (x.C) ∗ owns (c : Thread nD τ) arg7 fullShare (x.r) ∗ owns (c : Thread nD τ) arg9 fullShare (x.Dt) ∗ owns (c : Thread nD τ) arg11 fullShare (x.cb) ∗ owns (c : Thread nD τ) arg12 fullShare (x.nw) ∗ owns (c : Thread nD τ) arg13 fullShare (x.E) ∗ owns (c : Thread nD τ) arg14 fullShare (x.K) ∗ owns (c : Thread nD τ) arg15 fullShare (g15) ∗ owns (c : Thread nD τ) arg16 fullShare (k0_pay2 (F := F)) ∗ owns (c : Thread nD τ) arg17 fullShare (x.tail) ∗ owns (c : Thread nD τ) arg20 fullShare (g20) ∗ owns (c : Thread nD τ) arg21 fullShare (g21) ∗ owns (c : Thread nD τ) arg24 fullShare (g24)) ∗ (owns (c : Thread nD τ) arg4 fullShare (x.dtE) ∗ owns (c : Thread nD τ) arg5 fullShare (x.B) ∗ owns (c : Thread nD τ) arg8 fullShare (x.Af) ∗ owns (c : Thread nD τ) arg10 fullShare (x.cw) ∗ owns (c : Thread nD τ) arg18 fullShare (x.ext (k0_pay3 (F := F))) ∗ owns (c : Thread nD τ) arg19 fullShare (g19) ∗ owns (c : Thread nD τ) arg22 fullShare (g22) ∗ owns (c : Thread nD τ) arg23 fullShare (g23))) : sProp 𝕄) := by
    iintro ⟨⟨H2, H4, H5, H6, H7, H8, H9, H12, H13, H14, H15, H19, H20, H21, H22, H23, H24⟩, H3, H10, H11, H16, H17, H18⟩
    isplitl [H2 H3 H6 H7 H9 H11 H12 H13 H14 H15 H16 H17 H20 H21 H24]
    · isplitl [H2]; · iexact H2
      isplitl [H3]; · iexact H3
      isplitl [H6]; · iexact H6
      isplitl [H7]; · iexact H7
      isplitl [H9]; · iexact H9
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H20]; · iexact H20
      isplitl [H21]; · iexact H21
      iexact H24
    · isplitl [H4]; · iexact H4
      isplitl [H5]; · iexact H5
      isplitl [H8]; · iexact H8
      isplitl [H10]; · iexact H10
      isplitl [H18]; · iexact H18
      isplitl [H19]; · iexact H19
      isplitl [H22]; · iexact H22
      iexact H23

  refine h2.trans (wp_seq _ (part2_run arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i x (k0_pay3 (F := F)) g19 g22 g23 E) ?_)
  have h3 : iprop((owns (c : Thread nD τ) arg2 fullShare (x.z) ∗ owns (c : Thread nD τ) arg3 fullShare (x.u) ∗ owns (c : Thread nD τ) arg6 fullShare (x.C) ∗ owns (c : Thread nD τ) arg7 fullShare (x.r) ∗ owns (c : Thread nD τ) arg9 fullShare (x.Dt) ∗ owns (c : Thread nD τ) arg11 fullShare (x.cb) ∗ owns (c : Thread nD τ) arg12 fullShare (x.nw) ∗ owns (c : Thread nD τ) arg13 fullShare (x.E) ∗ owns (c : Thread nD τ) arg14 fullShare (x.K) ∗ owns (c : Thread nD τ) arg15 fullShare (g15) ∗ owns (c : Thread nD τ) arg16 fullShare (k0_pay2 (F := F)) ∗ owns (c : Thread nD τ) arg17 fullShare (x.tail) ∗ owns (c : Thread nD τ) arg20 fullShare (g20) ∗ owns (c : Thread nD τ) arg21 fullShare (g21) ∗ owns (c : Thread nD τ) arg24 fullShare (g24)) ∗ (owns (c : Thread nD τ) arg4 fullShare (x.dtE) ∗ owns (c : Thread nD τ) arg5 fullShare (x.B) ∗ owns (c : Thread nD τ) arg8 fullShare (x.Af) ∗ owns (c : Thread nD τ) arg10 fullShare (x.cw) ∗ owns (c : Thread nD τ) arg18 fullShare (x.ext (k0_pay3 (F := F))) ∗ owns (c : Thread nD τ) arg19 fullShare (x.conv (k0_pay3 (F := F))) ∗ owns (c : Thread nD τ) arg22 fullShare (x.dA) ∗ owns (c : Thread nD τ) arg23 fullShare (g23))) ⊢ (iprop((owns (c : Thread nD τ) arg2 fullShare (x.z) ∗ owns (c : Thread nD τ) arg3 fullShare (x.u) ∗ owns (c : Thread nD τ) arg4 fullShare (x.dtE) ∗ owns (c : Thread nD τ) arg5 fullShare (x.B) ∗ owns (c : Thread nD τ) arg7 fullShare (x.r) ∗ owns (c : Thread nD τ) arg8 fullShare (x.Af) ∗ owns (c : Thread nD τ) arg10 fullShare (x.cw) ∗ owns (c : Thread nD τ) arg11 fullShare (x.cb) ∗ owns (c : Thread nD τ) arg12 fullShare (x.nw) ∗ owns (c : Thread nD τ) arg15 fullShare (g15) ∗ owns (c : Thread nD τ) arg17 fullShare (x.tail) ∗ owns (c : Thread nD τ) arg18 fullShare (x.ext (k0_pay3 (F := F)))) ∗ Blk (F := F) arg6 arg9 arg13 arg14 arg16 arg19 arg20 arg21 arg22 arg23 arg24 c x (k0_pay3 (F := F)) (k0_pay2 (F := F)) g24 (g23) 0 0 (g20) (g21)) : sProp 𝕄) := by
    unfold Blk
    rw [show x.yTo (k0_pay3 (F := F)) (k0_pay2 (F := F)) g24 0 = g24 from x.yTo_zero (k0_pay3 (F := F)) (k0_pay2 (F := F)) g24, show x.st (k0_pay3 (F := F)) (k0_pay2 (F := F)) 0 = k0_pay2 (F := F) from rfl]
    iintro ⟨⟨H2, H3, H6, H7, H9, H11, H12, H13, H14, H15, H16, H17, H20, H21, H24⟩, H4, H5, H8, H10, H18, H19, H22, H23⟩
    isplitl [H2 H3 H4 H5 H7 H8 H10 H11 H12 H15 H17 H18]
    · isplitl [H2]; · iexact H2
      isplitl [H3]; · iexact H3
      isplitl [H4]; · iexact H4
      isplitl [H5]; · iexact H5
      isplitl [H7]; · iexact H7
      isplitl [H8]; · iexact H8
      isplitl [H10]; · iexact H10
      isplitl [H11]; · iexact H11
      isplitl [H12]; · iexact H12
      isplitl [H15]; · iexact H15
      isplitl [H17]; · iexact H17
      iexact H18
    · isplitl [H6]; · iexact H6
      isplitl [H9]; · iexact H9
      isplitl [H13]; · iexact H13
      isplitl [H14]; · iexact H14
      isplitl [H19]; · iexact H19
      isplitl [H22]; · iexact H22
      isplitl [H23]; · iexact H23
      isplitl [H16]; · iexact H16
      isplitl [H24]; · iexact H24
      isplitl [H20]; · iexact H20
      iexact H21

  refine h3.trans (wp_seq _ (part3_run arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i x (k0_pay3 (F := F)) (k0_pay2 (F := F)) g24 g20 g21 g23 g23 E) ?_)
  refine wp_seq _ (part4_run arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i x (k0_pay3 (F := F)) (k0_pay2 (F := F)) g24 _ _ E) ?_
  refine wp_seq _ (part5_run arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i x (k0_pay3 (F := F)) (k0_pay2 (F := F)) g24 _ E) ?_
  refine wp_seq _ (part6_run arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i x (k0_pay3 (F := F)) (k0_pay2 (F := F)) g24 E) ?_
  refine wp_seq _ (part7_run arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i x (k0_pay3 (F := F)) (k0_pay2 (F := F)) g24 E) ?_
  refine wp_seq _ (part8_run arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i x (k0_pay3 (F := F)) (k0_pay2 (F := F)) g24 E) ?_
  unfold Blk
  rw [x.yTo_eight (k0_pay3 (F := F)) (k0_pay2 (F := F)) g24]
  unfold owns
  iintro ⟨⟨⟨%f2, %hf2, H2⟩, ⟨%f3, %hf3, H3⟩, ⟨%f4, %hf4, H4⟩, ⟨%f5, %hf5, H5⟩, ⟨%f7, %hf7, H7⟩, ⟨%f8, %hf8, H8⟩, ⟨%f10, %hf10, H10⟩, ⟨%f11, %hf11, H11⟩, ⟨%f12, %hf12, H12⟩, ⟨%f15, %hf15, H15⟩, ⟨%f17, %hf17, H17⟩, ⟨%f18, %hf18, H18⟩⟩, ⟨%f6, %hf6, H6⟩, ⟨%f9, %hf9, H9⟩, ⟨%f13, %hf13, H13⟩, ⟨%f14, %hf14, H14⟩, ⟨%f19, %hf19, H19⟩, ⟨%f22, %hf22, H22⟩, ⟨%f23, %hf23, H23⟩, ⟨%f16, %hf16, H16⟩, ⟨%f24, %hf24, H24⟩, ⟨%f20, %hf20, H20⟩, ⟨%f21, %hf21, H21⟩⟩
  sl_exec
  sl_step
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; exact hf9
  isplitl [H10]
  · iexists _; isplitr; swap; · iexact H10
    ipureintro; exact hf10
  isplitl [H11]
  · iexists _; isplitr; swap; · iexact H11
    ipureintro; exact hf11
  isplitl [H12]
  · iexists _; isplitr; swap; · iexact H12
    ipureintro; exact hf12
  isplitl [H13]
  · iexists _; isplitr; swap; · iexact H13
    ipureintro; exact hf13
  isplitl [H14]
  · iexists _; isplitr; swap; · iexact H14
    ipureintro; exact hf14
  isplitl [H15]
  · iexists _; isplitr; swap; · iexact H15
    ipureintro; exact ((write_whole _ _ off3_zero _ _).trans (congr (congr (congr (congrArg k0_pay1 ((rdw _ _ off4_zero _).trans hf24)) ((rdw _ _ off3_zero _).trans hf2)) ((rdw _ _ off3_zero _).trans hf7)) ((rdw _ _ off2_zero _).trans hf12)))
  isplitl [H16]
  · iexists _; isplitr; swap; · iexact H16
    ipureintro; exact hf16
  isplitl [H17]
  · iexists _; isplitr; swap; · iexact H17
    ipureintro; exact hf17
  isplitl [H18]
  · iexists _; isplitr; swap; · iexact H18
    ipureintro; exact hf18
  isplitl [H19]
  · iexists _; isplitr; swap; · iexact H19
    ipureintro; exact hf19
  isplitl [H20]
  · iexists _; isplitr; swap; · iexact H20
    ipureintro; exact hf20
  isplitl [H21]
  · iexists _; isplitr; swap; · iexact H21
    ipureintro; exact hf21
  isplitl [H22]
  · iexists _; isplitr; swap; · iexact H22
    ipureintro; exact hf22
  isplitl [H23]
  · iexists _; isplitr; swap; · iexact H23
    ipureintro; exact hf23
  iexists _; isplitr; swap; · iexact H24
  ipureintro; exact hf24

set_option maxHeartbeats 1000000 in
/-- The kernel body at a later chunk. -/
theorem body_later (c : Dev nD) (i : grid0.Coords) (x : Chunk F) (T : Vec F S8x2048 .f32) (S : Vec F S128x1024 .f32) (g15 : Vec F S1x128x2048 .f32) (g18 : Vec F S136x2048 .f32) (g19 : Vec F S8x16x128x16 .f32) (g20 : Vec F S16x128x1024 .f32) (g21 : Vec F S16x128x1024 .f32) (g22 : Vec F S128x1024 .f32) (g23 : Vec F S128x1024 .f32) (g24 : Vec F S8x16x128x16 .f32) (E : Set ℕ) (hc : ¬ ((Scalar.cmpi .ne (Scalar.extui (Scalar.cmpi .eq (BitVec.ofNat 32 (i 1).val) 0#32)) 0#32) = 1#1)) :
    (iprop(owns (c : Thread nD τ) arg2 fullShare (x.z) ∗ owns (c : Thread nD τ) arg3 fullShare (x.u) ∗ owns (c : Thread nD τ) arg4 fullShare (x.dtE) ∗ owns (c : Thread nD τ) arg5 fullShare (x.B) ∗ owns (c : Thread nD τ) arg6 fullShare (x.C) ∗ owns (c : Thread nD τ) arg7 fullShare (x.r) ∗ owns (c : Thread nD τ) arg8 fullShare (x.Af) ∗ owns (c : Thread nD τ) arg9 fullShare (x.Dt) ∗ owns (c : Thread nD τ) arg10 fullShare (x.cw) ∗ owns (c : Thread nD τ) arg11 fullShare (x.cb) ∗ owns (c : Thread nD τ) arg12 fullShare (x.nw) ∗ owns (c : Thread nD τ) arg13 fullShare (x.E) ∗ owns (c : Thread nD τ) arg14 fullShare (x.K) ∗ owns (c : Thread nD τ) arg15 fullShare (g15) ∗ owns (c : Thread nD τ) arg16 fullShare (S) ∗ owns (c : Thread nD τ) arg17 fullShare (T) ∗ owns (c : Thread nD τ) arg18 fullShare (g18) ∗ owns (c : Thread nD τ) arg19 fullShare (g19) ∗ owns (c : Thread nD τ) arg20 fullShare (g20) ∗ owns (c : Thread nD τ) arg21 fullShare (g21) ∗ owns (c : Thread nD τ) arg22 fullShare (g22) ∗ owns (c : Thread nD τ) arg23 fullShare (g23) ∗ owns (c : Thread nD τ) arg24 fullShare (g24)) : sProp 𝕄)
      ⊢ wp frame (wpE (defs₀ (F := F)) Variants.none c none) E (cc0_ssd_fused_scan (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24)
        (fun _ => (iprop(owns (c : Thread nD τ) arg2 fullShare (x.z) ∗ owns (c : Thread nD τ) arg3 fullShare (x.u) ∗ owns (c : Thread nD τ) arg4 fullShare (x.dtE) ∗ owns (c : Thread nD τ) arg5 fullShare (x.B) ∗ owns (c : Thread nD τ) arg6 fullShare (x.C) ∗ owns (c : Thread nD τ) arg7 fullShare (x.r) ∗ owns (c : Thread nD τ) arg8 fullShare (x.Af) ∗ owns (c : Thread nD τ) arg9 fullShare (x.Dt) ∗ owns (c : Thread nD τ) arg10 fullShare (x.cw) ∗ owns (c : Thread nD τ) arg11 fullShare (x.cb) ∗ owns (c : Thread nD τ) arg12 fullShare (x.nw) ∗ owns (c : Thread nD τ) arg13 fullShare (x.E) ∗ owns (c : Thread nD τ) arg14 fullShare (x.K) ∗ owns (c : Thread nD τ) arg15 fullShare (x.out T S) ∗ owns (c : Thread nD τ) arg16 fullShare (x.st T S 8) ∗ owns (c : Thread nD τ) arg17 fullShare (x.tail) ∗ owns (c : Thread nD τ) arg18 fullShare (x.ext T) ∗ owns (c : Thread nD τ) arg19 fullShare (x.conv T) ∗ owns (c : Thread nD τ) arg20 fullShare (x.ub T 7) ∗ owns (c : Thread nD τ) arg21 fullShare (x.prod T S 7) ∗ owns (c : Thread nD τ) arg22 fullShare (x.dA) ∗ owns (c : Thread nD τ) arg23 fullShare (x.Bm) ∗ owns (c : Thread nD τ) arg24 fullShare (x.ys T S)) : sProp 𝕄)) := by
  rw [cc0_ssd_fused_scan_eq_skeleton]; unfold cc0_ssd_fused_scan_skel
  have hin : (iprop(owns (c : Thread nD τ) arg2 fullShare (x.z) ∗ owns (c : Thread nD τ) arg3 fullShare (x.u) ∗ owns (c : Thread nD τ) arg4 fullShare (x.dtE) ∗ owns (c : Thread nD τ) arg5 fullShare (x.B) ∗ owns (c : Thread nD τ) arg6 fullShare (x.C) ∗ owns (c : Thread nD τ) arg7 fullShare (x.r) ∗ owns (c : Thread nD τ) arg8 fullShare (x.Af) ∗ owns (c : Thread nD τ) arg9 fullShare (x.Dt) ∗ owns (c : Thread nD τ) arg10 fullShare (x.cw) ∗ owns (c : Thread nD τ) arg11 fullShare (x.cb) ∗ owns (c : Thread nD τ) arg12 fullShare (x.nw) ∗ owns (c : Thread nD τ) arg13 fullShare (x.E) ∗ owns (c : Thread nD τ) arg14 fullShare (x.K) ∗ owns (c : Thread nD τ) arg15 fullShare (g15) ∗ owns (c : Thread nD τ) arg16 fullShare (S) ∗ owns (c : Thread nD τ) arg17 fullShare (T) ∗ owns (c : Thread nD τ) arg18 fullShare (g18) ∗ owns (c : Thread nD τ) arg19 fullShare (g19) ∗ owns (c : Thread nD τ) arg20 fullShare (g20) ∗ owns (c : Thread nD τ) arg21 fullShare (g21) ∗ owns (c : Thread nD τ) arg22 fullShare (g22) ∗ owns (c : Thread nD τ) arg23 fullShare (g23) ∗ owns (c : Thread nD τ) arg24 fullShare (g24)) : sProp 𝕄) ⊢ iprop((owns (c : Thread nD τ) arg2 fullShare (x.z) ∗ owns (c : Thread nD τ) arg4 fullShare (x.dtE) ∗ owns (c : Thread nD τ) arg5 fullShare (x.B) ∗ owns (c : Thread nD τ) arg6 fullShare (x.C) ∗ owns (c : Thread nD τ) arg7 fullShare (x.r) ∗ owns (c : Thread nD τ) arg8 fullShare (x.Af) ∗ owns (c : Thread nD τ) arg9 fullShare (x.Dt) ∗ owns (c : Thread nD τ) arg12 fullShare (x.nw) ∗ owns (c : Thread nD τ) arg13 fullShare (x.E) ∗ owns (c : Thread nD τ) arg14 fullShare (x.K) ∗ owns (c : Thread nD τ) arg15 fullShare (g15) ∗ owns (c : Thread nD τ) arg19 fullShare (g19) ∗ owns (c : Thread nD τ) arg20 fullShare (g20) ∗ owns (c : Thread nD τ) arg21 fullShare (g21) ∗ owns (c : Thread nD τ) arg22 fullShare (g22) ∗ owns (c : Thread nD τ) arg23 fullShare (g23) ∗ owns (c : Thread nD τ) arg24 fullShare (g24)) ∗ (owns (c : Thread nD τ) arg3 fullShare (x.u) ∗ owns (c : Thread nD τ) arg10 fullShare (x.cw) ∗ owns (c : Thread nD τ) arg11 fullShare (x.cb) ∗ owns (c : Thread nD τ) arg16 fullShare (S) ∗ owns (c : Thread nD τ) arg17 fullShare (T) ∗ owns (c : Thread nD τ) arg18 fullShare (g18))) := by
    iintro ⟨H2, H3, H4, H5, H6, H7, H8, H9, H10, H11, H12, H13, H14, H15, H16, H17, H18, H19, H20, H21, H22, H23, H24⟩
    isplitl [H2 H4 H5 H6 H7 H8 H9 H12 H13 H14 H15 H19 H20 H21 H22 H23 H24]
    · isplitl [H2]; · iexact H2
      isplitl [H4]; · iexact H4
      isplitl [H5]; · iexact H5
      isplitl [H6]; · iexact H6
      isplitl [H7]; · iexact H7
      isplitl [H8]; · iexact H8
      isplitl [H9]; · iexact H9
      isplitl [H12]; · iexact H12
      isplitl [H13]; · iexact H13
      isplitl [H14]; · iexact H14
      isplitl [H15]; · iexact H15
      isplitl [H19]; · iexact H19
      isplitl [H20]; · iexact H20
      isplitl [H21]; · iexact H21
      isplitl [H22]; · iexact H22
      isplitl [H23]; · iexact H23
      iexact H24
    · isplitl [H3]; · iexact H3
      isplitl [H10]; · iexact H10
      isplitl [H11]; · iexact H11
      isplitl [H16]; · iexact H16
      isplitl [H17]; · iexact H17
      iexact H18

  refine hin.trans (wp_seq _ (part1_later arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i x T S g18 E hc) ?_)
  have h2 : iprop((owns (c : Thread nD τ) arg2 fullShare (x.z) ∗ owns (c : Thread nD τ) arg4 fullShare (x.dtE) ∗ owns (c : Thread nD τ) arg5 fullShare (x.B) ∗ owns (c : Thread nD τ) arg6 fullShare (x.C) ∗ owns (c : Thread nD τ) arg7 fullShare (x.r) ∗ owns (c : Thread nD τ) arg8 fullShare (x.Af) ∗ owns (c : Thread nD τ) arg9 fullShare (x.Dt) ∗ owns (c : Thread nD τ) arg12 fullShare (x.nw) ∗ owns (c : Thread nD τ) arg13 fullShare (x.E) ∗ owns (c : Thread nD τ) arg14 fullShare (x.K) ∗ owns (c : Thread nD τ) arg15 fullShare (g15) ∗ owns (c : Thread nD τ) arg19 fullShare (g19) ∗ owns (c : Thread nD τ) arg20 fullShare (g20) ∗ owns (c : Thread nD τ) arg21 fullShare (g21) ∗ owns (c : Thread nD τ) arg22 fullShare (g22) ∗ owns (c : Thread nD τ) arg23 fullShare (g23) ∗ owns (c : Thread nD τ) arg24 fullShare (g24)) ∗ (owns (c : Thread nD τ) arg3 fullShare (x.u) ∗ owns (c : Thread nD τ) arg10 fullShare (x.cw) ∗ owns (c : Thread nD τ) arg11 fullShare (x.cb) ∗ owns (c : Thread nD τ) arg16 fullShare (S) ∗ owns (c : Thread nD τ) arg17 fullShare (x.tail) ∗ owns (c : Thread nD τ) arg18 fullShare (x.ext T))) ⊢ (iprop((owns (c : Thread nD τ) arg2 fullShare (x.z) ∗ owns (c : Thread nD τ) arg3 fullShare (x.u) ∗ owns (c : Thread nD τ) arg6 fullShare (x.C) ∗ owns (c : Thread nD τ) arg7 fullShare (x.r) ∗ owns (c : Thread nD τ) arg9 fullShare (x.Dt) ∗ owns (c : Thread nD τ) arg11 fullShare (x.cb) ∗ owns (c : Thread nD τ) arg12 fullShare (x.nw) ∗ owns (c : Thread nD τ) arg13 fullShare (x.E) ∗ owns (c : Thread nD τ) arg14 fullShare (x.K) ∗ owns (c : Thread nD τ) arg15 fullShare (g15) ∗ owns (c : Thread nD τ) arg16 fullShare (S) ∗ owns (c : Thread nD τ) arg17 fullShare (x.tail) ∗ owns (c : Thread nD τ) arg20 fullShare (g20) ∗ owns (c : Thread nD τ) arg21 fullShare (g21) ∗ owns (c : Thread nD τ) arg24 fullShare (g24)) ∗ (owns (c : Thread nD τ) arg4 fullShare (x.dtE) ∗ owns (c : Thread nD τ) arg5 fullShare (x.B) ∗ owns (c : Thread nD τ) arg8 fullShare (x.Af) ∗ owns (c : Thread nD τ) arg10 fullShare (x.cw) ∗ owns (c : Thread nD τ) arg18 fullShare (x.ext T) ∗ owns (c : Thread nD τ) arg19 fullShare (g19) ∗ owns (c : Thread nD τ) arg22 fullShare (g22) ∗ owns (c : Thread nD τ) arg23 fullShare (g23))) : sProp 𝕄) := by
    iintro ⟨⟨H2, H4, H5, H6, H7, H8, H9, H12, H13, H14, H15, H19, H20, H21, H22, H23, H24⟩, H3, H10, H11, H16, H17, H18⟩
    isplitl [H2 H3 H6 H7 H9 H11 H12 H13 H14 H15 H16 H17 H20 H21 H24]
    · isplitl [H2]; · iexact H2
      isplitl [H3]; · iexact H3
      isplitl [H6]; · iexact H6
      isplitl [H7]; · iexact H7
      isplitl [H9]; · iexact H9
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H20]; · iexact H20
      isplitl [H21]; · iexact H21
      iexact H24
    · isplitl [H4]; · iexact H4
      isplitl [H5]; · iexact H5
      isplitl [H8]; · iexact H8
      isplitl [H10]; · iexact H10
      isplitl [H18]; · iexact H18
      isplitl [H19]; · iexact H19
      isplitl [H22]; · iexact H22
      iexact H23

  refine h2.trans (wp_seq _ (part2_run arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i x T g19 g22 g23 E) ?_)
  have h3 : iprop((owns (c : Thread nD τ) arg2 fullShare (x.z) ∗ owns (c : Thread nD τ) arg3 fullShare (x.u) ∗ owns (c : Thread nD τ) arg6 fullShare (x.C) ∗ owns (c : Thread nD τ) arg7 fullShare (x.r) ∗ owns (c : Thread nD τ) arg9 fullShare (x.Dt) ∗ owns (c : Thread nD τ) arg11 fullShare (x.cb) ∗ owns (c : Thread nD τ) arg12 fullShare (x.nw) ∗ owns (c : Thread nD τ) arg13 fullShare (x.E) ∗ owns (c : Thread nD τ) arg14 fullShare (x.K) ∗ owns (c : Thread nD τ) arg15 fullShare (g15) ∗ owns (c : Thread nD τ) arg16 fullShare (S) ∗ owns (c : Thread nD τ) arg17 fullShare (x.tail) ∗ owns (c : Thread nD τ) arg20 fullShare (g20) ∗ owns (c : Thread nD τ) arg21 fullShare (g21) ∗ owns (c : Thread nD τ) arg24 fullShare (g24)) ∗ (owns (c : Thread nD τ) arg4 fullShare (x.dtE) ∗ owns (c : Thread nD τ) arg5 fullShare (x.B) ∗ owns (c : Thread nD τ) arg8 fullShare (x.Af) ∗ owns (c : Thread nD τ) arg10 fullShare (x.cw) ∗ owns (c : Thread nD τ) arg18 fullShare (x.ext T) ∗ owns (c : Thread nD τ) arg19 fullShare (x.conv T) ∗ owns (c : Thread nD τ) arg22 fullShare (x.dA) ∗ owns (c : Thread nD τ) arg23 fullShare (g23))) ⊢ (iprop((owns (c : Thread nD τ) arg2 fullShare (x.z) ∗ owns (c : Thread nD τ) arg3 fullShare (x.u) ∗ owns (c : Thread nD τ) arg4 fullShare (x.dtE) ∗ owns (c : Thread nD τ) arg5 fullShare (x.B) ∗ owns (c : Thread nD τ) arg7 fullShare (x.r) ∗ owns (c : Thread nD τ) arg8 fullShare (x.Af) ∗ owns (c : Thread nD τ) arg10 fullShare (x.cw) ∗ owns (c : Thread nD τ) arg11 fullShare (x.cb) ∗ owns (c : Thread nD τ) arg12 fullShare (x.nw) ∗ owns (c : Thread nD τ) arg15 fullShare (g15) ∗ owns (c : Thread nD τ) arg17 fullShare (x.tail) ∗ owns (c : Thread nD τ) arg18 fullShare (x.ext T)) ∗ Blk (F := F) arg6 arg9 arg13 arg14 arg16 arg19 arg20 arg21 arg22 arg23 arg24 c x T (S) g24 (g23) 0 0 (g20) (g21)) : sProp 𝕄) := by
    unfold Blk
    rw [show x.yTo T (S) g24 0 = g24 from x.yTo_zero T (S) g24, show x.st T (S) 0 = S from rfl]
    iintro ⟨⟨H2, H3, H6, H7, H9, H11, H12, H13, H14, H15, H16, H17, H20, H21, H24⟩, H4, H5, H8, H10, H18, H19, H22, H23⟩
    isplitl [H2 H3 H4 H5 H7 H8 H10 H11 H12 H15 H17 H18]
    · isplitl [H2]; · iexact H2
      isplitl [H3]; · iexact H3
      isplitl [H4]; · iexact H4
      isplitl [H5]; · iexact H5
      isplitl [H7]; · iexact H7
      isplitl [H8]; · iexact H8
      isplitl [H10]; · iexact H10
      isplitl [H11]; · iexact H11
      isplitl [H12]; · iexact H12
      isplitl [H15]; · iexact H15
      isplitl [H17]; · iexact H17
      iexact H18
    · isplitl [H6]; · iexact H6
      isplitl [H9]; · iexact H9
      isplitl [H13]; · iexact H13
      isplitl [H14]; · iexact H14
      isplitl [H19]; · iexact H19
      isplitl [H22]; · iexact H22
      isplitl [H23]; · iexact H23
      isplitl [H16]; · iexact H16
      isplitl [H24]; · iexact H24
      isplitl [H20]; · iexact H20
      iexact H21

  refine h3.trans (wp_seq _ (part3_run arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i x T (S) g24 g20 g21 g23 g23 E) ?_)
  refine wp_seq _ (part4_run arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i x T (S) g24 _ _ E) ?_
  refine wp_seq _ (part5_run arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i x T (S) g24 _ E) ?_
  refine wp_seq _ (part6_run arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i x T (S) g24 E) ?_
  refine wp_seq _ (part7_run arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i x T (S) g24 E) ?_
  refine wp_seq _ (part8_run arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i x T (S) g24 E) ?_
  unfold Blk
  rw [x.yTo_eight T (S) g24]
  unfold owns
  iintro ⟨⟨⟨%f2, %hf2, H2⟩, ⟨%f3, %hf3, H3⟩, ⟨%f4, %hf4, H4⟩, ⟨%f5, %hf5, H5⟩, ⟨%f7, %hf7, H7⟩, ⟨%f8, %hf8, H8⟩, ⟨%f10, %hf10, H10⟩, ⟨%f11, %hf11, H11⟩, ⟨%f12, %hf12, H12⟩, ⟨%f15, %hf15, H15⟩, ⟨%f17, %hf17, H17⟩, ⟨%f18, %hf18, H18⟩⟩, ⟨%f6, %hf6, H6⟩, ⟨%f9, %hf9, H9⟩, ⟨%f13, %hf13, H13⟩, ⟨%f14, %hf14, H14⟩, ⟨%f19, %hf19, H19⟩, ⟨%f22, %hf22, H22⟩, ⟨%f23, %hf23, H23⟩, ⟨%f16, %hf16, H16⟩, ⟨%f24, %hf24, H24⟩, ⟨%f20, %hf20, H20⟩, ⟨%f21, %hf21, H21⟩⟩
  sl_exec
  sl_step
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; exact hf9
  isplitl [H10]
  · iexists _; isplitr; swap; · iexact H10
    ipureintro; exact hf10
  isplitl [H11]
  · iexists _; isplitr; swap; · iexact H11
    ipureintro; exact hf11
  isplitl [H12]
  · iexists _; isplitr; swap; · iexact H12
    ipureintro; exact hf12
  isplitl [H13]
  · iexists _; isplitr; swap; · iexact H13
    ipureintro; exact hf13
  isplitl [H14]
  · iexists _; isplitr; swap; · iexact H14
    ipureintro; exact hf14
  isplitl [H15]
  · iexists _; isplitr; swap; · iexact H15
    ipureintro; exact ((write_whole _ _ off3_zero _ _).trans (congr (congr (congr (congrArg k0_pay1 ((rdw _ _ off4_zero _).trans hf24)) ((rdw _ _ off3_zero _).trans hf2)) ((rdw _ _ off3_zero _).trans hf7)) ((rdw _ _ off2_zero _).trans hf12)))
  isplitl [H16]
  · iexists _; isplitr; swap; · iexact H16
    ipureintro; exact hf16
  isplitl [H17]
  · iexists _; isplitr; swap; · iexact H17
    ipureintro; exact hf17
  isplitl [H18]
  · iexists _; isplitr; swap; · iexact H18
    ipureintro; exact hf18
  isplitl [H19]
  · iexists _; isplitr; swap; · iexact H19
    ipureintro; exact hf19
  isplitl [H20]
  · iexists _; isplitr; swap; · iexact H20
    ipureintro; exact hf20
  isplitl [H21]
  · iexists _; isplitr; swap; · iexact H21
    ipureintro; exact hf21
  isplitl [H22]
  · iexists _; isplitr; swap; · iexact H22
    ipureintro; exact hf22
  isplitl [H23]
  · iexists _; isplitr; swap; · iexact H23
    ipureintro; exact hf23
  iexists _; isplitr; swap; · iexact H24
  ipureintro; exact hf24

end Args
end Cert.KernelIdeal.Scan
-- ==== Proof.Scan.Launch.lean ====
/- The launch: what each grid point finds and leaves, and the run of the whole program. -/
module

public import proofs.«01_k».proof.Proof.Scan.Body
public import proofs.«01_k».proof.Proof.Gen.KernelIdeal.Frame
public import Idealize.ShloMosaic.Lib.Claim

@[expose] public section

set_option maxRecDepth 16384

noncomputable section

namespace Cert.KernelIdeal.Scan

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

open Idealize.ShloMosaic.Pipeline

variable (m : (ℓ : Loc nD τ sig) → Buf (Elt F) ℓ) (ρ : Dev nD → PrngReg)

/-- The body's condition: a batch's first chunk. -/
abbrev first (i : grid0.Coords) : Prop := (Scalar.cmpi .ne (Scalar.extui (Scalar.cmpi .eq (BitVec.ofNat 32 (i 1).val) 0#32)) 0#32) = 1#1

/-- The points are the batches' chunks in order, sixteen to a batch. -/
theorem first_iff : ∀ t : Fin cfg0.N, first (grid0.coords t) ↔ t.val % 16 = 0 :=
  (fun t => by
    have ht : t.val < 64 := Nat.lt_of_lt_of_eq t.isLt N_0
    have e1 : (grid0.coords t 1).val = t.val / 1 % 16 := Pipeline.Grid.coords_val t 1 (by decide) rfl
    simp only [first, e1]
    word_cmp
   : ∀ t : Fin grid0.N, first (grid0.coords t) ↔ t.val % 16 = 0)

/-- The buffer of window 0 at a point. -/
abbrev ms0 (t : Fin cfg0.N) : Memref sig .tc .vmem S1x128x2048 .f32 := win0_0.stage (cfg0.slots t 0)
/-- The buffer of window 0 is a whole one. -/
abbrev hs0 (t : Fin cfg0.N) : (ms0 t).IsWhole := hstage0_0 ((cfg0.slots t 0).cast nbuf0_0)
/-- The buffer of window 1 at a point. -/
abbrev ms1 (t : Fin cfg0.N) : Memref sig .tc .vmem S1x128x2048 .f32 := win0_1.stage (cfg0.slots t 1)
/-- The buffer of window 1 is a whole one. -/
abbrev hs1 (t : Fin cfg0.N) : (ms1 t).IsWhole := hstage0_1 ((cfg0.slots t 1).cast nbuf0_1)
/-- The buffer of window 2 at a point. -/
abbrev ms2 (t : Fin cfg0.N) : Memref sig .tc .vmem S1x128x1024 .f32 := win0_2.stage (cfg0.slots t 2)
/-- The buffer of window 2 is a whole one. -/
abbrev hs2 (t : Fin cfg0.N) : (ms2 t).IsWhole := hstage0_2 ((cfg0.slots t 2).cast nbuf0_2)
/-- The buffer of window 3 at a point. -/
abbrev ms3 (t : Fin cfg0.N) : Memref sig .tc .vmem S1x128x1024 .f32 := win0_3.stage (cfg0.slots t 3)
/-- The buffer of window 3 is a whole one. -/
abbrev hs3 (t : Fin cfg0.N) : (ms3 t).IsWhole := hstage0_3 ((cfg0.slots t 3).cast nbuf0_3)
/-- The buffer of window 4 at a point. -/
abbrev ms4 (t : Fin cfg0.N) : Memref sig .tc .vmem S1x128x1024 .f32 := win0_4.stage (cfg0.slots t 4)
/-- The buffer of window 4 is a whole one. -/
abbrev hs4 (t : Fin cfg0.N) : (ms4 t).IsWhole := hstage0_4 ((cfg0.slots t 4).cast nbuf0_4)
/-- The buffer of window 5 at a point. -/
abbrev ms5 (t : Fin cfg0.N) : Memref sig .tc .vmem S1x128x2048 .f32 := win0_5.stage (cfg0.slots t 5)
/-- The buffer of window 5 is a whole one. -/
abbrev hs5 (t : Fin cfg0.N) : (ms5 t).IsWhole := hstage0_5 ((cfg0.slots t 5).cast nbuf0_5)
/-- The buffer of window 6 at a point. -/
abbrev ms6 (t : Fin cfg0.N) : Memref sig .tc .vmem S1x1024 .f32 := win0_6.stage (cfg0.slots t 6)
/-- The buffer of window 6 is a whole one. -/
abbrev hs6 (t : Fin cfg0.N) : (ms6 t).IsWhole := hstage0_6 ((cfg0.slots t 6).cast nbuf0_6)
/-- The buffer of window 7 at a point. -/
abbrev ms7 (t : Fin cfg0.N) : Memref sig .tc .vmem S128x16 .f32 := win0_7.stage (cfg0.slots t 7)
/-- The buffer of window 7 is a whole one. -/
abbrev hs7 (t : Fin cfg0.N) : (ms7 t).IsWhole := hstage0_7 ((cfg0.slots t 7).cast nbuf0_7)
/-- The buffer of window 8 at a point. -/
abbrev ms8 (t : Fin cfg0.N) : Memref sig .tc .vmem S4x2048 .f32 := win0_8.stage (cfg0.slots t 8)
/-- The buffer of window 8 is a whole one. -/
abbrev hs8 (t : Fin cfg0.N) : (ms8 t).IsWhole := hstage0_8 ((cfg0.slots t 8).cast nbuf0_8)
/-- The buffer of window 9 at a point. -/
abbrev ms9 (t : Fin cfg0.N) : Memref sig .tc .vmem S1x2048 .f32 := win0_9.stage (cfg0.slots t 9)
/-- The buffer of window 9 is a whole one. -/
abbrev hs9 (t : Fin cfg0.N) : (ms9 t).IsWhole := hstage0_9 ((cfg0.slots t 9).cast nbuf0_9)
/-- The buffer of window 10 at a point. -/
abbrev ms10 (t : Fin cfg0.N) : Memref sig .tc .vmem S1x2048 .f32 := win0_10.stage (cfg0.slots t 10)
/-- The buffer of window 10 is a whole one. -/
abbrev hs10 (t : Fin cfg0.N) : (ms10 t).IsWhole := hstage0_10 ((cfg0.slots t 10).cast nbuf0_10)
/-- The buffer of window 11 at a point. -/
abbrev ms11 (t : Fin cfg0.N) : Memref sig .tc .vmem S16x1024 .f32 := win0_11.stage (cfg0.slots t 11)
/-- The buffer of window 11 is a whole one. -/
abbrev hs11 (t : Fin cfg0.N) : (ms11 t).IsWhole := hstage0_11 ((cfg0.slots t 11).cast nbuf0_11)
/-- The buffer of window 12 at a point. -/
abbrev ms12 (t : Fin cfg0.N) : Memref sig .tc .vmem S1024x16 .f32 := win0_12.stage (cfg0.slots t 12)
/-- The buffer of window 12 is a whole one. -/
abbrev hs12 (t : Fin cfg0.N) : (ms12 t).IsWhole := hstage0_12 ((cfg0.slots t 12).cast nbuf0_12)
/-- The buffer of window 13 at a point. -/
abbrev ms13 (t : Fin cfg0.N) : Memref sig .tc .vmem S1x128x2048 .f32 := win0_13.stage (cfg0.slots t 13)
/-- The buffer of window 13 is a whole one. -/
abbrev hs13 (t : Fin cfg0.N) : (ms13 t).IsWhole := hstage0_13 ((cfg0.slots t 13).cast nbuf0_13)
/-- Scratch buffer 0. -/
abbrev sc0 : Memref sig .tc .vmem S128x1024 .f32 := Memref.whole cc0_scratch0
/-- Scratch buffer 1. -/
abbrev sc1 : Memref sig .tc .vmem S8x2048 .f32 := Memref.whole cc0_scratch1
/-- Scratch buffer 2. -/
abbrev sc2 : Memref sig .tc .vmem S136x2048 .f32 := Memref.whole cc0_scratch2
/-- Scratch buffer 3. -/
abbrev sc3 : Memref sig .tc .vmem S8x16x128x16 .f32 := Memref.whole cc0_scratch3
/-- Scratch buffer 4. -/
abbrev sc4 : Memref sig .tc .vmem S16x128x1024 .f32 := Memref.whole cc0_scratch4
/-- Scratch buffer 5. -/
abbrev sc5 : Memref sig .tc .vmem S16x128x1024 .f32 := Memref.whole cc0_scratch5
/-- Scratch buffer 6. -/
abbrev sc6 : Memref sig .tc .vmem S128x1024 .f32 := Memref.whole cc0_scratch6
/-- Scratch buffer 7. -/
abbrev sc7 : Memref sig .tc .vmem S128x1024 .f32 := Memref.whole cc0_scratch7
/-- Scratch buffer 8. -/
abbrev sc8 : Memref sig .tc .vmem S8x16x128x16 .f32 := Memref.whole cc0_scratch8

/-- The scratch at anything, buffer by buffer. -/
theorem rest_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d)) ∗ (∃ r, prngReg c r)) := by
  unfold Pipeline.ΦA; rw [scopedRest0_eq]; simp only [sc0, sc1, sc2, sc3, sc4, sc5, sc6, sc7, sc8, owns_whole]; try rfl

/-- What point `t`'s windows hold of the inputs. -/
def blk (c : Dev nD) (t : Fin cfg0.N) : Chunk F where
  z := iblk m c 0 t
  u := iblk m c 1 t
  dtE := iblk m c 2 t
  B := iblk m c 3 t
  C := iblk m c 4 t
  r := iblk m c 5 t
  Af := iblk m c 6 t
  Dt := iblk m c 7 t
  cw := iblk m c 8 t
  cb := iblk m c 9 t
  nw := iblk m c 10 t
  E := iblk m c 11 t
  K := iblk m c 12 t

/-- The state and the tail after point `n`. -/
def carry (c : Dev nD) : (n : ℕ) → n < cfg0.N → Vec F S128x1024 .f32 × Vec F S8x2048 .f32
  | 0, hn => ((blk m c ⟨0, hn⟩).st k0_pay3 k0_pay2 8, (blk m c ⟨0, hn⟩).tail)
  | n + 1, hn =>
    if (n + 1) % 16 = 0 then ((blk m c ⟨n + 1, hn⟩).st k0_pay3 k0_pay2 8, (blk m c ⟨n + 1, hn⟩).tail)
    else ((blk m c ⟨n + 1, hn⟩).st (carry c n (Nat.lt_of_succ_lt hn)).2 (carry c n (Nat.lt_of_succ_lt hn)).1 8, (blk m c ⟨n + 1, hn⟩).tail)

/-- The state point `t` starts from. -/
def sin (c : Dev nD) (t : Fin cfg0.N) : Vec F S128x1024 .f32 :=
  if t.val % 16 = 0 then k0_pay2 else (carry m c (t.val - 1) (lt_of_le_of_lt (Nat.sub_le _ _) t.isLt)).1
/-- The tail point `t` starts from. -/
def tin (c : Dev nD) (t : Fin cfg0.N) : Vec F S8x2048 .f32 :=
  if t.val % 16 = 0 then k0_pay3 else (carry m c (t.val - 1) (lt_of_le_of_lt (Nat.sub_le _ _) t.isLt)).2

/-- What a point leaves, from what it starts from. -/
theorem carry_eq (c : Dev nD) (t : Fin cfg0.N) :
    carry m c t.val t.isLt = ((blk m c t).st (tin m c t) (sin m c t) 8, (blk m c t).tail) := by
  obtain ⟨n, hn⟩ := t
  cases n with
  | zero => rfl
  | succ n =>
    unfold sin tin
    dsimp only [carry]
    by_cases h : (n + 1) % 16 = 0
    · rw [if_pos h, if_pos h, if_pos h]
    · rw [if_neg h, if_neg h, if_neg h]; rfl

/-- The invariant before position `n`: the state and the tail at what the point before left, the other scratch at anything. -/
def PhiS (c : Dev nD) : (n : ℕ) → n ≤ cfg0.N → sProp 𝕄
  | 0, _ => Pipeline.ΦA spec0 c
  | n + 1, hn => iprop(iprop(owns (c : Thread nD τ) sc0 fullShare ((carry m c n hn).1) ∗ owns (c : Thread nD τ) sc1 fullShare ((carry m c n hn).2) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d)) ∗ (∃ r, prngReg c r))

/-- The invariant after the first point. -/
theorem PhiS_pos (c : Dev nD) (n : ℕ) (h : n ≤ cfg0.N) (hz : n ≠ 0) :
    PhiS m c n h = iprop(iprop(owns (c : Thread nD τ) sc0 fullShare ((carry m c (n - 1) (by omega)).1) ∗ owns (c : Thread nD τ) sc1 fullShare ((carry m c (n - 1) (by omega)).2) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d)) ∗ (∃ r, prngReg c r)) := by
  cases n with
  | zero => exact absurd rfl hz
  | succ n => rfl

/-- The invariant, its contents forgotten. -/
theorem PhiS_out (c : Dev nD) (n : ℕ) (h : n ≤ cfg0.N) : PhiS m c n h ⊢ Pipeline.ΦA spec0 c := by
  cases n with
  | zero => exact Idealize.SL.BI.Entails.refl _
  | succ n =>
    rw [PhiS_pos m c _ h (Nat.succ_ne_zero n), rest_eq]
    iintro ⟨⟨H0, H1, HR⟩, Hg⟩
    isplitl [H0 H1 HR]
    · isplitl [H0]
      · iexists _; iexact H0
      isplitl [H1]
      · iexists _; iexact H1
      iexact HR
    iexact Hg

/-- The pipeline's data: each input's buffer at its block, the output's at the chunk's rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (blk m c t).out (tin m c t) (sin m c t)
  Φ t := PhiS m c t.val (Nat.le_of_lt_succ t.isLt)
  q _ := fullShare
  owed _ := 0

/-- The arrays are at their contents at the grid's start. -/
theorem A_eq (c : Dev nD) (w : Fin cfg0.W) : (dats m 0 c).A w = V m c (Pipeline.arrRef spec0 w) := by
  dsimp only [dats]

/-- The invariant before a point. -/
theorem Phi_castSucc (c : Dev nD) (t : Fin cfg0.N) : (dats m 0 c).Φ t.castSucc = PhiS m c t.val (Nat.le_of_lt t.isLt) := by
  dsimp only [dats]; exact Pipeline.Dat.Φ_castSucc (PhiS m c) t

/-- What a point leaves in window 0. -/
theorem after0 (c : Dev nD) (t : Fin cfg0.N) : (dats m 0 c).after 0 t = (blk m c t).z := by dsimp only [dats, blk]
/-- What a point leaves in window 1. -/
theorem after1 (c : Dev nD) (t : Fin cfg0.N) : (dats m 0 c).after 1 t = (blk m c t).u := by dsimp only [dats, blk]
/-- What a point leaves in window 2. -/
theorem after2 (c : Dev nD) (t : Fin cfg0.N) : (dats m 0 c).after 2 t = (blk m c t).dtE := by dsimp only [dats, blk]
/-- What a point leaves in window 3. -/
theorem after3 (c : Dev nD) (t : Fin cfg0.N) : (dats m 0 c).after 3 t = (blk m c t).B := by dsimp only [dats, blk]
/-- What a point leaves in window 4. -/
theorem after4 (c : Dev nD) (t : Fin cfg0.N) : (dats m 0 c).after 4 t = (blk m c t).C := by dsimp only [dats, blk]
/-- What a point leaves in window 5. -/
theorem after5 (c : Dev nD) (t : Fin cfg0.N) : (dats m 0 c).after 5 t = (blk m c t).r := by dsimp only [dats, blk]
/-- What a point leaves in window 6. -/
theorem after6 (c : Dev nD) (t : Fin cfg0.N) : (dats m 0 c).after 6 t = (blk m c t).Af := by dsimp only [dats, blk]
/-- What a point leaves in window 7. -/
theorem after7 (c : Dev nD) (t : Fin cfg0.N) : (dats m 0 c).after 7 t = (blk m c t).Dt := by dsimp only [dats, blk]
/-- What a point leaves in window 8. -/
theorem after8 (c : Dev nD) (t : Fin cfg0.N) : (dats m 0 c).after 8 t = (blk m c t).cw := by dsimp only [dats, blk]
/-- What a point leaves in window 9. -/
theorem after9 (c : Dev nD) (t : Fin cfg0.N) : (dats m 0 c).after 9 t = (blk m c t).cb := by dsimp only [dats, blk]
/-- What a point leaves in window 10. -/
theorem after10 (c : Dev nD) (t : Fin cfg0.N) : (dats m 0 c).after 10 t = (blk m c t).nw := by dsimp only [dats, blk]
/-- What a point leaves in window 11. -/
theorem after11 (c : Dev nD) (t : Fin cfg0.N) : (dats m 0 c).after 11 t = (blk m c t).E := by dsimp only [dats, blk]
/-- What a point leaves in window 12. -/
theorem after12 (c : Dev nD) (t : Fin cfg0.N) : (dats m 0 c).after 12 t = (blk m c t).K := by dsimp only [dats, blk]
/-- What a point leaves in window 13. -/
theorem after13 (c : Dev nD) (t : Fin cfg0.N) : (dats m 0 c).after 13 t = (blk m c t).out (tin m c t) (sin m c t) := by dsimp only [dats]

/-- What a point finds in window 0. -/
theorem before0 (c : Dev nD) (t : Fin cfg0.N) (d) : (dats m 0 c).before 0 t d = (blk m c t).z :=
  before0_0_of m (dats m 0 c) (A_eq m c 0) (after0 m c) t d
/-- What a point finds in window 1. -/
theorem before1 (c : Dev nD) (t : Fin cfg0.N) (d) : (dats m 0 c).before 1 t d = (blk m c t).u :=
  before0_1_of m (dats m 0 c) (A_eq m c 1) (after1 m c) t d
/-- What a point finds in window 2. -/
theorem before2 (c : Dev nD) (t : Fin cfg0.N) (d) : (dats m 0 c).before 2 t d = (blk m c t).dtE :=
  before0_2_of m (dats m 0 c) (A_eq m c 2) (after2 m c) t d
/-- What a point finds in window 3. -/
theorem before3 (c : Dev nD) (t : Fin cfg0.N) (d) : (dats m 0 c).before 3 t d = (blk m c t).B :=
  before0_3_of m (dats m 0 c) (A_eq m c 3) (after3 m c) t d
/-- What a point finds in window 4. -/
theorem before4 (c : Dev nD) (t : Fin cfg0.N) (d) : (dats m 0 c).before 4 t d = (blk m c t).C :=
  before0_4_of m (dats m 0 c) (A_eq m c 4) (after4 m c) t d
/-- What a point finds in window 5. -/
theorem before5 (c : Dev nD) (t : Fin cfg0.N) (d) : (dats m 0 c).before 5 t d = (blk m c t).r :=
  before0_5_of m (dats m 0 c) (A_eq m c 5) (after5 m c) t d
/-- What a point finds in window 6. -/
theorem before6 (c : Dev nD) (t : Fin cfg0.N) (d) : (dats m 0 c).before 6 t d = (blk m c t).Af :=
  before0_6_of m (dats m 0 c) (A_eq m c 6) (after6 m c) t d
/-- What a point finds in window 7. -/
theorem before7 (c : Dev nD) (t : Fin cfg0.N) (d) : (dats m 0 c).before 7 t d = (blk m c t).Dt :=
  before0_7_of m (dats m 0 c) (A_eq m c 7) (after7 m c) t d
/-- What a point finds in window 8. -/
theorem before8 (c : Dev nD) (t : Fin cfg0.N) (d) : (dats m 0 c).before 8 t d = (blk m c t).cw :=
  before0_8_of m (dats m 0 c) (A_eq m c 8) (after8 m c) t d
/-- What a point finds in window 9. -/
theorem before9 (c : Dev nD) (t : Fin cfg0.N) (d) : (dats m 0 c).before 9 t d = (blk m c t).cb :=
  before0_9_of m (dats m 0 c) (A_eq m c 9) (after9 m c) t d
/-- What a point finds in window 10. -/
theorem before10 (c : Dev nD) (t : Fin cfg0.N) (d) : (dats m 0 c).before 10 t d = (blk m c t).nw :=
  before0_10_of m (dats m 0 c) (A_eq m c 10) (after10 m c) t d
/-- What a point finds in window 11. -/
theorem before11 (c : Dev nD) (t : Fin cfg0.N) (d) : (dats m 0 c).before 11 t d = (blk m c t).E :=
  before0_11_of m (dats m 0 c) (A_eq m c 11) (after11 m c) t d
/-- What a point finds in window 12. -/
theorem before12 (c : Dev nD) (t : Fin cfg0.N) (d) : (dats m 0 c).before 12 t d = (blk m c t).K :=
  before0_12_of m (dats m 0 c) (A_eq m c 12) (after12 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ d, owns (c : Thread nD τ) (ms10 t) fullShare ((dats m 0 c).before 10 t d)) ∗ (∃ d, owns (c : Thread nD τ) (ms11 t) fullShare ((dats m 0 c).before 11 t d)) ∗ (∃ d, owns (c : Thread nD τ) (ms12 t) fullShare ((dats m 0 c).before 12 t d)) ∗ (∃ d, owns (c : Thread nD τ) (ms13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t) ∗ owns (c : Thread nD τ) (ms9 t) fullShare ((dats m 0 c).after 9 t) ∗ owns (c : Thread nD τ) (ms10 t) fullShare ((dats m 0 c).after 10 t) ∗ owns (c : Thread nD τ) (ms11 t) fullShare ((dats m 0 c).after 11 t) ∗ owns (c : Thread nD τ) (ms12 t) fullShare ((dats m 0 c).after 12 t) ∗ owns (c : Thread nD τ) (ms13 t) fullShare ((dats m 0 c).after 13 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).owesAt () t.succ = (dats m 0 c).owesAt () t.castSucc from rfl,
    after0, after1, after2, after3, after4, after5, after6, after7, after8, after9, after10, after11, after12, after13]
  rw [show (dats m 0 c).Φ t.succ = PhiS m c (t.val + 1) t.isLt from rfl, PhiS_pos m c _ _ (Nat.succ_ne_zero _), Phi_castSucc]
  rw [show carry m c (t.val + 1 - 1) (by omega) = ((blk m c t).st (tin m c t) (sin m c t) 8, (blk m c t).tail) from carry_eq m c t]
  by_cases h0 : t.val % 16 = 0
  · rw [show tin m c t = k0_pay3 from if_pos h0, show sin m c t = k0_pay2 from if_pos h0]
    refine (sep_mono (PhiS_out m c _ _) .rfl).trans ?_
    rw [rest_eq]
    · iintro ⟨⟨⟨⟨%e16, H16⟩, ⟨%e17, H17⟩, ⟨%e18, H18⟩, ⟨%e19, H19⟩, ⟨%e20, H20⟩, ⟨%e21, H21⟩, ⟨%e22, H22⟩, ⟨%e23, H23⟩, ⟨%e24, H24⟩⟩, Hg⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply (wp_wand_r _ _ _)
      isplitl [H2 H3 H4 H5 H6 H7 H8 H9 H10 H11 H12 H13 H14 H15 H16 H17 H18 H19 H20 H21 H22 H23 H24]
      · iapply (body_first (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) c (grid0.coords t) (blk m c t) _ _ _ _ _ _ _ _ _ _ Set.univ ((first_iff t).mpr h0))
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        iexact H24
      iintro %v ⟨H2, H3, H4, H5, H6, H7, H8, H9, H10, H11, H12, H13, H14, H15, H16, H17, H18, H19, H20, H21, H22, H23, H24⟩
      isplitl [H16 H17 H18 H19 H20 H21 H22 H23 H24 Hg]
      · isplitl [H16 H17 H18 H19 H20 H21 H22 H23 H24]
        · isplitl [H16]; · iexact H16
          isplitl [H17]; · iexact H17
          isplitl [H18]; · iexists _; iexact H18
          isplitl [H19]; · iexists _; iexact H19
          isplitl [H20]; · iexists _; iexact H20
          isplitl [H21]; · iexists _; iexact H21
          isplitl [H22]; · iexists _; iexact H22
          isplitl [H23]; · iexists _; iexact H23
          iexists _; iexact H24
        iexact Hg
      isplitl [Ho]; · iexact Ho
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15

  · rw [PhiS_pos m c _ _ (fun h => h0 (by rw [h]))]
    rw [← show sin m c t = _ from if_neg h0, ← show tin m c t = _ from if_neg h0]
    · iintro ⟨⟨⟨H16, H17, ⟨%e18, H18⟩, ⟨%e19, H19⟩, ⟨%e20, H20⟩, ⟨%e21, H21⟩, ⟨%e22, H22⟩, ⟨%e23, H23⟩, ⟨%e24, H24⟩⟩, Hg⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply (wp_wand_r _ _ _)
      isplitl [H2 H3 H4 H5 H6 H7 H8 H9 H10 H11 H12 H13 H14 H15 H16 H17 H18 H19 H20 H21 H22 H23 H24]
      · iapply (body_later (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) c (grid0.coords t) (blk m c t) (tin m c t) (sin m c t) _ _ _ _ _ _ _ _ Set.univ (fun h => h0 ((first_iff t).mp h)))
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        iexact H24
      iintro %v ⟨H2, H3, H4, H5, H6, H7, H8, H9, H10, H11, H12, H13, H14, H15, H16, H17, H18, H19, H20, H21, H22, H23, H24⟩
      isplitl [H16 H17 H18 H19 H20 H21 H22 H23 H24 Hg]
      · isplitl [H16 H17 H18 H19 H20 H21 H22 H23 H24]
        · isplitl [H16]; · iexact H16
          isplitl [H17]; · iexact H17
          isplitl [H18]; · iexists _; iexact H18
          isplitl [H19]; · iexists _; iexact H19
          isplitl [H20]; · iexists _; iexact H20
          isplitl [H21]; · iexists _; iexact H21
          isplitl [H22]; · iexists _; iexact H22
          isplitl [H23]; · iexists _; iexact H23
          iexists _; iexact H24
        iexact Hg
      isplitl [Ho]; · iexact Ho
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15

/-- The body at a point, on the buffers of that point. -/
theorem defs₀_row (t : Fin cfg0.N) : defs₀ (F := F) .tc cfg0.body (cfg0.bodyArgs t (cfg0.slots t)) = bodyAt0 t := by
  unfold defs₀; rw [Defs.onTc_tc]

/-- The pipeline's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch gives is the invariant before the first point. -/
theorem hin (c : Dev nD) : Pipeline.ΦA spec0 c ⊢ (dats m 0 c).Φ 0 := by
  rw [show (dats m 0 c).Φ 0 = PhiS m c 0 (Nat.zero_le _) from rfl]
  exact Idealize.SL.BI.Entails.refl _

/-- The invariant after the last point gives back what the launch takes. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_out m c _ _

set_option backward.isDefEq.respectTransparency.types false in
set_option maxHeartbeats 800000 in
/-- The run of the whole program: it ends with the arrays the pipeline's data say and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m) (Q' := _) (hQ' := fun _ h => h)

/-- The program leaves its arguments unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Scan
-- ==== Proof.Ref.Follow.lean ====
/- The reference's run stated over the step of its loop: at a valuation that holds a state every value of one trip is
   the step's, one lemma each, so one trip keeps holding with `step` applied; what is left before the loop holds
   `init`; and the results are the fields of `step` iterated from `init`. The text follows the one written for this
   program, with one rewriting step that did not fire replaced by the equation itself. -/
module

public import proofs.«01_k».proof.Proof.Gen.ReferenceIdeal.Run
public import proofs.«01_k».proof.Proof.Gen.ReferenceIdeal.Step

@[expose] public section

noncomputable section

namespace Cert.ReferenceIdeal.Follow

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v57_7) = s.main_v57_7
  f_8 : V0 (Proc.devRef .tc main_v57_8) = s.main_v57_8
  f_0 : V0 (Proc.devRef .tc main_v57_0) = s.main_v57_0
  f_1 : V0 (Proc.devRef .tc main_v57_1) = s.main_v57_1
  f_2 : V0 (Proc.devRef .tc main_v57_2) = s.main_v57_2
  f_3 : V0 (Proc.devRef .tc main_v57_3) = s.main_v57_3
  f_4 : V0 (Proc.devRef .tc main_v57_4) = s.main_v57_4
  f_5 : V0 (Proc.devRef .tc main_v57_5) = s.main_v57_5
  n_6 : V0 (Proc.devRef .tc main_v57_6) = constantI S_ 32 (BitVec.ofNat 32 j)

variable {V0 s j}

set_option maxRecDepth 8192 in
theorem al_0 (h : Holds V0 s j) : (constantI S_ 32 0#32 : (Proc.devRef .tc main_while0b_call3_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call3_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call3_c_1 : DevRef τ sig).ty.Contents (Elt F)) = Cert.ReferenceIdeal.Step.b2 j s := by
  unfold Cert.ReferenceIdeal.Step.b2
  rfl
set_option maxRecDepth 8192 in
theorem al_3 (h : Holds V0 s j) : (Host.dynamicSlice S1x4x16x128 (V0 (Proc.devRef .tc main_v57_0)) (fun k => (((![V0 (Proc.devRef .tc main_v57_6), constantI S_ 32 0#32, constantI S_ 32 0#32, constantI S_ 32 0#32] : Fin 4 → (⟨S_, .i32⟩ : BufTy).Contents (Elt F))) k (Shape.Idx.first h_S_)).toInt) sliceFits_S2048x4x16x128_S1x4x16x128 : (Proc.devRef .tc main_while0b_call3_v0 : DevRef τ sig).ty.Contents (Elt F)) = Cert.ReferenceIdeal.Step.b3 j s := by
  unfold Cert.ReferenceIdeal.Step.b3
  rw [← al_0 h, ← al_1 h, ← al_2 h, h.f_0, h.n_6]
  try rfl
set_option maxRecDepth 8192 in
theorem al_4 (h : Holds V0 s j) : (res_main_while0b_v83 V0 : (Proc.devRef .tc main_while0b_v83 : DevRef τ sig).ty.Contents (Elt F)) = Cert.ReferenceIdeal.Step.b4 j s := by
  unfold res_main_while0b_v83 Cert.ReferenceIdeal.Step.b4
  rw [← al_3 h]
  try rfl
set_option maxRecDepth 8192 in
theorem al_5 (h : Holds V0 s j) : (constantI S_ 32 0#32 : (Proc.devRef .tc main_while0b_call4_c : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call4_c_0 : DevRef τ sig).ty.Contents (Elt F)) = Cert.ReferenceIdeal.Step.b6 j s := by
  unfold Cert.ReferenceIdeal.Step.b6
  rfl
set_option maxRecDepth 8192 in
theorem al_7 (h : Holds V0 s j) : (Host.dynamicSlice S1x4x16 (V0 (Proc.devRef .tc main_v57_1)) (fun k => (((![V0 (Proc.devRef .tc main_v57_6), constantI S_ 32 0#32, constantI S_ 32 0#32] : Fin 3 → (⟨S_, .i32⟩ : BufTy).Contents (Elt F))) k (Shape.Idx.first h_S_)).toInt) sliceFits_S2048x4x16_S1x4x16 : (Proc.devRef .tc main_while0b_call4_v0 : DevRef τ sig).ty.Contents (Elt F)) = Cert.ReferenceIdeal.Step.b7 j s := by
  unfold Cert.ReferenceIdeal.Step.b7
  rw [← al_5 h, ← al_6 h, h.f_1, h.n_6]
  try rfl
set_option maxRecDepth 8192 in
theorem al_8 (h : Holds V0 s j) : (res_main_while0b_v84 V0 : (Proc.devRef .tc main_while0b_v84 : DevRef τ sig).ty.Contents (Elt F)) = Cert.ReferenceIdeal.Step.b8 j s := by
  unfold res_main_while0b_v84 Cert.ReferenceIdeal.Step.b8
  rw [← al_7 h]
  try rfl
set_option maxRecDepth 8192 in
theorem al_9 (h : Holds V0 s j) : (constantI S_ 32 0#32 : (Proc.devRef .tc main_while0b_call5_c : DevRef τ sig).ty.Contents (Elt F)) = Cert.ReferenceIdeal.Step.b9 j s := by
  unfold Cert.ReferenceIdeal.Step.b9
  rfl
set_option maxRecDepth 8192 in
theorem al_10 (h : Holds V0 s j) : (constantI S_ 32 0#32 : (Proc.devRef .tc main_while0b_call5_c_0 : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call5_c_1 : DevRef τ sig).ty.Contents (Elt F)) = Cert.ReferenceIdeal.Step.b11 j s := by
  unfold Cert.ReferenceIdeal.Step.b11
  rfl
set_option maxRecDepth 8192 in
theorem al_12 (h : Holds V0 s j) : (Host.dynamicSlice S1x4x16x64 (V0 (Proc.devRef .tc main_v57_2)) (fun k => (((![V0 (Proc.devRef .tc main_v57_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64 : (Proc.devRef .tc main_while0b_call5_v0 : DevRef τ sig).ty.Contents (Elt F)) = Cert.ReferenceIdeal.Step.b12 j s := by
  unfold Cert.ReferenceIdeal.Step.b12
  rw [← al_9 h, ← al_10 h, ← al_11 h, h.f_2, h.n_6]
  try rfl
set_option maxRecDepth 8192 in
theorem al_13 (h : Holds V0 s j) : (shapeCast S4x16x64 (Host.dynamicSlice S1x4x16x64 (V0 (Proc.devRef .tc main_v57_2)) (fun k => (((![V0 (Proc.devRef .tc main_v57_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64 : (Proc.devRef .tc main_while0b_v85 : DevRef τ sig).ty.Contents (Elt F)) = Cert.ReferenceIdeal.Step.b13 j s := by
  unfold Cert.ReferenceIdeal.Step.b13
  rw [← al_12 h]
  try rfl
set_option maxRecDepth 8192 in
theorem al_14 (h : Holds V0 s j) : (constantI S_ 32 0#32 : (Proc.devRef .tc main_while0b_call6_c : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call6_c_0 : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call6_c_1 : DevRef τ sig).ty.Contents (Elt F)) = Cert.ReferenceIdeal.Step.b16 j s := by
  unfold Cert.ReferenceIdeal.Step.b16
  rfl
set_option maxRecDepth 8192 in
theorem al_17 (h : Holds V0 s j) : (Host.dynamicSlice S1x4x16x64 (V0 (Proc.devRef .tc main_v57_3)) (fun k => (((![V0 (Proc.devRef .tc main_v57_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64 : (Proc.devRef .tc main_while0b_call6_v0 : DevRef τ sig).ty.Contents (Elt F)) = Cert.ReferenceIdeal.Step.b17 j s := by
  unfold Cert.ReferenceIdeal.Step.b17
  rw [← al_14 h, ← al_15 h, ← al_16 h, h.f_3, h.n_6]
  try rfl
set_option maxRecDepth 8192 in
theorem al_18 (h : Holds V0 s j) : (shapeCast S4x16x64 (Host.dynamicSlice S1x4x16x64 (V0 (Proc.devRef .tc main_v57_3)) (fun k => (((![V0 (Proc.devRef .tc main_v57_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64 : (Proc.devRef .tc main_while0b_v86 : DevRef τ sig).ty.Contents (Elt F)) = Cert.ReferenceIdeal.Step.b18 j s := by
  unfold Cert.ReferenceIdeal.Step.b18
  rw [← al_17 h]
  try rfl
set_option maxRecDepth 8192 in
theorem al_19 (h : Holds V0 s j) : (broadcastInDim S4x16x1 ![0, 1] bcast_S4x16_S4x16x1_0_1 (res_main_while0b_v84 V0) : (Proc.devRef .tc main_while0b_v87 : DevRef τ sig).ty.Contents (Elt F)) = Cert.ReferenceIdeal.Step.b19 j s := by
  unfold Cert.ReferenceIdeal.Step.b19
  rw [← al_8 h]
  try rfl
set_option maxRecDepth 8192 in
theorem al_20 (h : Holds V0 s j) : (broadcastInDim S1x16x64 ![1, 2] bcast_S16x64_S1x16x64_1_2 (V0 (Proc.devRef .tc main_v57_4)) : (Proc.devRef .tc main_while0b_v88 : DevRef τ sig).ty.Contents (Elt F)) = Cert.ReferenceIdeal.Step.b20 j s := by
  unfold Cert.ReferenceIdeal.Step.b20
  rw [h.f_4]
  try rfl
set_option maxRecDepth 8192 in
theorem al_21 (h : Holds V0 s j) : (broadcastInDim S4x16x64 ![0, 1, 2] bcast_S4x16x1_S4x16x64_0_1_2 (broadcastInDim S4x16x1 ![0, 1] bcast_S4x16_S4x16x1_0_1 (res_main_while0b_v84 V0)) : (Proc.devRef .tc main_while0b_v89 : DevRef τ sig).ty.Contents (Elt F)) = Cert.ReferenceIdeal.Step.b21 j s := by
  unfold Cert.ReferenceIdeal.Step.b21
  rw [← al_19 h]
  try rfl
set_option maxRecDepth 8192 in
theorem al_22 (h : Holds V0 s j) : (broadcastInDim S4x16x64 ![0, 1, 2] bcast_S1x16x64_S4x16x64_0_1_2 (broadcastInDim S1x16x64 ![1, 2] bcast_S16x64_S1x16x64_1_2 (V0 (Proc.devRef .tc main_v57_4))) : (Proc.devRef .tc main_while0b_v90 : DevRef τ sig).ty.Contents (Elt F)) = Cert.ReferenceIdeal.Step.b22 j s := by
  unfold Cert.ReferenceIdeal.Step.b22
  rw [← al_20 h]
  try rfl
set_option maxRecDepth 8192 in
theorem al_23 (h : Holds V0 s j) : (mulf (broadcastInDim S4x16x64 ![0, 1, 2] bcast_S4x16x1_S4x16x64_0_1_2 (broadcastInDim S4x16x1 ![0, 1] bcast_S4x16_S4x16x1_0_1 (res_main_while0b_v84 V0))) (broadcastInDim S4x16x64 ![0, 1, 2] bcast_S1x16x64_S4x16x64_0_1_2 (broadcastInDim S1x16x64 ![1, 2] bcast_S16x64_S1x16x64_1_2 (V0 (Proc.devRef .tc main_v57_4)))) : (Proc.devRef .tc main_while0b_v91 : DevRef τ sig).ty.Contents (Elt F)) = Cert.ReferenceIdeal.Step.b23 j s := by
  unfold Cert.ReferenceIdeal.Step.b23
  rw [← al_21 h, ← al_22 h]
  try rfl
set_option maxRecDepth 8192 in
theorem al_24 (h : Holds V0 s j) : (Host.exp (mulf (broadcastInDim S4x16x64 ![0, 1, 2] bcast_S4x16x1_S4x16x64_0_1_2 (broadcastInDim S4x16x1 ![0, 1] bcast_S4x16_S4x16x1_0_1 (res_main_while0b_v84 V0))) (broadcastInDim S4x16x64 ![0, 1, 2] bcast_S1x16x64_S4x16x64_0_1_2 (broadcastInDim S1x16x64 ![1, 2] bcast_S16x64_S1x16x64_1_2 (V0 (Proc.devRef .tc main_v57_4))))) : (Proc.devRef .tc main_while0b_v92 : DevRef τ sig).ty.Contents (Elt F)) = Cert.ReferenceIdeal.Step.b24 j s := by
  unfold Cert.ReferenceIdeal.Step.b24
  rw [← al_23 h]
  try rfl
set_option maxRecDepth 8192 in
theorem al_25 (h : Holds V0 s j) : (broadcastInDim S4x16x1x64 ![0, 1, 3] bcast_S4x16x64_S4x16x1x64_0_1_3 (Host.exp (mulf (broadcastInDim S4x16x64 ![0, 1, 2] bcast_S4x16x1_S4x16x64_0_1_2 (broadcastInDim S4x16x1 ![0, 1] bcast_S4x16_S4x16x1_0_1 (res_main_while0b_v84 V0))) (broadcastInDim S4x16x64 ![0, 1, 2] bcast_S1x16x64_S4x16x64_0_1_2 (broadcastInDim S1x16x64 ![1, 2] bcast_S16x64_S1x16x64_1_2 (V0 (Proc.devRef .tc main_v57_4)))))) : (Proc.devRef .tc main_while0b_v93 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (broadcastInDim S4x16x128x64 ![0, 1, 2, 3] bcast_S4x16x1x64_S4x16x128x64_0_1_2_3 (broadcastInDim S4x16x1x64 ![0, 1, 3] bcast_S4x16x64_S4x16x1x64_0_1_3 (Host.exp (mulf (broadcastInDim S4x16x64 ![0, 1, 2] bcast_S4x16x1_S4x16x64_0_1_2 (broadcastInDim S4x16x1 ![0, 1] bcast_S4x16_S4x16x1_0_1 (res_main_while0b_v84 V0))) (broadcastInDim S4x16x64 ![0, 1, 2] bcast_S1x16x64_S4x16x64_0_1_2 (broadcastInDim S1x16x64 ![1, 2] bcast_S16x64_S1x16x64_1_2 (V0 (Proc.devRef .tc main_v57_4))))))) : (Proc.devRef .tc main_while0b_v94 : DevRef τ sig).ty.Contents (Elt F)) = Cert.ReferenceIdeal.Step.b26 j s := by
  unfold Cert.ReferenceIdeal.Step.b26
  rw [← al_25 h]
  try rfl
set_option maxRecDepth 8192 in
theorem al_27 (h : Holds V0 s j) : (mulf (broadcastInDim S4x16x128x64 ![0, 1, 2, 3] bcast_S4x16x1x64_S4x16x128x64_0_1_2_3 (broadcastInDim S4x16x1x64 ![0, 1, 3] bcast_S4x16x64_S4x16x1x64_0_1_3 (Host.exp (mulf (broadcastInDim S4x16x64 ![0, 1, 2] bcast_S4x16x1_S4x16x64_0_1_2 (broadcastInDim S4x16x1 ![0, 1] bcast_S4x16_S4x16x1_0_1 (res_main_while0b_v84 V0))) (broadcastInDim S4x16x64 ![0, 1, 2] bcast_S1x16x64_S4x16x64_0_1_2 (broadcastInDim S1x16x64 ![1, 2] bcast_S16x64_S1x16x64_1_2 (V0 (Proc.devRef .tc main_v57_4)))))))) (V0 (Proc.devRef .tc main_v57_7)) : (Proc.devRef .tc main_while0b_v95 : DevRef τ sig).ty.Contents (Elt F)) = Cert.ReferenceIdeal.Step.b27 j s := by
  unfold Cert.ReferenceIdeal.Step.b27
  rw [← al_26 h, h.f_7]
  try rfl
set_option maxRecDepth 8192 in
theorem al_28 (h : Holds V0 s j) : (broadcastInDim S4x16x1x1 ![0, 1] bcast_S4x16_S4x16x1x1_0_1 (res_main_while0b_v84 V0) : (Proc.devRef .tc main_while0b_v96 : DevRef τ sig).ty.Contents (Elt F)) = Cert.ReferenceIdeal.Step.b28 j s := by
  unfold Cert.ReferenceIdeal.Step.b28
  rw [← al_8 h]
  try rfl
set_option maxRecDepth 8192 in
theorem al_29 (h : Holds V0 s j) : (broadcastInDim S4x16x1x64 ![0, 1, 3] bcast_S4x16x64_S4x16x1x64_0_1_3 (shapeCast S4x16x64 (Host.dynamicSlice S1x4x16x64 (V0 (Proc.devRef .tc main_v57_2)) (fun k => (((![V0 (Proc.devRef .tc main_v57_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64) : (Proc.devRef .tc main_while0b_v97 : DevRef τ sig).ty.Contents (Elt F)) = Cert.ReferenceIdeal.Step.b29 j s := by
  unfold Cert.ReferenceIdeal.Step.b29
  rw [← al_13 h]
  try rfl
set_option maxRecDepth 8192 in
theorem al_30 (h : Holds V0 s j) : (broadcastInDim S4x16x1x64 ![0, 1, 2, 3] bcast_S4x16x1x1_S4x16x1x64_0_1_2_3 (broadcastInDim S4x16x1x1 ![0, 1] bcast_S4x16_S4x16x1x1_0_1 (res_main_while0b_v84 V0)) : (Proc.devRef .tc main_while0b_v98 : DevRef τ sig).ty.Contents (Elt F)) = Cert.ReferenceIdeal.Step.b30 j s := by
  unfold Cert.ReferenceIdeal.Step.b30
  rw [← al_28 h]
  try rfl
set_option maxRecDepth 8192 in
theorem al_31 (h : Holds V0 s j) : (mulf (broadcastInDim S4x16x1x64 ![0, 1, 2, 3] bcast_S4x16x1x1_S4x16x1x64_0_1_2_3 (broadcastInDim S4x16x1x1 ![0, 1] bcast_S4x16_S4x16x1x1_0_1 (res_main_while0b_v84 V0))) (broadcastInDim S4x16x1x64 ![0, 1, 3] bcast_S4x16x64_S4x16x1x64_0_1_3 (shapeCast S4x16x64 (Host.dynamicSlice S1x4x16x64 (V0 (Proc.devRef .tc main_v57_2)) (fun k => (((![V0 (Proc.devRef .tc main_v57_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64)) : (Proc.devRef .tc main_while0b_v99 : DevRef τ sig).ty.Contents (Elt F)) = Cert.ReferenceIdeal.Step.b31 j s := by
  unfold Cert.ReferenceIdeal.Step.b31
  rw [← al_30 h, ← al_29 h]
  try rfl
set_option maxRecDepth 8192 in
theorem al_32 (h : Holds V0 s j) : (broadcastInDim S4x16x128x1 ![0, 1, 2] bcast_S4x16x128_S4x16x128x1_0_1_2 (res_main_while0b_v83 V0) : (Proc.devRef .tc main_while0b_v100 : DevRef τ sig).ty.Contents (Elt F)) = Cert.ReferenceIdeal.Step.b32 j s := by
  unfold Cert.ReferenceIdeal.Step.b32
  rw [← al_4 h]
  try rfl
set_option maxRecDepth 8192 in
theorem al_33 (h : Holds V0 s j) : (broadcastInDim S4x16x128x64 ![0, 1, 2, 3] bcast_S4x16x1x64_S4x16x128x64_0_1_2_3 (mulf (broadcastInDim S4x16x1x64 ![0, 1, 2, 3] bcast_S4x16x1x1_S4x16x1x64_0_1_2_3 (broadcastInDim S4x16x1x1 ![0, 1] bcast_S4x16_S4x16x1x1_0_1 (res_main_while0b_v84 V0))) (broadcastInDim S4x16x1x64 ![0, 1, 3] bcast_S4x16x64_S4x16x1x64_0_1_3 (shapeCast S4x16x64 (Host.dynamicSlice S1x4x16x64 (V0 (Proc.devRef .tc main_v57_2)) (fun k => (((![V0 (Proc.devRef .tc main_v57_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64))) : (Proc.devRef .tc main_while0b_v101 : DevRef τ sig).ty.Contents (Elt F)) = Cert.ReferenceIdeal.Step.b33 j s := by
  unfold Cert.ReferenceIdeal.Step.b33
  rw [← al_31 h]
  try rfl
set_option maxRecDepth 8192 in
theorem al_34 (h : Holds V0 s j) : (broadcastInDim S4x16x128x64 ![0, 1, 2, 3] bcast_S4x16x128x1_S4x16x128x64_0_1_2_3 (broadcastInDim S4x16x128x1 ![0, 1, 2] bcast_S4x16x128_S4x16x128x1_0_1_2 (res_main_while0b_v83 V0)) : (Proc.devRef .tc main_while0b_v102 : DevRef τ sig).ty.Contents (Elt F)) = Cert.ReferenceIdeal.Step.b34 j s := by
  unfold Cert.ReferenceIdeal.Step.b34
  rw [← al_32 h]
  try rfl
set_option maxRecDepth 8192 in
theorem al_35 (h : Holds V0 s j) : (mulf (broadcastInDim S4x16x128x64 ![0, 1, 2, 3] bcast_S4x16x1x64_S4x16x128x64_0_1_2_3 (mulf (broadcastInDim S4x16x1x64 ![0, 1, 2, 3] bcast_S4x16x1x1_S4x16x1x64_0_1_2_3 (broadcastInDim S4x16x1x1 ![0, 1] bcast_S4x16_S4x16x1x1_0_1 (res_main_while0b_v84 V0))) (broadcastInDim S4x16x1x64 ![0, 1, 3] bcast_S4x16x64_S4x16x1x64_0_1_3 (shapeCast S4x16x64 (Host.dynamicSlice S1x4x16x64 (V0 (Proc.devRef .tc main_v57_2)) (fun k => (((![V0 (Proc.devRef .tc main_v57_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64)))) (broadcastInDim S4x16x128x64 ![0, 1, 2, 3] bcast_S4x16x128x1_S4x16x128x64_0_1_2_3 (broadcastInDim S4x16x128x1 ![0, 1, 2] bcast_S4x16x128_S4x16x128x1_0_1_2 (res_main_while0b_v83 V0))) : (Proc.devRef .tc main_while0b_v103 : DevRef τ sig).ty.Contents (Elt F)) = Cert.ReferenceIdeal.Step.b35 j s := by
  unfold Cert.ReferenceIdeal.Step.b35
  rw [← al_33 h, ← al_34 h]
  try rfl
set_option maxRecDepth 8192 in
theorem al_36 (h : Holds V0 s j) : (res_main_while0b_v104 V0 : (Proc.devRef .tc main_while0b_v104 : DevRef τ sig).ty.Contents (Elt F)) = Cert.ReferenceIdeal.Step.b36 j s := by
  unfold res_main_while0b_v104 Cert.ReferenceIdeal.Step.b36
  rw [← al_27 h, ← al_35 h]
  try rfl
set_option maxRecDepth 8192 in
theorem al_37 (h : Holds V0 s j) : (Host.dotGeneral dot_S4x16x128x64_S4x16x64_S4x16x128_3_2_2_n_01_01 none (res_main_while0b_v104 V0) (shapeCast S4x16x64 (Host.dynamicSlice S1x4x16x64 (V0 (Proc.devRef .tc main_v57_3)) (fun k => (((![V0 (Proc.devRef .tc main_v57_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64) : (Proc.devRef .tc main_while0b_v105 : DevRef τ sig).ty.Contents (Elt F)) = Cert.ReferenceIdeal.Step.b37 j s := by
  unfold Cert.ReferenceIdeal.Step.b37
  rw [← al_36 h, ← al_18 h]
  try rfl
set_option maxRecDepth 8192 in
theorem al_38 (h : Holds V0 s j) : (broadcastInDim S1x16x128 ![1, 2] bcast_S16x128_S1x16x128_1_2 (V0 (Proc.devRef .tc main_v57_5)) : (Proc.devRef .tc main_while0b_v106 : DevRef τ sig).ty.Contents (Elt F)) = Cert.ReferenceIdeal.Step.b38 j s := by
  unfold Cert.ReferenceIdeal.Step.b38
  rw [h.f_5]
  try rfl
set_option maxRecDepth 8192 in
theorem al_39 (h : Holds V0 s j) : (broadcastInDim S4x16x128 ![0, 1, 2] bcast_S1x16x128_S4x16x128_0_1_2 (broadcastInDim S1x16x128 ![1, 2] bcast_S16x128_S1x16x128_1_2 (V0 (Proc.devRef .tc main_v57_5))) : (Proc.devRef .tc main_while0b_v107 : DevRef τ sig).ty.Contents (Elt F)) = Cert.ReferenceIdeal.Step.b39 j s := by
  unfold Cert.ReferenceIdeal.Step.b39
  rw [← al_38 h]
  try rfl
set_option maxRecDepth 8192 in
theorem al_40 (h : Holds V0 s j) : (mulf (broadcastInDim S4x16x128 ![0, 1, 2] bcast_S1x16x128_S4x16x128_0_1_2 (broadcastInDim S1x16x128 ![1, 2] bcast_S16x128_S1x16x128_1_2 (V0 (Proc.devRef .tc main_v57_5)))) (res_main_while0b_v83 V0) : (Proc.devRef .tc main_while0b_v108 : DevRef τ sig).ty.Contents (Elt F)) = Cert.ReferenceIdeal.Step.b40 j s := by
  unfold Cert.ReferenceIdeal.Step.b40
  rw [← al_39 h, ← al_4 h]
  try rfl
set_option maxRecDepth 8192 in
theorem al_41 (h : Holds V0 s j) : (addf (Host.dotGeneral dot_S4x16x128x64_S4x16x64_S4x16x128_3_2_2_n_01_01 none (res_main_while0b_v104 V0) (shapeCast S4x16x64 (Host.dynamicSlice S1x4x16x64 (V0 (Proc.devRef .tc main_v57_3)) (fun k => (((![V0 (Proc.devRef .tc main_v57_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64)) (mulf (broadcastInDim S4x16x128 ![0, 1, 2] bcast_S1x16x128_S4x16x128_0_1_2 (broadcastInDim S1x16x128 ![1, 2] bcast_S16x128_S1x16x128_1_2 (V0 (Proc.devRef .tc main_v57_5)))) (res_main_while0b_v83 V0)) : (Proc.devRef .tc main_while0b_v109 : DevRef τ sig).ty.Contents (Elt F)) = Cert.ReferenceIdeal.Step.b41 j s := by
  unfold Cert.ReferenceIdeal.Step.b41
  rw [← al_37 h, ← al_40 h]
  try rfl
set_option maxRecDepth 8192 in
theorem al_42 (h : Holds V0 s j) : (broadcastInDim S1x4x16x128 ![1, 2, 3] bcast_S4x16x128_S1x4x16x128_1_2_3 (addf (Host.dotGeneral dot_S4x16x128x64_S4x16x64_S4x16x128_3_2_2_n_01_01 none (res_main_while0b_v104 V0) (shapeCast S4x16x64 (Host.dynamicSlice S1x4x16x64 (V0 (Proc.devRef .tc main_v57_3)) (fun k => (((![V0 (Proc.devRef .tc main_v57_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64)) (mulf (broadcastInDim S4x16x128 ![0, 1, 2] bcast_S1x16x128_S4x16x128_0_1_2 (broadcastInDim S1x16x128 ![1, 2] bcast_S16x128_S1x16x128_1_2 (V0 (Proc.devRef .tc main_v57_5)))) (res_main_while0b_v83 V0))) : (Proc.devRef .tc main_while0b_call7_v0 : DevRef τ sig).ty.Contents (Elt F)) = Cert.ReferenceIdeal.Step.b42 j s := by
  unfold Cert.ReferenceIdeal.Step.b42
  rw [← al_41 h]
  try rfl
set_option maxRecDepth 8192 in
theorem al_43 (h : Holds V0 s j) : (constantI S_ 32 0#32 : (Proc.devRef .tc main_while0b_call7_c : DevRef τ sig).ty.Contents (Elt F)) = Cert.ReferenceIdeal.Step.b43 j s := by
  unfold Cert.ReferenceIdeal.Step.b43
  rfl
set_option maxRecDepth 8192 in
theorem al_44 (h : Holds V0 s j) : (constantI S_ 32 0#32 : (Proc.devRef .tc main_while0b_call7_c_0 : DevRef τ sig).ty.Contents (Elt F)) = Cert.ReferenceIdeal.Step.b44 j s := by
  unfold Cert.ReferenceIdeal.Step.b44
  rfl
set_option maxRecDepth 8192 in
theorem al_45 (h : Holds V0 s j) : (constantI S_ 32 0#32 : (Proc.devRef .tc main_while0b_call7_c_1 : DevRef τ sig).ty.Contents (Elt F)) = Cert.ReferenceIdeal.Step.b45 j s := by
  unfold Cert.ReferenceIdeal.Step.b45
  rfl
set_option maxRecDepth 8192 in
theorem al_46 (h : Holds V0 s j) : (Host.dynamicUpdateSlice (V0 (Proc.devRef .tc main_v57_8)) (broadcastInDim S1x4x16x128 ![1, 2, 3] bcast_S4x16x128_S1x4x16x128_1_2_3 (addf (Host.dotGeneral dot_S4x16x128x64_S4x16x64_S4x16x128_3_2_2_n_01_01 none (res_main_while0b_v104 V0) (shapeCast S4x16x64 (Host.dynamicSlice S1x4x16x64 (V0 (Proc.devRef .tc main_v57_3)) (fun k => (((![V0 (Proc.devRef .tc main_v57_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64)) (mulf (broadcastInDim S4x16x128 ![0, 1, 2] bcast_S1x16x128_S4x16x128_0_1_2 (broadcastInDim S1x16x128 ![1, 2] bcast_S16x128_S1x16x128_1_2 (V0 (Proc.devRef .tc main_v57_5)))) (res_main_while0b_v83 V0)))) (fun k => (((![V0 (Proc.devRef .tc main_v57_6), constantI S_ 32 0#32, constantI S_ 32 0#32, constantI S_ 32 0#32] : Fin 4 → (⟨S_, .i32⟩ : BufTy).Contents (Elt F))) k (Shape.Idx.first h_S_)).toInt) updateFits_S2048x4x16x128_S1x4x16x128 : (Proc.devRef .tc main_while0b_v110 : DevRef τ sig).ty.Contents (Elt F)) = Cert.ReferenceIdeal.Step.b46 j s := by
  unfold Cert.ReferenceIdeal.Step.b46
  rw [← al_42 h, ← al_43 h, ← al_44 h, ← al_45 h, h.f_8, h.n_6]
  try rfl

/-! One trip's step of the carried values is `step`, field by field; a counter steps to the next number. -/

theorem step_7 (h : Holds V0 s j) : step_main_v57_7 V0 = (step j s).main_v57_7 := by
  unfold step_main_v57_7 Cert.ReferenceIdeal.Step.step
  show id (res_main_while0b_v104 V0) = _
  rw [al_36 h]
  try rfl
theorem step_8 (h : Holds V0 s j) : step_main_v57_8 V0 = (step j s).main_v57_8 := by
  unfold step_main_v57_8 Cert.ReferenceIdeal.Step.step
  show id (Host.dynamicUpdateSlice (V0 (Proc.devRef .tc main_v57_8)) (broadcastInDim S1x4x16x128 ![1, 2, 3] bcast_S4x16x128_S1x4x16x128_1_2_3 (addf (Host.dotGeneral dot_S4x16x128x64_S4x16x64_S4x16x128_3_2_2_n_01_01 none (res_main_while0b_v104 V0) (shapeCast S4x16x64 (Host.dynamicSlice S1x4x16x64 (V0 (Proc.devRef .tc main_v57_3)) (fun k => (((![V0 (Proc.devRef .tc main_v57_6), constantI S_ 32 0#32, constantI S_ 32 0#32, constantI S_ 32 0#32] : Fin 4 → (⟨S_, .i32⟩ : BufTy).Contents (Elt F))) k (Shape.Idx.first h_S_)).toInt) sliceFits_S2048x4x16x64_S1x4x16x64) shapeCasts_S1x4x16x64_S4x16x64)) (mulf (broadcastInDim S4x16x128 ![0, 1, 2] bcast_S1x16x128_S4x16x128_0_1_2 (broadcastInDim S1x16x128 ![1, 2] bcast_S16x128_S1x16x128_1_2 (V0 (Proc.devRef .tc main_v57_5)))) (res_main_while0b_v83 V0)))) (fun k => (((![V0 (Proc.devRef .tc main_v57_6), constantI S_ 32 0#32, constantI S_ 32 0#32, constantI S_ 32 0#32] : Fin 4 → (⟨S_, .i32⟩ : BufTy).Contents (Elt F))) k (Shape.Idx.first h_S_)).toInt) updateFits_S2048x4x16x128_S1x4x16x128) = _
  exact (show id _ = _ from al_46 h)
theorem step_6 (h : Holds V0 s j) : step_main_v57_6 V0 = constantI S_ 32 (BitVec.ofNat 32 (j + 1)) := by
  unfold step_main_v57_6
  rw [h.n_6]
  funext i
  show BitVec.ofNat 32 j + 1#32 = BitVec.ofNat 32 (j + 1)
  simp only [BitVec.ofNat_add]

set_option maxRecDepth 8192 in
theorem out_main_v82_holds (h : Holds V0 s j) {x_main_arg0 : (⟨S4x2048x1024, .f32⟩ : BufTy).Contents (Elt F)} (h_main_arg0 : V0 (Proc.devRef .tc main_arg0) = x_main_arg0) {x_main_arg1 : (⟨S6208x1024, .f32⟩ : BufTy).Contents (Elt F)} (h_main_arg1 : V0 (Proc.devRef .tc main_arg1) = x_main_arg1) {x_main_arg8 : (⟨S2048, .f32⟩ : BufTy).Contents (Elt F)} (h_main_arg8 : V0 (Proc.devRef .tc main_arg8) = x_main_arg8) {x_main_arg9 : (⟨S1024x2048, .f32⟩ : BufTy).Contents (Elt F)} (h_main_arg9 : V0 (Proc.devRef .tc main_arg9) = x_main_arg9) {x_main_arg10 : (⟨S2048x1024, .f32⟩ : BufTy).Contents (Elt F)} (h_main_arg10 : V0 (Proc.devRef .tc main_arg10) = x_main_arg10) : out_main_v82 V0 = Cert.ReferenceIdeal.Step.R_main_v82 s x_main_arg0 x_main_arg1 x_main_arg8 x_main_arg9 x_main_arg10 := by
  unfold out_main_v82 Cert.ReferenceIdeal.Step.R_main_v82
  rw [h.f_8, h_main_arg0, h_main_arg1, h_main_arg8, h_main_arg9, h_main_arg10]
  try rfl

/-- One trip keeps the valuation holding: `step` of the state, the same set-up values, the next number. -/
theorem holds_step (h : Holds V0 s j) : Holds (STEP V0) (step j s) (j + 1) where
  f_7 := (STEP_main_v57_7 V0).trans (step_7 h)
  f_8 := (STEP_main_v57_8 V0).trans (step_8 h)
  n_6 := (STEP_main_v57_6 V0).trans (step_6 h)
  f_0 := (STEP_main_v57_0 V0).trans h.f_0
  f_1 := (STEP_main_v57_1 V0).trans h.f_1
  f_2 := (STEP_main_v57_2 V0).trans h.f_2
  f_3 := (STEP_main_v57_3 V0).trans h.f_3
  f_4 := (STEP_main_v57_4 V0).trans h.f_4
  f_5 := (STEP_main_v57_5 V0).trans h.f_5

/-- The state the first trip starts from, of the memory the run starts from. -/
abbrev initState (m : (ℓ : Loc nD τ sig) → Buf (Elt F) ℓ) (c : Dev nD) : State F :=
  init (m ((c.tc : Thread nD τ).loc main_arg6)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 2048 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v82) = Cert.ReferenceIdeal.Step.R_main_v82 (it c 2048) (m ((c.tc : Thread nD τ).loc main_arg0)) (m ((c.tc : Thread nD τ).loc main_arg1)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    have hk := holds_iter m c (it c) (h0 c) (hs c) 2048
    ⟨(h c).1.trans (out_main_v82_holds hk (iter_main_arg0 m c 2048) (iter_main_arg1 m c 2048) (iter_main_arg8 m c 2048) (iter_main_arg9 m c 2048) (iter_main_arg10 m c 2048)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩) (Value.run m ρ)

end Cert.ReferenceIdeal.Follow

end
-- ==== Proof.Frames.lean ====
/- The three frames: each program ends with its arguments unchanged and its counters at zero. -/
module

public import proofs.«01_k».proof.Defs
public import proofs.«01_k».proof.Proof.Same
public import proofs.«01_k».proof.Proof.Scan.Launch
public import proofs.«01_k».proof.Proof.Ref.Follow
public import Idealize.ShloMosaic.Lib.Quiescent

@[expose] public section

noncomputable section

namespace Cert.Frames

open Idealize.ShloMosaic Idealize.ShloMosaic.TcCoe Idealize.SL.Sem

section
attribute [local irreducible] θ_run

set_option maxRecDepth 100000 in
set_option maxHeartbeats 2000000 in
/-- The kernel on bits: every run ends, the arguments are unchanged and the counters are zero. -/
theorem kernel : Cert.quiescent_Kernel (hKernel := Cert.Kernel.Gen.facts) := by
  intro m g _
  have h := Cert.KernelIdeal.Scan.frame_run (F := Bits) m g
  rw [← same_defs, ← same_main] at h
  exact h

end

set_option maxRecDepth 100000 in
/-- The kernel on ideal floats: every run ends, the arguments are unchanged and the counters are zero. -/
theorem kernelIdeal : Cert.quiescent_KernelIdeal (hKernelIdeal := Cert.KernelIdeal.Gen.facts) :=
  fun m g _ => Cert.KernelIdeal.Scan.frame_run (F := Ideal) m g

/-- The reference on ideal floats: every run ends, the arguments are unchanged and it has no counters. -/
theorem referenceIdeal : Cert.quiescent_ReferenceIdeal (hReferenceIdeal := Cert.ReferenceIdeal.Gen.facts) :=
  fun m g _ => (θ_run _ _ _).mono (fun _ h => ⟨fun c => (h c).2, sem_eq_zero_of_no_sems (by decide) _⟩)
    (Cert.ReferenceIdeal.Value.run (F := Ideal) m g)

end Cert.Frames

end
-- ==== Proof.Host.Gather.lean ====
/- Three gathers read at an index: rows of a matrix, entries of a vector, and columns of a matrix, each at a list of
   row, entry or column numbers. -/
module

public import Idealize.ShloMosaic.Lib.ValueIdx
public import Idealize.ShloMosaic.Lib.Pointwise

@[expose] public section

noncomputable section

namespace Cert.Gather

open Idealize.ShloMosaic

variable {α : Type}

/-- Gather whole rows. -/
abbrev rowsDims (N C B : ℕ) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- Gather entries of a vector. -/
abbrev vecDims (N B : ℕ) (wf : GatherDims.WF ⟨1, ![N]⟩ ⟨2, ![B, 1]⟩ ⟨1, ![B]⟩ [] [0] [] [0] [] 1 ![1]) :
    GatherDims ⟨1, ![N]⟩ ⟨2, ![B, 1]⟩ ⟨1, ![B]⟩ where
  offsetDims := []
  collapsedSliceDims := [0]
  operandBatchingDims := []
  startIndicesBatchingDims := []
  startIndexMap := [0]
  indexVectorDim := 1
  sliceSizes := ![1]
  wf := wf

/-- Gather whole columns. -/
abbrev colsDims (A N B : ℕ) (wf : GatherDims.WF ⟨2, ![A, N]⟩ ⟨2, ![B, 1]⟩ ⟨2, ![A, B]⟩ [0] [1] [] [1] [] 1 ![A, 1]) :
    GatherDims ⟨2, ![A, N]⟩ ⟨2, ![B, 1]⟩ ⟨2, ![A, B]⟩ where
  offsetDims := [0]
  collapsedSliceDims := [1]
  operandBatchingDims := []
  startIndicesBatchingDims := []
  startIndexMap := [1]
  indexVectorDim := 1
  sliceSizes := ![A, 1]
  wf := wf

/-- Gathered rows at an index: the row whose number the list holds, the same column. -/
theorem rows_apply {N C B w : ℕ} (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (b : Fin B) (j : Fin C) (n : Fin N)
    (hn : min (idx (ix2 b 0)).toInt.toNat (N - 1) = n.val) :
    Host.gather (rowsDims N C B wf) x idx (ix2 b j) = x (ix2 n j) := by
  unfold Host.gather
  congr 1
  funext a
  refine Fin.ext ?_
  show (rowsDims N C B wf).start (ix2 b j) idx a + (rowsDims N C B wf).batchCoord (ix2 b j) a + (rowsDims N C B wf).offCoord (ix2 b j) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (rowsDims N C B wf).startIndexMap from List.mem_singleton.mpr rfl)]
    have hsi : (rowsDims N C B wf).siIdx (ix2 b j) ⟨List.idxOf (0 : Fin 2) (rowsDims N C B wf).startIndexMap,
        List.idxOf_lt_length_iff.2 (List.mem_singleton.mpr rfl)⟩ = ix2 b 0 := by
      funext e; refine Fin.ext ?_
      match e with
      | ⟨0, _⟩ => rfl
      | ⟨1, _⟩ => rfl
    rw [hsi]
    exact hn
  · unfold GatherDims.start
    rw [dif_neg (show (1 : Fin 2) ∉ (rowsDims N C B wf).startIndexMap from by simp)]
    exact (Nat.zero_add _).trans rfl

/-- Gathered entries at an index: the entry whose number the list holds. -/
theorem vec_apply {N B w : ℕ} (wf : GatherDims.WF ⟨1, ![N]⟩ ⟨2, ![B, 1]⟩ ⟨1, ![B]⟩ [] [0] [] [0] [] 1 ![1])
    (x : (⟨1, ![N]⟩ : Shape).Idx → α) (idx : IVec ⟨2, ![B, 1]⟩ w) (b : Fin B) (n : Fin N)
    (hn : min (idx (ix2 b 0)).toInt.toNat (N - 1) = n.val) :
    Host.gather (vecDims N B wf) x idx (ix1 b) = x (ix1 n) := by
  unfold Host.gather
  congr 1
  funext a
  refine Fin.ext ?_
  show (vecDims N B wf).start (ix1 b) idx a + (vecDims N B wf).batchCoord (ix1 b) a + (vecDims N B wf).offCoord (ix1 b) a = _
  rw [GatherDims.batchCoord_eq_zero _ _ _ List.not_mem_nil]
  obtain rfl : a = 0 := Subsingleton.elim _ _
  · rw [GatherDims.offCoord_eq_zero _ _ _ (fun h => ((GatherDims.mem_sKept _ _).mp h).1 (List.mem_singleton.mpr rfl))]
    unfold GatherDims.start
    rw [dif_pos (show (0 : Fin 1) ∈ (vecDims N B wf).startIndexMap from List.mem_singleton.mpr rfl)]
    have hsi : (vecDims N B wf).siIdx (ix1 b) ⟨List.idxOf (0 : Fin 1) (vecDims N B wf).startIndexMap,
        List.idxOf_lt_length_iff.2 (List.mem_singleton.mpr rfl)⟩ = ix2 b 0 := by
      funext e; refine Fin.ext ?_
      match e with
      | ⟨0, _⟩ => rfl
      | ⟨1, _⟩ => rfl
    rw [hsi]
    exact hn

/-- Gathered columns at an index: the same row, the column whose number the list holds. -/
theorem cols_apply {A N B w : ℕ} (wf : GatherDims.WF ⟨2, ![A, N]⟩ ⟨2, ![B, 1]⟩ ⟨2, ![A, B]⟩ [0] [1] [] [1] [] 1 ![A, 1])
    (x : (⟨2, ![A, N]⟩ : Shape).Idx → α) (idx : IVec ⟨2, ![B, 1]⟩ w) (i : Fin A) (b : Fin B) (n : Fin N)
    (hn : min (idx (ix2 b 0)).toInt.toNat (N - 1) = n.val) :
    Host.gather (colsDims A N B wf) x idx (ix2 i b) = x (ix2 i n) := by
  unfold Host.gather
  congr 1
  funext a
  refine Fin.ext ?_
  show (colsDims A N B wf).start (ix2 i b) idx a + (colsDims A N B wf).batchCoord (ix2 i b) a + (colsDims A N B wf).offCoord (ix2 i b) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (show (0 : Fin 2) ∉ (colsDims A N B wf).startIndexMap from by simp)]
    exact (Nat.zero_add _).trans rfl
  · rw [GatherDims.offCoord_eq_zero _ _ _ (fun h => ((GatherDims.mem_sKept _ _).mp h).1 (List.mem_singleton.mpr rfl))]
    unfold GatherDims.start
    rw [dif_pos (show (1 : Fin 2) ∈ (colsDims A N B wf).startIndexMap from List.mem_singleton.mpr rfl)]
    have hsi : (colsDims A N B wf).siIdx (ix2 i b) ⟨List.idxOf (1 : Fin 2) (colsDims A N B wf).startIndexMap,
        List.idxOf_lt_length_iff.2 (List.mem_singleton.mpr rfl)⟩ = ix2 b 0 := by
      funext e; refine Fin.ext ?_
      match e with
      | ⟨0, _⟩ => rfl
      | ⟨1, _⟩ => rfl
    rw [hsi]
    exact hn

end Cert.Gather

end
-- ==== Proof.Math.lean ====
/- The problem's mathematics on the extended reals, apart from either program: projections, convolution, state, output. -/
module

public import Idealize.ShloMosaic.Lib.Pointwise

@[expose] public section

noncomputable section

namespace Cert.Math

open Idealize.ShloMosaic

/-- The eleven arguments, as functions of their coordinates. -/
structure Inputs where
  x : Fin 4 → Fin 2048 → Fin 1024 → EReal
  win : Fin 6208 → Fin 1024 → EReal
  wdt : Fin 16 → Fin 64 → EReal
  cw : Fin 2048 → Fin 4 → EReal
  cb : Fin 2048 → EReal
  alog : Fin 16 → Fin 64 → EReal
  skip : Fin 16 → Fin 128 → EReal
  bdt : Fin 16 → EReal
  nw : Fin 2048 → EReal
  wout : Fin 1024 → Fin 2048 → EReal
  wres : Fin 2048 → Fin 1024 → EReal

variable (a : Inputs)

/-- The input projection. -/
def proj (b : Fin 4) (l : Fin 2048) (n : Fin 6208) : EReal := ∑ k : Fin 1024, a.x b l k * a.win n k

/-- The residual projection. -/
def res (b : Fin 4) (l : Fin 2048) (i : Fin 2048) : EReal := ∑ k : Fin 1024, a.x b l k * a.wres i k

/-- The softplus of `v`, held between the smallest and the largest step. -/
def clip (v : EReal) : EReal :=
  min (Ideal.ofBits .f32 1065353216#32) (max (Ideal.ofBits .f32 953267991#32) (max v 0 + Ideal.log1p (Ideal.exp (-FloatOps.absf (F := Ideal) (φ := .f32) v))))

/-- The step size of head `h` at time `l`. -/
def dt (b : Fin 4) (l : Fin 2048) (h : Fin 16) : EReal :=
  clip (∑ k : Fin 64, proj a b l ⟨4096 + k.val, by omega⟩ * a.wdt h k + a.bdt h)

/-- The convolved inputs' projection `3 - j` times before `l`, zero before the start. -/
def before (b : Fin 4) (l : Fin 2048) (j : ℕ) (hj : j ≤ 3) (i : Fin 2048) : EReal :=
  if h : 3 ≤ l.val + j then proj a b ⟨l.val + j - 3, by omega⟩ ⟨2048 + i.val, by omega⟩ else 0

/-- The convolved inputs: the bias and four weighted times. -/
def conv (b : Fin 4) (l : Fin 2048) (i : Fin 2048) : EReal :=
  a.cb i + a.cw i 0 * before a b l 0 (by decide) i + a.cw i 1 * before a b l 1 (by decide) i
    + a.cw i 2 * before a b l 2 (by decide) i + a.cw i 3 * before a b l 3 (by decide) i

/-- The convolved input of head `h`, place `p`. -/
def u (b : Fin 4) (l : Fin 2048) (h : Fin 16) (p : Fin 128) : EReal := conv a b l ⟨h.val * 128 + p.val, by omega⟩

/-- The input direction of head `h`, state place `d`. -/
def bIn (b : Fin 4) (l : Fin 2048) (h : Fin 16) (d : Fin 64) : EReal := proj a b l ⟨4160 + (h.val * 64 + d.val), by omega⟩

/-- The output direction of head `h`, state place `d`. -/
def cOut (b : Fin 4) (l : Fin 2048) (h : Fin 16) (d : Fin 64) : EReal := proj a b l ⟨5184 + (h.val * 64 + d.val), by omega⟩

/-- One step of the state: the decay, and the input. -/
def next (b : Fin 4) (l : Fin 2048) (h : Fin 16) (p : Fin 128) (d : Fin 64) (s : EReal) : EReal :=
  Ideal.exp (dt a b l h * -Ideal.exp (a.alog h d)) * s + dt a b l h * bIn a b l h d * u a b l h p

/-- The state before time `l`. -/
def state (b : Fin 4) (h : Fin 16) (p : Fin 128) (d : Fin 64) : ℕ → EReal
  | 0 => 0
  | l + 1 => if hl : l < 2048 then next a b ⟨l, hl⟩ h p d (state b h p d l) else 0

/-- The state after time `l` is one step from the state before it. -/
theorem state_succ (b : Fin 4) (h : Fin 16) (p : Fin 128) (d : Fin 64) (l : ℕ) (hl : l < 2048) :
    state a b h p d (l + 1) = next a b ⟨l, hl⟩ h p d (state a b h p d l) := dif_pos hl

/-- The read-out of the state after time `l`, and the skipped input. -/
def y (b : Fin 4) (l : Fin 2048) (h : Fin 16) (p : Fin 128) : EReal :=
  ∑ d : Fin 64, state a b h p d (l.val + 1) * cOut a b l h d + a.skip h p * u a b l h p

/-- The gated read-out of channel `i` with the residual. -/
def gate (b : Fin 4) (l : Fin 2048) (i : Fin 2048) : EReal :=
  y a b l ⟨i.val / 128, by omega⟩ ⟨i.val % 128, by omega⟩
    * (proj a b l ⟨i.val, by omega⟩ * Ideal.logistic (proj a b l ⟨i.val, by omega⟩)) + res a b l i

/-- The normalised channels. -/
def normed (b : Fin 4) (l : Fin 2048) (i : Fin 2048) : EReal :=
  gate a b l i
    * Ideal.rsqrt (Ideal.div (∑ j : Fin 2048, gate a b l j * gate a b l j) (Ideal.ofBits .f32 1157627904#32) + Ideal.ofBits .f32 897988541#32)
    * a.nw i

/-- The output projection of the normalised channels. -/
def out (b : Fin 4) (l : Fin 2048) (e : Fin 1024) : EReal := ∑ i : Fin 2048, normed a b l i * a.wout e i

/-- One where place `n` is head `h`'s, else zero. -/
def hot (n : Fin 1024) (h : Fin 16) : EReal := if n.val / 64 = h.val then 1 else 0

/-- The place of channel `i` in the list that puts the heads last. -/
def σ (i : Fin 2048) : Fin 2048 := ⟨i.val % 16 * 128 + i.val / 16, by omega⟩

/-- The list names each channel once. -/
theorem σ_bijective : Function.Bijective σ := by
  refine (Fintype.bijective_iff_injective_and_card σ).mpr ⟨fun i j h => ?_, rfl⟩
  have := congrArg Fin.val h
  simp only [σ] at this
  exact Fin.ext (by omega)

/-- A sum over the channels may follow the list. -/
theorem sum_σ (f : Fin 2048 → EReal) : ∑ i, f (σ i) = ∑ i, f i := σ_bijective.sum_comp f

end Cert.Math

end
-- ==== Proof.Host.Pre.lean ====
/- The arrays the launch reads, entry by entry, from the arguments: projections, step sizes, permuted weights, and the
   two matrices that spread and sum the heads. -/
module

public import proofs.«01_k».proof.Proof.Gen.KernelIdeal.Frame
public import proofs.«01_k».proof.Proof.Host.Gather
public import proofs.«01_k».proof.Proof.Math
public import Idealize.ShloMosaic.Lib.Pointwise
public import Idealize.ShloMosaic.Lib.Pointwise.Tactic
public import Idealize.ShloMosaic.Lib.StableHlo.ReadAt
@[expose] public section
set_option maxRecDepth 100000
set_option maxHeartbeats 1000000
noncomputable section
namespace Cert.KernelIdeal.Host
open Idealize.ShloMosaic Idealize.ShloMosaic.TcCoe Idealize.ShloMosaic.StableHlo
open Cert.KernelIdeal Cert.KernelIdeal.Gen Cert.Math
variable (m : (ℓ : Loc nD τ sig) → Buf (Elt Ideal) ℓ) (c : Dev nD)

/-- The arguments of the kernel, as functions of their coordinates. -/
def inp : Inputs where
  x b l k := m (c, Proc.tc.devRef main_arg0) (ix3 b l k)
  win n k := m (c, Proc.tc.devRef main_arg1) (ix2 n k)
  wdt h k := m (c, Proc.tc.devRef main_arg2) (ix2 h k)
  cw i j := m (c, Proc.tc.devRef main_arg3) (ix2 i j)
  cb i := m (c, Proc.tc.devRef main_arg4) (ix1 i)
  alog h d := m (c, Proc.tc.devRef main_arg5) (ix2 h d)
  skip h p := m (c, Proc.tc.devRef main_arg6) (ix2 h p)
  bdt h := m (c, Proc.tc.devRef main_arg7) (ix1 h)
  nw i := m (c, Proc.tc.devRef main_arg8) (ix1 i)
  wout e i := m (c, Proc.tc.devRef main_arg9) (ix2 e i)
  wres i k := m (c, Proc.tc.devRef main_arg10) (ix2 i k)

/-- The list of channels, as words. -/
abbrev perm : IVec S2048 32 := fun i => IntOp.addi (IntOp.muli (BitVec.ofNat 32 ((i 0).val % 16)) 128#32) (BitVec.ofNat 32 ((i 0).val / 16))

/-- The list of channels as the gathers take it. -/
abbrev permIdx : IVec S2048x1 32 := broadcastInDim S2048x1 ![0] bcast_S2048_S2048x1_0
        (select (cmpi CmpIPredicate.slt perm (broadcastInDim S2048 ![] bcast_S_S2048 (constantI S_ 32 0#32)))
          (addi perm (broadcastInDim S2048 ![] bcast_S_S2048 (constantI S_ 32 2048#32))) perm)

/-- The gathers' list holds channel `σ n` at place `n`. -/
theorem permIdx_val (n : Fin 2048) : min (permIdx (ix2 n 0)).toInt.toNat (2048 - 1) = (σ n).val := by
  have h : ∀ n : Fin 2048, min (Scalar.select (IntOp.cmpi CmpIPredicate.slt (IntOp.addi (IntOp.muli (BitVec.ofNat 32 (n.val % 16)) 128#32) (BitVec.ofNat 32 (n.val / 16))) 0#32)
     (IntOp.addi (IntOp.addi (IntOp.muli (BitVec.ofNat 32 (n.val % 16)) 128#32) (BitVec.ofNat 32 (n.val / 16))) 2048#32) (IntOp.addi (IntOp.muli (BitVec.ofNat 32 (n.val % 16)) 128#32) (BitVec.ofNat 32 (n.val / 16)))).toInt.toNat 2047 = n.val % 16 * 128 + n.val / 16 := by decide +kernel
  refine Eq.trans ?_ (h n)
  pointwise
  rfl

/-- The convolution's bias, permuted. -/
theorem V_cb (n : Fin 2048) : V m c main_v81 (ix2 0 n) = (inp m c).cb (σ n) := by
  simp only [V, V0, List.flatten_cons, List.flatten_nil, List.append_nil]
  after_reads_at
  exact Gather.vec_apply _ _ _ _ _ (permIdx_val n)

/-- The weight of the norm, permuted. -/
theorem V_nw (n : Fin 2048) : V m c main_v89 (ix2 0 n) = (inp m c).nw (σ n) := by
  simp only [V, V0, List.flatten_cons, List.flatten_nil, List.append_nil]
  after_reads_at
  exact Gather.vec_apply _ _ _ _ _ (permIdx_val n)

/-- The convolution's weights, permuted. -/
theorem V_cw (j : Fin 4) (n : Fin 2048) : V m c main_v73 (ix2 j n) = (inp m c).cw (σ n) j := by
  simp only [V, V0, List.flatten_cons, List.flatten_nil, List.append_nil]
  after_reads_at
  exact Gather.rows_apply _ _ _ _ _ _ (permIdx_val n)

/-- The residual projection, permuted. -/
theorem V_r (b : Fin 4) (l : Fin 2048) (n : Fin 2048) : (V m c main_v52 (ix3 b l n) : EReal) = res (inp m c) b l (σ n) := by
  simp only [V, V0, List.flatten_cons, List.flatten_nil, List.append_nil]
  after_reads_simp
  pointwise [dot_S4x2048x1024_S1024x2048_S4x2048x2048_2_0_01_1_n_n]
  exact Finset.sum_congr (M := EReal) rfl fun k _ => congrArg _ (Gather.rows_apply _ _ _ _ _ _ (permIdx_val n))

/-- The buffers after the first part of the operations before the launch. -/
def W : Valuation τ sig (Elt Ideal) := after hostOps0 (fun b => m (c, b))

/-- A buffer's contents at the grid's start, by the later host operations over the earlier ones. -/
theorem V_eq (r : Ref sig .tc) : V m c r = after (hostOps0_1 ++ (hostOps0_2 ++ (hostOps0_3 ++ hostOps0_4))) (W m c) (Proc.devRef .tc r) := by
  simp only [V, V0, List.flatten_cons, List.flatten_nil, List.append_nil, after_append, W]

/-- The rows of the input weights for the gate, permuted. -/
theorem W_v17 (n : Fin 2048) (k : Fin 1024) : W m c (Proc.devRef .tc main_v17) (ix2 n k) = (inp m c).win ⟨(σ n).val, by omega⟩ k := by
  unfold W
  after_reads_at
  refine (Gather.rows_apply _ _ _ _ _ _ (permIdx_val n)).trans ?_
  pointwise
  rfl

/-- The rows of the input weights for the convolved inputs, permuted. -/
theorem W_v25 (n : Fin 2048) (k : Fin 1024) : W m c (Proc.devRef .tc main_v25) (ix2 n k) = (inp m c).win ⟨2048 + (σ n).val, by omega⟩ k := by
  unfold W
  after_reads_at
  refine (Gather.rows_apply _ _ _ _ _ _ (permIdx_val n)).trans ?_
  pointwise
  rfl

/-- The input weights are put together from three pieces. -/
theorem W_v27 : W m c (Proc.devRef .tc main_v27) = concatenate S6208x1024 0 [⟨S2048x1024, W m c (Proc.devRef .tc main_v17)⟩, ⟨S2048x1024, W m c (Proc.devRef .tc main_v25)⟩,
    ⟨S2112x1024, extractStridedSlice S2112x1024 ![4096, 0] (m (c, Proc.tc.devRef main_arg1)) slices_S6208x1024_S2112x1024_4096_0⟩] concatenates_S2048x1024_S2048x1024_S2112x1024_S6208x1024_d0 := by
  unfold W
  after_reads_simp
  rfl

/-- The input projection, the product with the transposed weights. -/
theorem W_v29 (b : Fin 4) (l : Fin 2048) (n : Fin 6208) :
    W m c (Proc.devRef .tc main_v29) (ix3 b l n) = ∑ k : Fin 1024, (inp m c).x b l k * W m c (Proc.devRef .tc main_v27) (ix2 n k) := by
  have h : W m c (Proc.devRef .tc main_v29) = Host.dotGeneral (F := Ideal) (φ₁ := .f32) (φ₂ := .f32) dot_S4x2048x1024_S1024x6208_S4x2048x6208_2_0_01_1_n_n none (m (c, Proc.tc.devRef main_arg0)) (transpose S1024x6208 [1, 0] (W m c (Proc.devRef .tc main_v27)) transposes_S6208x1024_S1024x6208_1_0) := by
    unfold W
    after_reads_simp
  rw [h]
  pointwise [dot_S4x2048x1024_S1024x6208_S4x2048x6208_2_0_01_1_n_n]
  rfl

/-- The columns of the input projection for the gate are permuted. -/
theorem W_v29_z (b : Fin 4) (l : Fin 2048) (i : Fin 2048) :
    W m c (Proc.devRef .tc main_v29) (ix3 b l ⟨i.val, by omega⟩) = proj (inp m c) b l ⟨(σ i).val, by omega⟩ := by
  rw [W_v29]
  refine Finset.sum_congr (M := EReal) rfl fun k _ => congrArg _ ?_
  rw [W_v27]
  pointwise
  exact W_v17 m c i k

/-- The columns of the input projection for the convolved inputs are permuted. -/
theorem W_v29_u (b : Fin 4) (l : Fin 2048) (i : Fin 2048) :
    W m c (Proc.devRef .tc main_v29) (ix3 b l ⟨2048 + i.val, by omega⟩) = proj (inp m c) b l ⟨2048 + (σ i).val, by omega⟩ := by
  rw [W_v29]
  refine Finset.sum_congr (M := EReal) rfl fun k _ => congrArg _ ?_
  rw [W_v27]
  pointwise
  refine (congrArg (fun j => W m c (Proc.devRef .tc main_v25) (ix2 j k)) (Fin.ext ?_)).trans (W_v25 m c i k)
  rfl

/-- The other columns of the input projection are in place. -/
theorem W_v29_o (b : Fin 4) (l : Fin 2048) (i : Fin 2112) :
    W m c (Proc.devRef .tc main_v29) (ix3 b l ⟨4096 + i.val, by omega⟩) = proj (inp m c) b l ⟨4096 + i.val, by omega⟩ := by
  rw [W_v29]
  refine Finset.sum_congr (M := EReal) rfl fun k _ => congrArg _ ?_
  rw [W_v27]
  pointwise
  rw [dif_neg (by omega), dif_neg (by omega)]
  refine congrArg (fun j => m (c, Proc.tc.devRef main_arg1) (ix2 j k)) (Fin.ext ?_)
  show 4096 + (4096 + i.val - 2048 - 2048) = 4096 + i.val
  omega

/-- The gate's inputs. -/
theorem V_z (b : Fin 4) (l : Fin 2048) (i : Fin 2048) : V m c main_v30 (ix3 b l i) = proj (inp m c) b l ⟨(σ i).val, by omega⟩ := by
  have h : W m c (Proc.devRef .tc main_v30) = extractStridedSlice S4x2048x2048 ![0, 0, 0] (W m c (Proc.devRef .tc main_v29)) slices_S4x2048x6208_S4x2048x2048_0_0_0 := by
    unfold W
    after_reads_simp
  rw [V_eq]
  after_reads_simp
  rw [h]
  pointwise
  exact W_v29_z m c b l i

/-- The convolved inputs before the convolution. -/
theorem V_u (b : Fin 4) (l : Fin 2048) (i : Fin 2048) : V m c main_v31 (ix3 b l i) = proj (inp m c) b l ⟨2048 + (σ i).val, by omega⟩ := by
  have h : W m c (Proc.devRef .tc main_v31) = extractStridedSlice S4x2048x2048 ![0, 0, 2048] (W m c (Proc.devRef .tc main_v29)) slices_S4x2048x6208_S4x2048x2048_0_0_2048 := by
    unfold W
    after_reads_simp
  rw [V_eq]
  after_reads_simp
  rw [h]
  pointwise
  exact W_v29_u m c b l i

/-- The input directions. -/
theorem V_B (b : Fin 4) (l : Fin 2048) (n : Fin 1024) : V m c main_v33 (ix3 b l n) = proj (inp m c) b l ⟨4160 + n.val, by omega⟩ := by
  have h : W m c (Proc.devRef .tc main_v33) = extractStridedSlice S4x2048x1024 ![0, 0, 4160] (W m c (Proc.devRef .tc main_v29)) slices_S4x2048x6208_S4x2048x1024_0_0_4160 := by
    unfold W
    after_reads_simp
  rw [V_eq]
  after_reads_simp
  rw [h]
  pointwise
  refine (congrArg (fun j => W m c (Proc.devRef .tc main_v29) (ix3 b l j)) (Fin.ext ?_)).trans ((W_v29_o m c b l ⟨64 + n.val, by omega⟩).trans (congrArg (proj (inp m c) b l) (Fin.ext ?_)))
  · show 4160 + n.val = 4096 + (64 + n.val)
    omega
  · show 4096 + (64 + n.val) = 4160 + n.val
    omega

/-- The output directions. -/
theorem V_C (b : Fin 4) (l : Fin 2048) (n : Fin 1024) : V m c main_v34 (ix3 b l n) = proj (inp m c) b l ⟨5184 + n.val, by omega⟩ := by
  have h : W m c (Proc.devRef .tc main_v34) = extractStridedSlice S4x2048x1024 ![0, 0, 5184] (W m c (Proc.devRef .tc main_v29)) slices_S4x2048x6208_S4x2048x1024_0_0_5184 := by
    unfold W
    after_reads_simp
  rw [V_eq]
  after_reads_simp
  rw [h]
  pointwise
  refine (congrArg (fun j => W m c (Proc.devRef .tc main_v29) (ix3 b l j)) (Fin.ext ?_)).trans ((W_v29_o m c b l ⟨1088 + n.val, by omega⟩).trans (congrArg (proj (inp m c) b l) (Fin.ext ?_)))
  · show 5184 + n.val = 4096 + (1088 + n.val)
    omega
  · show 4096 + (1088 + n.val) = 5184 + n.val
    omega

/-- The step sizes before the softplus. -/
theorem W_v39 (b : Fin 4) (l : Fin 2048) (h : Fin 16) :
    (W m c (Proc.devRef .tc main_v39) (ix3 b l h) : EReal) = ∑ k : Fin 64, proj (inp m c) b l ⟨4096 + k.val, by omega⟩ * (inp m c).wdt h k + (inp m c).bdt h := by
  have h : W m c (Proc.devRef .tc main_v39) = addf (F := Ideal) (φ := .f32) (Host.dotGeneral (F := Ideal) (φ₁ := .f32) (φ₂ := .f32) dot_S4x2048x64_S64x16_S4x2048x16_2_0_01_1_n_n none
      (extractStridedSlice S4x2048x64 ![0, 0, 4096] (W m c (Proc.devRef .tc main_v29)) slices_S4x2048x6208_S4x2048x64_0_0_4096)
      (transpose S64x16 [1, 0] (m (c, Proc.tc.devRef main_arg2)) transposes_S16x64_S64x16_1_0))
      (broadcastInDim S4x2048x16 ![0, 1, 2] bcast_S1x1x16_S4x2048x16_0_1_2 (broadcastInDim S1x1x16 ![2] bcast_S16_S1x1x16_2 (m (c, Proc.tc.devRef main_arg7)))) := by
    unfold W
    after_reads_simp
  rw [h]
  pointwise [dot_S4x2048x64_S64x16_S4x2048x16_2_0_01_1_n_n]
  refine congrArg (· + _) (Finset.sum_congr (M := EReal) rfl fun k _ => congrArg (· * _) ?_)
  exact W_v29_o m c b l ⟨k.val, by omega⟩

/-- The step sizes, each head's repeated at its states' places. -/
theorem V_dtE (b : Fin 4) (l : Fin 2048) (n : Fin 1024) : (V m c main_v43 (ix3 b l n) : EReal) = dt (inp m c) b l ⟨n.val / 64, by omega⟩ := by
  rw [V_eq]
  after_reads_at
  rw [W_v39]
  unfold dt clip
  simp only [ne_eq, not_true_eq_false, if_false]
  rfl

/-- The rates, negated exponentials. -/
theorem V_Af (n : Fin 1024) : (V m c main_v55 (ix2 0 n) : EReal) = -Ideal.exp ((inp m c).alog ⟨n.val / 64, by omega⟩ ⟨n.val % 64, by omega⟩) := by
  rw [V_eq]
  after_reads_at
  rfl

/-- The skip weights, transposed. -/
theorem V_Dt (p : Fin 128) (h : Fin 16) : V m c main_v65 (ix2 p h) = (inp m c).skip h p := by
  rw [V_eq]
  after_reads_at
  rfl

/-- The word of a truth value, as a number. -/
theorem word_eq (n : Fin 1024) (h : Fin 16) :
    (FloatOps.uitofp (F := Ideal) FTy.f32 (IntOp.cmpi CmpIPredicate.eq (IntOp.addi (BitVec.ofNat 32 h.val) 0#32) (BitVec.ofNat 32 (n.val / 64))) : EReal) = hot n h := by
  have e : ∀ (k h : Fin 16), IntOp.cmpi CmpIPredicate.eq (IntOp.addi (BitVec.ofNat 32 h.val) 0#32) (BitVec.ofNat 32 k.val) = if k.val = h.val then 1#1 else 0#1 := by decide +kernel
  refine (congrArg _ (e ⟨n.val / 64, by omega⟩ h)).trans ?_
  unfold hot
  show _ = if n.val / 64 = h.val then (1 : EReal) else 0
  show FloatOps.uitofp (F := Ideal) FTy.f32 (if n.val / 64 = h.val then 1#1 else 0#1) = _
  by_cases c : n.val / 64 = h.val
  · rw [if_pos c, if_pos c]
    show (((1#1).toNat : ℝ) : EReal) = 1
    norm_num
  · rw [if_neg c, if_neg c]
    show (((0#1).toNat : ℝ) : EReal) = 0
    norm_num

/-- The spreading matrix: one where the place is the head's. -/
theorem V_E (h : Fin 16) (n : Fin 1024) : V m c main_v63 (ix2 h n) = hot n h := by
  rw [V_eq]
  after_reads_at
  exact word_eq n h

/-- The summing matrix: one where the place is the head's. -/
theorem V_K (n : Fin 1024) (h : Fin 16) : V m c main_v64 (ix2 n h) = hot n h := by
  rw [V_eq]
  after_reads_at
  exact word_eq n h

end Cert.KernelIdeal.Host

end
-- ==== Proof.Host.Blocks.lean ====
module
public import proofs.«01_k».proof.Proof.Host.Pre
public import proofs.«01_k».proof.Proof.Scan.Launch
public import Idealize.ShloMosaic.Lib.Pipeline.ValueKit
@[expose] public section
/-! What the block of each input window holds at a point: its chunk's rows of the window's array. -/
set_option maxRecDepth 16384
noncomputable section
namespace Cert.KernelIdeal.Host
open Idealize.ShloMosaic Idealize.ShloMosaic.TcCoe
open Cert.KernelIdeal Cert.KernelIdeal.Gen Cert.KernelIdeal.Scan Cert.Math
variable (m : (ℓ : Loc nD τ sig) → Buf (Elt Ideal) ℓ) (c : Dev nD) (t : Fin cfg0.N)

/-- The batch of a point. -/
def bat : Fin 4 := ⟨t.val / 16, by have : t.val < 64 := Nat.lt_of_lt_of_eq t.isLt N_0; omega⟩

/-- The time of row `r` of a point's chunk. -/
def time (r : Fin 128) : Fin 2048 := ⟨t.val % 16 * 128 + r.val, by omega⟩

/-- A chunk's row at its place in the array, axis by axis. -/
theorem place3 {N : ℕ} (r : Fin 128) (i : Fin N) (a : Fin 3) :
    (![t.val / 16, t.val % 16, 0] a) * (![1, 128, N] a) + ((ix3 (0 : Fin 1) r i : ∀ a, Fin (![1, 128, N] a)) a).val
      = ((ix3 (bat t) (time t r) i : ∀ a, Fin (![4, 2048, N] a)) a).val := by
  fin_cases a
  · show t.val / 16 * 1 + 0 = t.val / 16; omega
  · rfl
  · show 0 * N + i.val = i.val; omega

/-- An array read at two places that agree axis by axis. -/
theorem read_at {k : ℕ} {n : Fin k → ℕ} {α : Type} (v : (∀ a, Fin (n a)) → α) (x y : ∀ a, Fin (n a)) (h : ∀ a, (x a).val = (y a).val) : v x = v y :=
  congrArg v (funext fun a => Fin.ext (h a))

/-- The block a point reads of each chunked window, and writes of the result. -/
theorem idx0 : ∀ t : Fin cfg0.N, win0_0.index t = ![t.val / 16, t.val % 16, 0] := by decide +kernel
/-- The block of window 1 at a point. -/
theorem idx1 : ∀ t : Fin cfg0.N, win0_1.index t = ![t.val / 16, t.val % 16, 0] := by decide +kernel
/-- The block of window 2 at a point. -/
theorem idx2 : ∀ t : Fin cfg0.N, win0_2.index t = ![t.val / 16, t.val % 16, 0] := by decide +kernel
/-- The block of window 3 at a point. -/
theorem idx3 : ∀ t : Fin cfg0.N, win0_3.index t = ![t.val / 16, t.val % 16, 0] := by decide +kernel
/-- The block of window 4 at a point. -/
theorem idx4 : ∀ t : Fin cfg0.N, win0_4.index t = ![t.val / 16, t.val % 16, 0] := by decide +kernel
/-- The block of window 5 at a point. -/
theorem idx5 : ∀ t : Fin cfg0.N, win0_5.index t = ![t.val / 16, t.val % 16, 0] := by decide +kernel
/-- The block of window 13 at a point. -/
theorem idx13 : ∀ t : Fin cfg0.N, win0_13.index t = ![t.val / 16, t.val % 16, 0] := by decide +kernel
/-- The other windows are whole arrays at every point. -/
theorem idx6 : ∀ (t : Fin cfg0.N) a, win0_6.index t a = 0 := by decide +kernel
/-- The block of window 7 at a point. -/
theorem idx7 : ∀ (t : Fin cfg0.N) a, win0_7.index t a = 0 := by decide +kernel
/-- The block of window 8 at a point. -/
theorem idx8 : ∀ (t : Fin cfg0.N) a, win0_8.index t a = 0 := by decide +kernel
/-- The block of window 9 at a point. -/
theorem idx9 : ∀ (t : Fin cfg0.N) a, win0_9.index t a = 0 := by decide +kernel
/-- The block of window 10 at a point. -/
theorem idx10 : ∀ (t : Fin cfg0.N) a, win0_10.index t a = 0 := by decide +kernel
/-- The block of window 11 at a point. -/
theorem idx11 : ∀ (t : Fin cfg0.N) a, win0_11.index t a = 0 := by decide +kernel
/-- The block of window 12 at a point. -/
theorem idx12 : ∀ (t : Fin cfg0.N) a, win0_12.index t a = 0 := by decide +kernel

/-- Rows of the gate's projection, permuted. -/
theorem blk_z (r : Fin 128) (i : Fin 2048) : ((blk m c t).z (ix3 0 r i) : EReal) = proj (inp m c) (bat t) (time t r) ⟨(σ i).val, by omega⟩ :=
  (read_at (V m c main_v30) _ _ fun a => (Pipeline.Window.rect_emb_val win0_0 t (ix3 0 r i) a rfl).trans ((idx0 t) ▸ place3 t r i a)).trans (V_z m c (bat t) (time t r) i)

/-- Rows of the convolved inputs' projection, permuted. -/
theorem blk_u (r : Fin 128) (i : Fin 2048) : ((blk m c t).u (ix3 0 r i) : EReal) = proj (inp m c) (bat t) (time t r) ⟨2048 + (σ i).val, by omega⟩ :=
  (read_at (V m c main_v31) _ _ fun a => (Pipeline.Window.rect_emb_val win0_1 t (ix3 0 r i) a rfl).trans ((idx1 t) ▸ place3 t r i a)).trans (V_u m c (bat t) (time t r) i)

/-- The step sizes, each head's repeated over its state places. -/
theorem blk_dtE (r : Fin 128) (i : Fin 1024) : ((blk m c t).dtE (ix3 0 r i) : EReal) = dt (inp m c) (bat t) (time t r) ⟨i.val / 64, by omega⟩ :=
  (read_at (V m c main_v43) _ _ fun a => (Pipeline.Window.rect_emb_val win0_2 t (ix3 0 r i) a rfl).trans ((idx2 t) ▸ place3 t r i a)).trans (V_dtE m c (bat t) (time t r) i)

/-- The input directions. -/
theorem blk_B (r : Fin 128) (i : Fin 1024) : ((blk m c t).B (ix3 0 r i) : EReal) = proj (inp m c) (bat t) (time t r) ⟨4160 + i.val, by omega⟩ :=
  (read_at (V m c main_v33) _ _ fun a => (Pipeline.Window.rect_emb_val win0_3 t (ix3 0 r i) a rfl).trans ((idx3 t) ▸ place3 t r i a)).trans (V_B m c (bat t) (time t r) i)

/-- The output directions. -/
theorem blk_C (r : Fin 128) (i : Fin 1024) : ((blk m c t).C (ix3 0 r i) : EReal) = proj (inp m c) (bat t) (time t r) ⟨5184 + i.val, by omega⟩ :=
  (read_at (V m c main_v34) _ _ fun a => (Pipeline.Window.rect_emb_val win0_4 t (ix3 0 r i) a rfl).trans ((idx4 t) ▸ place3 t r i a)).trans (V_C m c (bat t) (time t r) i)

/-- Rows of the residual, permuted. -/
theorem blk_r (r : Fin 128) (i : Fin 2048) : ((blk m c t).r (ix3 0 r i) : EReal) = res (inp m c) (bat t) (time t r) (σ i) :=
  (read_at (V m c main_v52) _ _ fun a => (Pipeline.Window.rect_emb_val win0_5 t (ix3 0 r i) a rfl).trans ((idx5 t) ▸ place3 t r i a)).trans (V_r m c (bat t) (time t r) i)

/-- The decay rates. -/
theorem blk_Af (n : Fin 1024) : ((blk m c t).Af (ix2 0 n) : EReal) = -(Ideal.exp ((inp m c).alog ⟨n.val / 64, by omega⟩ ⟨n.val % 64, by omega⟩)) :=
  (read_at (V m c main_v55) _ _ fun a => Pipeline.Window.rect_emb_val_of_index_zero win0_6 t a (idx6 t a) (ix2 0 n)).trans (V_Af m c n)

/-- The skip weights. -/
theorem blk_Dt (k : Fin 128) (n : Fin 16) : ((blk m c t).Dt (ix2 k n) : EReal) = (inp m c).skip n k :=
  (read_at (V m c main_v65) _ _ fun a => Pipeline.Window.rect_emb_val_of_index_zero win0_7 t a (idx7 t a) (ix2 k n)).trans (V_Dt m c k n)

/-- The convolution's weights, permuted. -/
theorem blk_cw (k : Fin 4) (n : Fin 2048) : ((blk m c t).cw (ix2 k n) : EReal) = (inp m c).cw (σ n) k :=
  (read_at (V m c main_v73) _ _ fun a => Pipeline.Window.rect_emb_val_of_index_zero win0_8 t a (idx8 t a) (ix2 k n)).trans (V_cw m c k n)

/-- The convolution's bias, permuted. -/
theorem blk_cb (n : Fin 2048) : ((blk m c t).cb (ix2 0 n) : EReal) = (inp m c).cb (σ n) :=
  (read_at (V m c main_v81) _ _ fun a => Pipeline.Window.rect_emb_val_of_index_zero win0_9 t a (idx9 t a) (ix2 0 n)).trans (V_cb m c n)

/-- The weight of the norm, permuted. -/
theorem blk_nw (n : Fin 2048) : ((blk m c t).nw (ix2 0 n) : EReal) = (inp m c).nw (σ n) :=
  (read_at (V m c main_v89) _ _ fun a => Pipeline.Window.rect_emb_val_of_index_zero win0_10 t a (idx10 t a) (ix2 0 n)).trans (V_nw m c n)

/-- One where a place is the head's. -/
theorem blk_E (k : Fin 16) (n : Fin 1024) : ((blk m c t).E (ix2 k n) : EReal) = hot n k :=
  (read_at (V m c main_v63) _ _ fun a => Pipeline.Window.rect_emb_val_of_index_zero win0_11 t a (idx11 t a) (ix2 k n)).trans (V_E m c k n)

/-- The same, transposed. -/
theorem blk_K (k : Fin 1024) (n : Fin 16) : ((blk m c t).K (ix2 k n) : EReal) = hot k n :=
  (read_at (V m c main_v64) _ _ fun a => Pipeline.Window.rect_emb_val_of_index_zero win0_12 t a (idx12 t a) (ix2 k n)).trans (V_K m c k n)

end Cert.KernelIdeal.Host
end
-- ==== Proof.Val.ChunkVal.lean ====
/- What one grid point computes, entry by entry, on ideal floats: decays, inputs, convolution, expansion, step, rows,
   and the normalised output. -/
module

public import proofs.«01_k».proof.Proof.Scan.Chunk
public import Idealize.ShloMosaic.Lib.Pointwise
public import Idealize.ShloMosaic.Lib.Pointwise.Tactic

@[expose] public section

set_option maxRecDepth 16384

noncomputable section

namespace Cert.KernelIdeal.Scan

open Idealize.ShloMosaic
open Cert.KernelIdeal Cert.KernelIdeal.Gen

variable (x : Chunk Ideal) (T : Vec Ideal S8x2048 .f32) (S : Vec Ideal S128x1024 .f32)

/-- The decay of time `r` at head-and-state place `n`. -/
theorem dA_apply (r : Fin 128) (n : Fin 1024) : x.dA (ix2 r n) = Ideal.exp (x.dtE (ix3 0 r n) * x.Af (ix2 0 n)) := by
  unfold Chunk.dA
  unfold_payloads
  pointwise

/-- The input factor of time `r` at head-and-state place `n`. -/
theorem Bm_apply (r : Fin 128) (n : Fin 1024) : x.Bm (ix2 r n) = x.B (ix3 0 r n) * x.dtE (ix3 0 r n) := by
  unfold Chunk.Bm
  unfold_payloads
  pointwise

/-- The expanded input: the product with the expansion matrix. -/
theorem ub_apply (k : Fin 8) (t : Fin 16) (p : Fin 128) (n : Fin 1024) :
    x.ub T k (ix3 t p n) = ∑ h : Fin 16, x.us T k (ix4 0 t p h) * x.E (ix2 h n) := by
  unfold Chunk.ub
  unfold_payloads
  pointwise [dot_S2048x16_S16x1024_S2048x1024_1_0_0_1_n_n]

/-- Row `o + r` of the chunk's inputs put after the eight rows `T`. -/
def past (o : ℕ) (ho : o ≤ 8) (r : Fin 128) (i : Fin 2048) : EReal :=
  if h : o + r.val < 8 then T (ix2 ⟨o + r.val, h⟩ i) else x.u (ix3 0 ⟨o + r.val - 8, by omega⟩ i)

/-- A row of the shifted inputs: of the tail, or of the chunk. -/
theorem rows_apply (o : ℕ) (ho : o ≤ 8) (r : Fin 128) (i : Fin 2048) : x.rows T o ho (ix2 r i) = past x T o ho r i := by
  unfold Chunk.rows Chunk.ext past
  by_cases h : o + r.val < 8
  · refine (dif_pos h).trans ((dif_pos h).trans ?_).symm
    unfold_payloads
    pointwise
    rfl
  · refine (dif_neg h).trans ((dif_neg h).trans ?_).symm
    unfold_payloads
    pointwise

/-- The convolved inputs: the bias and four weighted rows. -/
theorem conv_apply (k : Fin 8) (t : Fin 16) (p : Fin 128) (h : Fin 16) : x.conv T (ix4 k t p h) =
    x.cb (ix2 0 ⟨p.val * 16 + h.val, by omega⟩)
      + x.cw (ix2 0 ⟨p.val * 16 + h.val, by omega⟩) * past x T 5 (by decide) (tm k t) ⟨p.val * 16 + h.val, by omega⟩
      + x.cw (ix2 1 ⟨p.val * 16 + h.val, by omega⟩) * past x T 6 (by decide) (tm k t) ⟨p.val * 16 + h.val, by omega⟩
      + x.cw (ix2 2 ⟨p.val * 16 + h.val, by omega⟩) * past x T 7 (by decide) (tm k t) ⟨p.val * 16 + h.val, by omega⟩
      + x.cw (ix2 3 ⟨p.val * 16 + h.val, by omega⟩) * past x T 8 (by decide) (tm k t) ⟨p.val * 16 + h.val, by omega⟩ := by
  simp only [← rows_apply]
  unfold Chunk.conv
  unfold_payloads
  pointwise
  rfl

/-- The products a step stores. -/
theorem stepOut_apply (k : Fin 8) (C : Vec Ideal S1x128x1024 .f32) (dA Bm : Vec Ideal S128x1024 .f32) (ub : Vec Ideal S16x128x1024 .f32) (t : Fin 16)
    (s : Vec Ideal S128x1024 .f32) (p : Fin 128) (n : Fin 1024) :
    stepOut k C dA Bm ub t s (ix3 0 p n) = stepState k dA Bm ub t s (ix2 p n) * C (ix3 0 (tm k t) n) := by
  unfold stepOut stepState
  unfold_payloads
  pointwise [row, slab, crow]
  rfl

/-- The state a step leaves. -/
theorem stepState_apply (k : Fin 8) (dA Bm : Vec Ideal S128x1024 .f32) (ub : Vec Ideal S16x128x1024 .f32) (t : Fin 16)
    (s : Vec Ideal S128x1024 .f32) (p : Fin 128) (n : Fin 1024) :
    stepState k dA Bm ub t s (ix2 p n) = dA (ix2 (tm k t) n) * s (ix2 p n) + Bm (ix2 (tm k t) n) * ub (ix3 t p n) := by
  unfold stepState
  unfold_payloads
  pointwise [row, slab]
  rfl

/-- The rows of a block: the products summed by the summing matrix, and the skipped input. -/
theorem y_apply (k : Fin 8) (t : Fin 16) (p : Fin 128) (h : Fin 16) :
    x.y T S k (ix4 0 t p h) = ∑ n : Fin 1024, x.prod T S k (ix3 t p n) * x.K (ix2 n h) + x.Dt (ix2 p h) * x.us T k (ix4 0 t p h) := by
  unfold Chunk.y
  unfold_payloads
  pointwise [dot_S2048x1024_S1024x16_S2048x16_1_0_0_1_n_n]

/-- The gated rows with the residual, before normalising. -/
def gated (r : Fin 128) (i : Fin 2048) : EReal :=
  x.ys T S (ix4 ⟨r.val / 16, by omega⟩ ⟨r.val % 16, by omega⟩ ⟨i.val / 16, by omega⟩ ⟨i.val % 16, by omega⟩)
    * (x.z (ix3 0 r i) * Ideal.logistic (x.z (ix3 0 r i))) + x.r (ix3 0 r i)

/-- The output: the gated rows over their root mean square, times the weight. -/
theorem out_apply (r : Fin 128) (i : Fin 2048) :
    x.out T S (ix3 0 r i) = gated x T S r i
      * Ideal.rsqrt (Ideal.div (∑ j : Fin 2048, gated x T S r j * gated x T S r j) (Ideal.ofBits .f32 1157627904#32) + Ideal.ofBits .f32 897988541#32)
      * x.nw (ix2 0 i) := by
  unfold Chunk.out gated
  unfold_payloads
  pointwise

/-- The rows kept for the next chunk are this chunk's last eight. -/
theorem tail_apply (r : Fin 8) (i : Fin 2048) : x.tail (ix2 r i) = x.u (ix3 0 ⟨120 + r.val, by omega⟩ i) := by
  unfold Chunk.tail
  unfold_payloads
  pointwise

/-- A batch starts from the zero state. -/
theorem zeroState_apply (p : Fin 128) (n : Fin 1024) : k0_pay2 (F := Ideal) (ix2 p n) = 0 := by
  unfold_payloads
  pointwise

/-- A batch starts after eight zero rows. -/
theorem zeroTail_apply (r : Fin 8) (i : Fin 2048) : k0_pay3 (F := Ideal) (ix2 r i) = 0 := by
  unfold_payloads
  pointwise

end Cert.KernelIdeal.Scan

end
-- ==== Proof.Val.ChunkMath.lean ====
/- A chunk of one batch, whose blocks hold the projections of its 128 times, computes the mathematics of those times: the
   convolved inputs, the states, the read-outs, the gated rows and the normalised rows, channel by channel in the order
   that puts the heads last. -/
module

public import proofs.«01_k».proof.Proof.Val.ChunkVal
public import proofs.«01_k».proof.Proof.Math

@[expose] public section

set_option maxRecDepth 16384

noncomputable section

namespace Cert.KernelIdeal.Value

open Idealize.ShloMosaic
open Cert.KernelIdeal Cert.KernelIdeal.Gen Cert.KernelIdeal.Scan Cert.Math

/-- The time of row `r` of chunk `g`. -/
def tg (g : Fin 16) (r : Fin 128) : Fin 2048 := ⟨g.val * 128 + r.val, by omega⟩

/-- The blocks of chunk `g` of batch `b`. -/
structure Holds (a : Inputs) (b : Fin 4) (g : Fin 16) (x : Chunk Ideal) : Prop where
  z : ∀ (r : Fin 128) (i : Fin 2048), x.z (ix3 0 r i) = proj a b (tg g r) ⟨(σ i).val, by omega⟩
  u : ∀ (r : Fin 128) (i : Fin 2048), x.u (ix3 0 r i) = proj a b (tg g r) ⟨2048 + (σ i).val, by omega⟩
  dtE : ∀ (r : Fin 128) (n : Fin 1024), x.dtE (ix3 0 r n) = dt a b (tg g r) ⟨n.val / 64, by omega⟩
  B : ∀ (r : Fin 128) (n : Fin 1024), x.B (ix3 0 r n) = proj a b (tg g r) ⟨4160 + n.val, by omega⟩
  C : ∀ (r : Fin 128) (n : Fin 1024), x.C (ix3 0 r n) = proj a b (tg g r) ⟨5184 + n.val, by omega⟩
  r : ∀ (r : Fin 128) (i : Fin 2048), x.r (ix3 0 r i) = res a b (tg g r) (σ i)
  Af : ∀ n : Fin 1024, x.Af (ix2 0 n) = -Ideal.exp (a.alog ⟨n.val / 64, by omega⟩ ⟨n.val % 64, by omega⟩)
  Dt : ∀ (p : Fin 128) (h : Fin 16), x.Dt (ix2 p h) = a.skip h p
  cw : ∀ (j : Fin 4) (i : Fin 2048), x.cw (ix2 j i) = a.cw (σ i) j
  cb : ∀ i : Fin 2048, x.cb (ix2 0 i) = a.cb (σ i)
  nw : ∀ i : Fin 2048, x.nw (ix2 0 i) = a.nw (σ i)
  E : ∀ (h : Fin 16) (n : Fin 1024), x.E (ix2 h n) = hot n h
  K : ∀ (n : Fin 1024) (h : Fin 16), x.K (ix2 n h) = hot n h

/-- The tail before chunk `g`: the eight times before it, or zero rows. -/
def TailOk (a : Inputs) (b : Fin 4) (g : Fin 16) (T : Vec Ideal S8x2048 .f32) : Prop :=
  ∀ (r : Fin 8) (i : Fin 2048), T (ix2 r i)
    = if 1 ≤ g.val then proj a b ⟨g.val * 128 + r.val - 8, by omega⟩ ⟨2048 + (σ i).val, by omega⟩ else 0

/-- The state before time `l`. -/
def StateOk (a : Inputs) (b : Fin 4) (l : ℕ) (S : Vec Ideal S128x1024 .f32) : Prop :=
  ∀ (p : Fin 128) (n : Fin 1024), S (ix2 p n) = state a b ⟨n.val / 64, by omega⟩ p ⟨n.val % 64, by omega⟩ l

variable {a : Inputs} {b : Fin 4} {g : Fin 16} {x : Chunk Ideal} (H : Holds a b g x)
variable {T : Vec Ideal S8x2048 .f32} (HT : TailOk a b g T) {S : Vec Ideal S128x1024 .f32}

/-- A sum against one head's places is the sum over that head. -/
theorem sum_hot (f : Fin 1024 → EReal) (h : Fin 16) :
    ∑ n : Fin 1024, f n * hot n h = ∑ d : Fin 64, f ⟨h.val * 64 + d.val, by omega⟩ := by
  symm
  refine Finset.sum_of_injOn (fun d : Fin 64 => (⟨h.val * 64 + d.val, by omega⟩ : Fin 1024)) ?_ (fun _ _ => Finset.mem_coe.mpr (Finset.mem_univ _)) ?_ ?_
  · intro d _ d' _ e
    have := congrArg Fin.val e
    exact Fin.ext (by simp only at this; omega)
  · intro n _ hn
    have : ¬ n.val / 64 = h.val := fun e => hn ⟨⟨n.val % 64, by omega⟩, Finset.mem_coe.mpr (Finset.mem_univ _), Fin.ext (by simp only; omega)⟩
    unfold hot
    rw [if_neg this, mul_zero]
  · intro d _
    unfold hot
    rw [if_pos (by simp only; omega), mul_one]

/-- A sum over the heads at one place is that place's head. -/
theorem sum_heads (f : Fin 16 → EReal) (n : Fin 1024) : ∑ h : Fin 16, f h * hot n h = f ⟨n.val / 64, by omega⟩ := by
  refine (Finset.sum_eq_single (⟨n.val / 64, by omega⟩ : Fin 16) (fun h _ hne => ?_) (fun h => absurd (Finset.mem_univ _) h)).trans ?_
  · unfold hot
    rw [if_neg (fun e => hne (Fin.ext e.symm)), mul_zero]
  · unfold hot
    rw [if_pos rfl, mul_one]

include H HT in
/-- The convolution's row `3 - j` times before. -/
theorem past_eq (j : ℕ) (hj : j ≤ 3) (o : ℕ) (ho : o ≤ 8) (e : o = 5 + j) (r : Fin 128) (i : Fin 2048) :
    past x T o ho r i = before a b (tg g r) j hj (σ i) := by
  subst e
  unfold past before
  by_cases h : 5 + j + r.val < 8
  · rw [dif_pos h, HT]
    by_cases hg : 1 ≤ g.val
    · rw [if_pos hg, dif_pos (by simp only [tg]; omega)]
      congr 1
      exact Fin.ext (by simp only [tg]; omega)
    · rw [if_neg hg, dif_neg (by simp only [tg]; omega)]
  · rw [dif_neg h, H.u, dif_pos (by simp only [tg]; omega)]
    congr 1
    exact Fin.ext (by simp only [tg]; omega)

include H HT in
/-- The convolved inputs. -/
theorem us_eq (k : Fin 8) (t : Fin 16) (p : Fin 128) (h : Fin 16) : x.us T k (ix4 0 t p h) = u a b (tg g (tm k t)) h p := by
  refine (conv_apply x T k t p h).trans ?_
  have hσ : σ ⟨p.val * 16 + h.val, by omega⟩ = ⟨h.val * 128 + p.val, by omega⟩ := Fin.ext (by simp only [σ]; omega)
  rw [H.cb, H.cw, H.cw, H.cw, H.cw, past_eq H HT 0 (by decide) 5 _ rfl, past_eq H HT 1 (by decide) 6 _ rfl,
    past_eq H HT 2 (by decide) 7 _ rfl, past_eq H HT 3 (by decide) 8 _ rfl, hσ]
  rfl

include H HT in
/-- The convolved inputs over the heads' state places. -/
theorem ub_eq (k : Fin 8) (t : Fin 16) (p : Fin 128) (n : Fin 1024) :
    x.ub T k (ix3 t p n) = u a b (tg g (tm k t)) ⟨n.val / 64, by omega⟩ p := by
  rw [ub_apply]
  refine Eq.trans ?_ (sum_heads (fun h => u a b (tg g (tm k t)) h p) n)
  exact Finset.sum_congr rfl fun h _ => by rw [us_eq H HT, H.E]

include H HT in
/-- One step takes the state before its time to the state after it. -/
theorem step_eq (k : Fin 8) (t : Fin 16) {s : Vec Ideal S128x1024 .f32} (hs : StateOk a b (tg g (tm k t)).val s) :
    StateOk a b ((tg g (tm k t)).val + 1) (stepState k x.dA x.Bm (x.ub T k) t s) := by
  intro p n
  rw [stepState_apply, dA_apply, Bm_apply, ub_eq H HT, H.dtE, H.Af, H.B, hs p n, state_succ _ _ _ _ _ _ (tg g (tm k t)).isLt]
  unfold next bIn
  rw [mul_comm (proj _ _ _ _) (dt _ _ _ _)]
  congr 4
  exact Fin.ext (by simp only; omega)

include H HT in
/-- The states within a block. -/
theorem stateAt_eq (k : Fin 8) {s : Vec Ideal S128x1024 .f32} (hs : StateOk a b (g.val * 128 + k.val * 16) s) (n : ℕ) (hn : n ≤ 16) :
    StateOk a b (g.val * 128 + k.val * 16 + n) (stateAt k x.dA x.Bm (x.ub T k) s n) := by
  induction n with
  | zero => exact hs
  | succ n ih =>
    rw [stateAt_succ _ _ _ _ _ _ (by omega)]
    have e : (tg g (tm k ⟨n, by omega⟩)).val = g.val * 128 + k.val * 16 + n := by simp only [tg, tm]; omega
    have := step_eq H HT k ⟨n, by omega⟩ (s := stateAt k x.dA x.Bm (x.ub T k) s n) (by rw [e]; exact ih (by omega))
    rw [e] at this
    exact this

include H HT in
/-- The states at the blocks' starts. -/
theorem st_eq (hS : StateOk a b (g.val * 128) S) (n : ℕ) (hn : n ≤ 8) : StateOk a b (g.val * 128 + n * 16) (x.st T S n) := by
  induction n with
  | zero => rw [Nat.zero_mul]; exact hS
  | succ n ih =>
    have e := Chunk.st_succ x T S ⟨n, by omega⟩
    have := stateAt_eq H HT ⟨n, by omega⟩ (ih (by omega)) 16 le_rfl
    rw [← e] at this
    have h16 : g.val * 128 + (n + 1) * 16 = g.val * 128 + n * 16 + 16 := by omega
    rw [h16]
    exact this

include H HT in
/-- The products a step stores: the state after its time by the output direction. -/
theorem prod_eq (hS : StateOk a b (g.val * 128) S) (k : Fin 8) (t : Fin 16) (p : Fin 128) (n : Fin 1024) :
    x.prod T S k (ix3 t p n) = state a b ⟨n.val / 64, by omega⟩ p ⟨n.val % 64, by omega⟩ ((tg g (tm k t)).val + 1)
      * proj a b (tg g (tm k t)) ⟨5184 + n.val, by omega⟩ := by
  refine (stepOut_apply k x.C x.dA x.Bm (x.ub T k) t (stateAt k x.dA x.Bm (x.ub T k) (x.st T S k.val) t.val) p n).trans ?_
  have e : (tg g (tm k t)).val = g.val * 128 + k.val * 16 + t.val := by simp only [tg, tm]; omega
  rw [H.C, step_eq H HT k t (by rw [e]; exact stateAt_eq H HT k (st_eq H HT hS k.val (by omega)) t.val (by omega)) p n]

include H HT in
/-- The read-outs. -/
theorem y_eq (hS : StateOk a b (g.val * 128) S) (k : Fin 8) (t : Fin 16) (p : Fin 128) (h : Fin 16) :
    x.y T S k (ix4 0 t p h) = y a b (tg g (tm k t)) h p := by
  rw [y_apply, us_eq H HT, H.Dt]
  unfold y
  congr 1
  rw [Finset.sum_congr rfl fun n _ => by rw [H.K], sum_hot]
  refine Finset.sum_congr rfl fun d _ => ?_
  rw [prod_eq H HT hS]
  have e1 : (⟨(h.val * 64 + d.val) / 64, by omega⟩ : Fin 16) = h := Fin.ext (by simp only; omega)
  have e2 : (⟨(h.val * 64 + d.val) % 64, by omega⟩ : Fin 64) = d := Fin.ext (by simp only; omega)
  rw [e1, e2]
  rfl

include H HT in
/-- The gated rows. -/
theorem gated_eq (hS : StateOk a b (g.val * 128) S) (r : Fin 128) (i : Fin 2048) : gated x T S r i = gate a b (tg g r) (σ i) := by
  unfold gated gate
  rw [H.z, H.r]
  have ey := y_eq H HT hS ⟨r.val / 16, by omega⟩ ⟨r.val % 16, by omega⟩ ⟨i.val / 16, by omega⟩ ⟨i.val % 16, by omega⟩
  have e0 : tm ⟨r.val / 16, by omega⟩ ⟨r.val % 16, by omega⟩ = r := Fin.ext (by simp only [tm]; omega)
  have e1 : (⟨(σ i).val / 128, by omega⟩ : Fin 16) = ⟨i.val % 16, by omega⟩ := Fin.ext (by simp only [σ]; omega)
  have e2 : (⟨(σ i).val % 128, by omega⟩ : Fin 128) = ⟨i.val / 16, by omega⟩ := Fin.ext (by simp only [σ]; omega)
  rw [e0] at ey
  rw [e1, e2, ← ey]
  rfl

include H HT in
/-- The output block: the normalised channels of the chunk's times. -/
theorem out_eq (hS : StateOk a b (g.val * 128) S) (r : Fin 128) (i : Fin 2048) : x.out T S (ix3 0 r i) = normed a b (tg g r) (σ i) := by
  rw [out_apply, H.nw, gated_eq H HT hS]
  unfold normed
  rw [← sum_σ (fun j => gate a b (tg g r) j * gate a b (tg g r) j)]
  rw [Finset.sum_congr rfl fun j _ => by rw [gated_eq H HT hS]]

include H in
/-- The tail a chunk leaves is the next chunk's. -/
theorem tail_ok (g' : Fin 16) (hg : g'.val = g.val + 1) : TailOk a b g' x.tail := by
  intro r i
  rw [tail_apply, H.u, if_pos (by omega)]
  congr 1
  exact Fin.ext (by simp only [tg]; omega)

end Cert.KernelIdeal.Value

end
-- ==== Proof.Val.Array.lean ====
/- The result array after the grid: at each batch and time, the normalised channels. -/
module

public import proofs.«01_k».proof.Proof.Host.Blocks
public import proofs.«01_k».proof.Proof.Val.ChunkMath

@[expose] public section

set_option maxRecDepth 16384

noncomputable section

namespace Cert.KernelIdeal.Value

open Idealize.ShloMosaic Idealize.ShloMosaic.TcCoe
open Cert.KernelIdeal Cert.KernelIdeal.Gen Cert.KernelIdeal.Scan Cert.KernelIdeal.Host Cert.Math

variable (m : (ℓ : Loc nD τ sig) → Buf (Elt Ideal) ℓ) (c : Dev nD) (t : Fin cfg0.N)

/-- The chunk of a point. -/
def chk : Fin 16 := ⟨t.val % 16, by omega⟩

/-- A point's blocks are those of its batch and chunk. -/
theorem blk_holds : Holds (inp m c) (bat t) (chk t) (blk m c t) where
  z := blk_z m c t
  u := blk_u m c t
  dtE := blk_dtE m c t
  B := blk_B m c t
  C := blk_C m c t
  r := blk_r m c t
  Af := blk_Af m c t
  Dt := blk_Dt m c t
  cw := blk_cw m c t
  cb := blk_cb m c t
  nw := blk_nw m c t
  E := blk_E m c t
  K := blk_K m c t

/-- The tail and the state a point starts from are those of its batch before its chunk. -/
theorem start_ok : TailOk (inp m c) (bat t) (chk t) (tin m c t) ∧ StateOk (inp m c) (bat t) ((chk t).val * 128) (sin m c t) := by
  obtain ⟨n, hn⟩ := t
  induction n with
  | zero =>
    refine ⟨fun r i => ?_, fun p n => ?_⟩
    · exact (zeroTail_apply r i).trans (if_neg (by simp only [chk]; omega)).symm
    · exact zeroState_apply p n
  | succ n ih =>
    obtain ⟨h1, h2⟩ := ih (Nat.lt_of_succ_lt hn)
    have H := blk_holds m c ⟨n, Nat.lt_of_succ_lt hn⟩
    have hc := carry_eq m c ⟨n, Nat.lt_of_succ_lt hn⟩
    by_cases h : (n + 1) % 16 = 0
    · have e1 : tin m c ⟨n + 1, hn⟩ = k0_pay3 (F := Ideal) := if_pos h
      have e2 : sin m c ⟨n + 1, hn⟩ = k0_pay2 (F := Ideal) := if_pos h
      rw [e1, e2]
      refine ⟨fun r i => ?_, fun p k => ?_⟩
      · exact (zeroTail_apply r i).trans (if_neg (by simp only [chk]; omega)).symm
      · have e : (chk ⟨n + 1, hn⟩).val * 128 = 0 := by simp only [chk]; omega
        rw [e]
        exact zeroState_apply p k
    · have e1 : tin m c ⟨n + 1, hn⟩ = (carry m c n (Nat.lt_of_succ_lt hn)).2 := if_neg h
      have e2 : sin m c ⟨n + 1, hn⟩ = (carry m c n (Nat.lt_of_succ_lt hn)).1 := if_neg h
      have eb : bat ⟨n + 1, hn⟩ = bat ⟨n, Nat.lt_of_succ_lt hn⟩ := Fin.ext (by simp only [bat]; omega)
      have ec : (chk ⟨n + 1, hn⟩).val = (chk ⟨n, Nat.lt_of_succ_lt hn⟩).val + 1 := by simp only [chk]; omega
      have es : (chk ⟨n + 1, hn⟩).val * 128 = (chk ⟨n, Nat.lt_of_succ_lt hn⟩).val * 128 + 8 * 16 := by rw [ec]; omega
      rw [e1, e2, hc, eb, es]
      exact ⟨tail_ok H _ ec, st_eq H h1 h2 8 le_rfl⟩

/-- What a point writes. -/
theorem point_eq (r : Fin 128) (i : Fin 2048) :
    ((blk m c t).out (tin m c t) (sin m c t) (ix3 0 r i) : EReal) = normed (inp m c) (bat t) (time t r) (σ i) :=
  out_eq (blk_holds m c t) (start_ok m c t).1 (start_ok m c t).2 r i

/-- The result array. -/
def res90 : S4x2048x2048.Idx → EReal := fun j => normed (inp m c) (j 0) (j 1) (σ (j 2))

/-- The written blocks fill the array. -/
theorem covers13 : (cfg0.win 13).Covers := by decide +kernel

/-- The place of a block's element in the array. -/
theorem emb13 (y : ((cfg0.win 13).xblock (cfg0.grid.coords t)).Idx) (a : Fin 3) :
    (((cfg0.win 13).blk t).view.emb y a).val = (![t.val / 16, t.val % 16, 0] : Fin 3 → ℕ) a * win0_13.size a + (y a).val :=
  (Pipeline.Window.rect_emb_val win0_13 t y a rfl).trans (congrArg (fun f : Fin 3 → ℕ => f a * win0_13.size a + (y a).val) (idx13 t))

/-- A block's element, by its row and channel. -/
theorem xinj13 (y : ((cfg0.win 13).xblock (cfg0.grid.coords t)).Idx) :
    (cfg0.win 13).xinj (cfg0.grid.coords t) y = (ix3 (0 : Fin 1) (y 1 : Fin 128) (y 2 : Fin 2048)) := by
  have h0 : (y 0).val < 1 := (y 0).isLt
  funext a; apply Fin.ext
  fin_cases a
  · show (y 0).val = 0; omega
  · rfl
  · rfl

/-- A value of the result array, by its coordinates. -/
theorem res90_at (j : S4x2048x2048.Idx) (b : Fin 4) (l i : Fin 2048) (h0 : (j 0).val = b.val) (h1 : (j 1).val = l.val) (h2 : (j 2).val = i.val) :
    res90 m c j = normed (inp m c) b l (σ i) := by
  have e0 : j 0 = b := Fin.ext h0
  have e1 : j 1 = l := Fin.ext h1
  have e2 : j 2 = i := Fin.ext h2
  unfold res90
  rw [e0, e1, e2]

/-- What a point writes, at its place in the array. -/
theorem after_eq (y : ((cfg0.win 13).xblock (cfg0.grid.coords t)).Idx) :
    (dats m 0 c).after 13 t ((cfg0.win 13).xinj (cfg0.grid.coords t) y) = res90 m c (((cfg0.win 13).blk t).view.emb y) := by
  rw [after13, xinj13]
  have h0 : (y 0).val < 1 := (y 0).isLt
  refine (point_eq m c t (y 1) (y 2)).trans (res90_at m c _ (bat t) (time t (y 1)) (y 2) ?_ ?_ ?_).symm
  · refine (emb13 t y 0).trans ?_
    show t.val / 16 * 1 + (y 0).val = t.val / 16
    omega
  · exact emb13 t y 1
  · refine (emb13 t y 2).trans ?_
    show 0 * 2048 + (y 2).val = (y 2).val
    omega

/-- Every point's block is written back, and the blocks fill the array. -/
theorem arr_eq : (dats m 0 c).arrAt 13 cfg0.N = res90 m c :=
  (dats m 0 c).arrAt_eq_of_covers 13 _ covers13 fun t hf y => after_eq m c t y

end Cert.KernelIdeal.Value

end
-- ==== Proof.Val.Result.lean ====
/- The kernel's result: the host operations after the grid project the normalised channels by the permuted weights, which
   is the output of the mathematics, since the sum may follow the list of channels. -/
module

public import proofs.«01_k».proof.Proof.Val.Array

@[expose] public section

set_option maxRecDepth 16384

noncomputable section

namespace Cert.KernelIdeal.Value

open Idealize.ShloMosaic Idealize.ShloMosaic.TcCoe Idealize.ShloMosaic.StableHlo
open Cert.KernelIdeal Cert.KernelIdeal.Gen Cert.KernelIdeal.Scan Cert.KernelIdeal.Host Cert.Math

variable (m : (ℓ : Loc nD τ sig) → Buf (Elt Ideal) ℓ) (c : Dev nD)

/-- The list of channels is among the buffers the grid starts from. -/
theorem v9_eq : V0 m c (Proc.devRef .tc main_v9) = perm := by
  simp only [V0, List.flatten_cons, List.flatten_nil, List.append_nil]
  after_reads_at
  rfl

/-- The operations after the grid, of any contents: the product of the array with the transposed, permuted weights. -/
theorem suffix_eq (w : Valuation τ sig (Elt Ideal)) (A : Vec Ideal S4x2048x2048 .f32) (wo : Vec Ideal S1024x2048 .f32)
    (h9 : w (Proc.devRef .tc main_v9) = perm) (h90 : w (Proc.devRef .tc main_v90) = A) (hw : w (Proc.devRef .tc main_arg9) = wo) :
    after (hostOps1 (F := Ideal)) w (Proc.devRef .tc main_v99)
      = Host.dotGeneral (F := Ideal) (φ₁ := .f32) (φ₂ := .f32) dot_S4x2048x2048_S2048x1024_S4x2048x1024_2_0_01_1_n_n none A
          (transpose S2048x1024 [1, 0] (Host.gather gather_S1024x2048_S2048x1_S1024x2048_0_1_n_n_1_1_10241 wo permIdx)
            transposes_S1024x2048_S2048x1024_1_0) := by
  after_reads_simp
  rw [h9, h90, hw]

/-- The product at an index. -/
theorem product_apply (A : Vec Ideal S4x2048x2048 .f32) (w : Vec Ideal S1024x2048 .f32) (b : Fin 4) (l : Fin 2048) (e : Fin 1024) :
    Host.dotGeneral (F := Ideal) (φ₁ := .f32) (φ₂ := .f32) dot_S4x2048x2048_S2048x1024_S4x2048x1024_2_0_01_1_n_n none A
          (transpose S2048x1024 [1, 0] (Host.gather gather_S1024x2048_S2048x1_S1024x2048_0_1_n_n_1_1_10241 w permIdx)
            transposes_S1024x2048_S2048x1024_1_0) (ix3 b l e)
      = ∑ i : Fin 2048, A (ix3 b l i) * w (ix2 e (σ i)) := by
  pointwise [dot_S4x2048x2048_S2048x1024_S4x2048x1024_2_0_01_1_n_n]
  refine Finset.sum_congr (M := EReal) rfl fun i _ => congrArg _ ?_
  exact Gather.cols_apply _ _ _ _ _ _ (permIdx_val i)

/-- The windows' arrays are distinct. -/
theorem arrRef_inj : Function.Injective (Pipeline.arrRef spec0) := by decide +kernel

/-- The result: the product of the normalised channels with the weights. -/
theorem result_eq : Pipeline.afterTail₀ cfgs (dats m) 0 (V0 m) [hostOps1] c main_v99
    = Host.dotGeneral (F := Ideal) (φ₁ := .f32) (φ₂ := .f32) dot_S4x2048x2048_S2048x1024_S4x2048x1024_2_0_01_1_n_n none (res90 m c)
          (transpose S2048x1024 [1, 0] (Host.gather gather_S1024x2048_S2048x1_S1024x2048_0_1_n_n_1_1_10241 (m (c, Proc.tc.devRef main_arg9)) permIdx)
            transposes_S1024x2048_S2048x1024_1_0) := by
  unfold Pipeline.afterTail₀
  simp only [List.flatten_cons, List.flatten_nil, List.append_nil]
  refine suffix_eq _ _ _ ?_ ?_ ?_
  · exact (Pipeline.withArrays_of_ne _ c (V0 m c) _ main_v9 (by exact (by decide : ∀ w, Pipeline.arrRef spec0 w ≠ main_v9))).trans (v9_eq m c)
  · exact (Pipeline.withArrays_arr spec0 arrRef_inj c (V0 m c) _ 13).trans (arr_eq m c)
  · exact (Pipeline.withArrays_of_ne _ c (V0 m c) _ main_arg9 (by exact (by decide : ∀ w, Pipeline.arrRef spec0 w ≠ main_arg9))).trans (V_main_arg9 m c)

/-- The result at an index: the output of the mathematics. -/
theorem result_apply (b : Fin 4) (l : Fin 2048) (e : Fin 1024) :
    (Pipeline.afterTail₀ cfgs (dats m) 0 (V0 m) [hostOps1] c main_v99 (ix3 b l e) : EReal) = out (inp m c) b l e := by
  rw [result_eq, product_apply]
  exact sum_σ (fun i => normed (inp m c) b l i * (inp m c).wout e i)

/-- The result as an array. -/
def result (a : Inputs) : S4x2048x1024.Idx → EReal := fun j => out a (j 0) (j 1) (j 2)

/-- The run of the kernel: it ends with the result, its arguments unchanged. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v99) = result (inp m c) := by
  refine (θ_run defs _ _).mono (fun _ h c => ?_) (Scan.run_main m ρ)
  refine ((h.1 c).2 main_v99 (Pipeline.mem_restRefs_of main_v99 (by decide) (by decide))).trans ?_
  funext j
  have ej : j = ix3 (j 0 : Fin 4) (j 1 : Fin 2048) (j 2 : Fin 1024) := by
    funext a; fin_cases a <;> rfl
  rw [ej]
  exact result_apply m c (j 0) (j 1) (j 2)

end Cert.KernelIdeal.Value

end
-- ==== Proof.Ref.Closed.lean ====
/- What the reference computes, entry by entry: its arrays before the loop, one trip of the loop, the state and the rows
   after any number of trips, and its result. -/
module
public import proofs.«01_k».proof.Proof.Gen.ReferenceIdeal.Step
public import proofs.«01_k».proof.Proof.Math
public import Idealize.ShloMosaic.Lib.Pointwise.Tactic
public import Idealize.ShloMosaic.Lib.DynamicIndex
public import Idealize.ShloMosaic.Lib.WordCmp
@[expose] public section
set_option maxRecDepth 100000
set_option maxHeartbeats 1000000
noncomputable section
namespace Cert.ReferenceIdeal.Closed
open Idealize.ShloMosaic Cert.ReferenceIdeal Cert.ReferenceIdeal.Gen Cert.ReferenceIdeal.Step Cert.Math

/-- An array of ideal floats. -/
abbrev Arr (s : Shape) : Type := (⟨s, .f32⟩ : BufTy).Contents (Elt Ideal)

/-- The arguments of the reference. -/
structure Args where
  a0 : Arr S4x2048x1024
  a1 : Arr S6208x1024
  a2 : Arr S16x64
  a3 : Arr S2048x4
  a4 : Arr S2048
  a5 : Arr S16x64
  a6 : Arr S16x128
  a7 : Arr S16
  a8 : Arr S2048
  a9 : Arr S1024x2048
  a10 : Arr S2048x1024

variable (a : Args)

/-- The arguments of the reference, as functions of their coordinates. -/
def inp : Inputs where
  x b l k := a.a0 (ix3 b l k)
  win n k := a.a1 (ix2 n k)
  wdt h k := a.a2 (ix2 h k)
  cw i j := a.a3 (ix2 i j)
  cb i := a.a4 (ix1 i)
  alog h d := a.a5 (ix2 h d)
  skip h p := a.a6 (ix2 h p)
  bdt h := a.a7 (ix1 h)
  nw i := a.a8 (ix1 i)
  wout e i := a.a9 (ix2 e i)
  wres i k := a.a10 (ix2 i k)

/-- The input projection. -/
theorem proj_apply (b : Fin 4) (l : Fin 2048) (n : Fin 6208) : A_main_v1 a.a0 a.a1 a.a2 a.a3 a.a4 a.a5 a.a7 (ix3 b l n) = proj (inp a) b l n := by
  unfold A_main_v1 A_main_v0
  pointwise [dot_S4x2048x1024_S1024x6208_S4x2048x6208_2_0_01_1_n_n]
  rfl

/-- The padded projection: three zero times, then the projection. -/
theorem pad_apply (b : Fin 4) (l : Fin 2051) (i : Fin 2048) : A_main_v8 a.a0 a.a1 a.a2 a.a3 a.a4 a.a5 a.a7 (ix3 b l i) =
    if h : 3 ≤ l.val then proj (inp a) b ⟨l.val - 3, by omega⟩ ⟨2048 + i.val, by omega⟩ else 0 := by
  unfold A_main_v8 A_main_v2 K_main_call0_v0 K_main_c
  pointwise [proj_apply a]
  by_cases h : 3 ≤ l.val
  · rw [dif_pos ⟨h, by omega⟩, dif_pos h]
  · rw [dif_neg (fun e => h e.1), dif_neg h]
    show (((0#32).toInt : ℝ) : EReal) = 0
    norm_num

/-- The convolved inputs. -/
theorem conv_apply (b : Fin 4) (l : Fin 2048) (i : Fin 2048) : A_main_v40 a.a0 a.a1 a.a2 a.a3 a.a4 a.a5 a.a7 (ix3 b l i) = conv (inp a) b l i := by
  unfold A_main_v40 A_main_v39 A_main_v38 A_main_v37 A_main_v36 A_main_v35 A_main_v34 A_main_v33 A_main_v32 A_main_v31 A_main_v30 A_main_v29 A_main_v28 A_main_v27 A_main_v26 A_main_v25 A_main_v24 A_main_v23 A_main_v22 A_main_v21 A_main_v20 A_main_v19 A_main_v18 A_main_v17 A_main_v16 A_main_v14 A_main_v13 A_main_v12 A_main_v11 A_main_v10 A_main_v9 K_main_v15 K_main_cst
  pointwise
  simp only [pad_apply a]
  have e (i k : ℕ) (h : i = k) (hi : i < 2051) (hk : k < 2051) (n : Fin 6208) :
      (if h : 3 ≤ i then proj (inp a) b ⟨i - 3, by omega⟩ n else 0) = if h : 3 ≤ k then proj (inp a) b ⟨k - 3, by omega⟩ n else 0 := by
    subst h
    rfl
  unfold conv before
  rw [e (1 + l.val) (l.val + 1) (by omega) (by omega) (by omega), e (2 + l.val) (l.val + 2) (by omega) (by omega) (by omega),
    e (3 + l.val) (l.val + 3) (by omega) (by omega) (by omega)]
  show _ * (inp a).cw i 0 + _ * (inp a).cw i 1 + _ * (inp a).cw i 2 + _ * (inp a).cw i 3 + (inp a).cb i = _
  ac_rfl

/-- The step sizes. -/
theorem dt_apply (b : Fin 4) (l : Fin 2048) (h : Fin 16) : A_main_v47 a.a0 a.a1 a.a2 a.a3 a.a4 a.a5 a.a7 (ix3 b l h) = dt (inp a) b l h := by
  have e : A_main_v45 a.a0 a.a1 a.a2 a.a3 a.a4 a.a5 a.a7 (ix3 b l h) = ∑ k : Fin 64, proj (inp a) b l ⟨4096 + k.val, by omega⟩ * (inp a).wdt h k + (inp a).bdt h := by
    unfold A_main_v45 A_main_v44 A_main_v43 A_main_v42 A_main_v41 A_main_v3
    pointwise [dot_S4x2048x64_S64x16_S4x2048x16_2_0_01_1_n_n, proj_apply a]
    rfl
  unfold A_main_v47 A_main_call2_v2 A_main_v46 A_main_call1_v11 A_main_call1_v10 A_main_call1_v9 A_main_call1_v8 A_main_call1_v7 A_main_call1_v6 A_main_call1_v4 A_main_call1_v3 A_main_call1_v1
    K_main_call1_v0 K_main_call1_v2 K_main_call1_v5 K_main_call1_cst K_main_call2_v4 K_main_call2_v3 K_main_call2_v1 K_main_call2_v0 K_main_cst_0 K_main_cst_1
  pointwise
  simp only [e]
  unfold dt clip
  simp only [ne_eq, not_true_eq_false, if_false]
  rfl

variable (j : Fin 2048) (s : State Ideal)

/-- The starts of a slice at trip `j` of an array of four axes. -/
theorem starts4 (k : Fin 4) : BitVec.toInt ((![constantI S_ 32 (BitVec.ofNat 32 j.val), constantI S_ 32 0#32, constantI S_ 32 0#32, constantI S_ 32 0#32] : Fin 4 → IVec S_ 32) k (Shape.Idx.first h_S_))
    = ((![j.val, 0, 0, 0] : Fin 4 → ℕ) k : ℤ) := by
  match k with
  | 0 => exact toInt_ofNat_of_lt (by omega)
  | 1 => rfl
  | 2 => rfl
  | 3 => rfl

/-- The starts of a slice at trip `j` of an array of three axes. -/
theorem starts3 (k : Fin 3) : BitVec.toInt ((![constantI S_ 32 (BitVec.ofNat 32 j.val), constantI S_ 32 0#32, constantI S_ 32 0#32] : Fin 3 → IVec S_ 32) k (Shape.Idx.first h_S_))
    = ((![j.val, 0, 0] : Fin 3 → ℕ) k : ℤ) := by
  match k with
  | 0 => exact toInt_ofNat_of_lt (by omega)
  | 1 => rfl
  | 2 => rfl

/-- Trip `j` reads the step sizes of time `j`. -/
theorem b8_apply (b : Fin 4) (h : Fin 16) : b8 j s (ix2 b h) = s.main_v57_1 (ix3 j b h) := by
  unfold b8 b7 b5 b6
  have e := Host.dynamicSlice_eq_extractStridedSlice S1x4x16 s.main_v57_1 _ ![j.val, 0, 0] sliceFits_S2048x4x16_S1x4x16 ⟨rfl, fun k => by
    match k with
    | 0 => show j.val + 1 ≤ 2048; omega
    | 1 => exact le_refl 4
    | 2 => exact le_refl 16⟩ (starts3 j)
  rw [e]
  pointwise

/-- Trip `j` reads the convolved inputs of time `j`. -/
theorem b4_apply (b : Fin 4) (h : Fin 16) (p : Fin 128) : b4 j s (ix3 b h p) = s.main_v57_0 (ix4 j b h p) := by
  unfold b4 b3 b2 b1 b0
  have e := Host.dynamicSlice_eq_extractStridedSlice S1x4x16x128 s.main_v57_0 _ ![j.val, 0, 0, 0] sliceFits_S2048x4x16x128_S1x4x16x128 ⟨rfl, fun k => by
    match k with
    | 0 => show j.val + 1 ≤ 2048; omega
    | 1 => exact le_refl 4
    | 2 => exact le_refl 16
    | 3 => exact le_refl 128⟩ (starts4 j)
  rw [e]
  pointwise

/-- Trip `j` reads the input directions of time `j`. -/
theorem b13_apply (b : Fin 4) (h : Fin 16) (d : Fin 64) : b13 j s (ix3 b h d) = s.main_v57_2 (ix4 j b h d) := by
  unfold b13 b12 b11 b10 b9
  have e := Host.dynamicSlice_eq_extractStridedSlice S1x4x16x64 s.main_v57_2 _ ![j.val, 0, 0, 0] sliceFits_S2048x4x16x64_S1x4x16x64 ⟨rfl, fun k => by
    match k with
    | 0 => show j.val + 1 ≤ 2048; omega
    | 1 => exact le_refl 4
    | 2 => exact le_refl 16
    | 3 => exact le_refl 64⟩ (starts4 j)
  rw [e]
  pointwise

/-- Trip `j` reads the output directions of time `j`. -/
theorem b18_apply (b : Fin 4) (h : Fin 16) (d : Fin 64) : b18 j s (ix3 b h d) = s.main_v57_3 (ix4 j b h d) := by
  unfold b18 b17 b16 b15 b14
  have e := Host.dynamicSlice_eq_extractStridedSlice S1x4x16x64 s.main_v57_3 _ ![j.val, 0, 0, 0] sliceFits_S2048x4x16x64_S1x4x16x64 ⟨rfl, fun k => by
    match k with
    | 0 => show j.val + 1 ≤ 2048; omega
    | 1 => exact le_refl 4
    | 2 => exact le_refl 16
    | 3 => exact le_refl 64⟩ (starts4 j)
  rw [e]
  pointwise

/-- The state a trip leaves. -/
theorem b36_apply (b : Fin 4) (h : Fin 16) (p : Fin 128) (d : Fin 64) : b36 j s (ix4 b h p d) =
    Ideal.exp (s.main_v57_1 (ix3 j b h) * s.main_v57_4 (ix2 h d)) * s.main_v57_7 (ix4 b h p d)
      + s.main_v57_1 (ix3 j b h) * s.main_v57_2 (ix4 j b h d) * s.main_v57_0 (ix4 j b h p) := by
  unfold b36 b35 b34 b33 b32 b31 b30 b29 b28 b27 b26 b25 b24 b23 b22 b21 b20 b19
  pointwise [b8_apply, b13_apply, b4_apply]

/-- The row a trip makes. -/
theorem b41_apply (b : Fin 4) (h : Fin 16) (p : Fin 128) : b41 j s (ix3 b h p) =
    ∑ d : Fin 64, b36 j s (ix4 b h p d) * s.main_v57_3 (ix4 j b h d) + s.main_v57_5 (ix2 h p) * s.main_v57_0 (ix4 j b h p) := by
  unfold b41 b40 b39 b38 b37
  pointwise [dot_S4x16x128x64_S4x16x64_S4x16x128_3_2_2_n_01_01, b18_apply, b4_apply]

/-- A trip writes its row and keeps the others. -/
theorem b46_apply (l : Fin 2048) (b : Fin 4) (h : Fin 16) (p : Fin 128) : b46 j s (ix4 l b h p) =
    if l = j then b41 j s (ix3 b h p) else s.main_v57_8 (ix4 l b h p) := by
  unfold b46 b45 b44 b43 b42
  have e := Idealize.ShloMosaic.WordCmp.dynamicUpdateSlice_eq_update s.main_v57_8 (broadcastInDim S1x4x16x128 ![1, 2, 3] bcast_S4x16x128_S1x4x16x128_1_2_3 (b41 j s)) _
    updateFits_S2048x4x16x128_S1x4x16x128 ![j.val, 0, 0, 0] ⟨rfl, fun k => by
    match k with
    | 0 => show j.val + 1 ≤ 2048; omega
    | 1 => exact le_refl 4
    | 2 => exact le_refl 16
    | 3 => exact le_refl 128⟩ (starts4 j)
  rw [e]
  pointwise
  by_cases c : l = j
  · rw [dif_pos (by rw [c]; omega), if_pos c]
  · rw [dif_neg (by have := Fin.val_ne_of_ne c; omega), if_neg c]

/-- The arrays the loop starts from. -/
theorem u_apply (l : Fin 2048) (b : Fin 4) (h : Fin 16) (p : Fin 128) : A_main_v52 a.a0 a.a1 a.a2 a.a3 a.a4 a.a5 a.a7 (ix4 l b h p) = u (inp a) b l h p := by
  unfold A_main_v52 A_main_v50
  pointwise [conv_apply a]
  rfl

/-- The step sizes with the time first. -/
theorem dtT_apply (l : Fin 2048) (b : Fin 4) (h : Fin 16) : A_main_v53 a.a0 a.a1 a.a2 a.a3 a.a4 a.a5 a.a7 (ix3 l b h) = dt (inp a) b l h := by
  unfold A_main_v53
  pointwise [dt_apply a]

/-- The input directions with the time first. -/
theorem B_apply (l : Fin 2048) (b : Fin 4) (h : Fin 16) (d : Fin 64) : A_main_v54 a.a0 a.a1 a.a2 a.a3 a.a4 a.a5 a.a7 (ix4 l b h d) = bIn (inp a) b l h d := by
  unfold A_main_v54 A_main_v5 A_main_v4
  pointwise [proj_apply a]
  rfl

/-- The output directions with the time first. -/
theorem C_apply (l : Fin 2048) (b : Fin 4) (h : Fin 16) (d : Fin 64) : A_main_v55 a.a0 a.a1 a.a2 a.a3 a.a4 a.a5 a.a7 (ix4 l b h d) = cOut (inp a) b l h d := by
  unfold A_main_v55 A_main_v7 A_main_v6
  pointwise [proj_apply a]
  rfl

/-- The decay rates. -/
theorem A_apply (h : Fin 16) (d : Fin 64) : A_main_v49 a.a0 a.a1 a.a2 a.a3 a.a4 a.a5 a.a7 (ix2 h d) = -Ideal.exp ((inp a).alog h d) := by
  unfold A_main_v49 A_main_v48
  pointwise
  rfl

/-- The state of the loop after `n` trips. -/
def it : ℕ → State Ideal
  | 0 => init a.a6 a.a0 a.a1 a.a2 a.a3 a.a4 a.a5 a.a7
  | n + 1 => step n (it n)

/-- No trip changes the arrays it reads. -/
theorem it_fixed (n : ℕ) : (it a n).main_v57_0 = A_main_v52 a.a0 a.a1 a.a2 a.a3 a.a4 a.a5 a.a7 ∧ (it a n).main_v57_1 = A_main_v53 a.a0 a.a1 a.a2 a.a3 a.a4 a.a5 a.a7
    ∧ (it a n).main_v57_2 = A_main_v54 a.a0 a.a1 a.a2 a.a3 a.a4 a.a5 a.a7 ∧ (it a n).main_v57_3 = A_main_v55 a.a0 a.a1 a.a2 a.a3 a.a4 a.a5 a.a7
    ∧ (it a n).main_v57_4 = A_main_v49 a.a0 a.a1 a.a2 a.a3 a.a4 a.a5 a.a7 ∧ (it a n).main_v57_5 = a.a6 := by
  induction n with
  | zero => exact ⟨rfl, rfl, rfl, rfl, rfl, rfl⟩
  | succ n ih => exact ih

/-- The state after `n` trips is the recurrence's. -/
theorem it_state (n : ℕ) (hn : n ≤ 2048) (b : Fin 4) (h : Fin 16) (p : Fin 128) (d : Fin 64) :
    (it a n).main_v57_7 (ix4 b h p d) = state (inp a) b h p d n := by
  induction n with
  | zero =>
    show K_main_v51 (F := Ideal) (ix4 b h p d) = 0
    unfold K_main_v51 K_main_cst_2
    pointwise
  | succ n ih =>
    obtain ⟨h0, h1, h2, _, h4, _⟩ := it_fixed a n
    show b36 (⟨n, hn⟩ : Fin 2048) (it a n) (ix4 b h p d) = _
    rw [b36_apply, h0, h1, h2, h4, ih (by omega), u_apply, dtT_apply, B_apply, A_apply]
    rw [state_succ (inp a) b h p d n hn]
    rfl

/-- The rows after `n` trips: the read-outs of the times before `n`. -/
theorem it_rows (n : ℕ) (hn : n ≤ 2048) (l : Fin 2048) (hl : l.val < n) (b : Fin 4) (h : Fin 16) (p : Fin 128) :
    (it a n).main_v57_8 (ix4 l b h p) = y (inp a) b l h p := by
  induction n with
  | zero => omega
  | succ n ih =>
    show b46 (⟨n, hn⟩ : Fin 2048) (it a n) (ix4 l b h p) = _
    rw [b46_apply]
    by_cases e : l = ⟨n, hn⟩
    · subst e
      obtain ⟨h0, _, _, h3, _, h5⟩ := it_fixed a n
      rw [if_pos rfl, b41_apply, h0, h3, h5, u_apply]
      unfold y
      refine congrArg (· + _) (Finset.sum_congr rfl fun d _ => ?_)
      rw [C_apply]
      exact congrArg (· * _) (it_state a (n + 1) hn b h p d)
    · rw [if_neg e]
      exact ih (by omega) (by have := Fin.val_ne_of_ne e; simp only at this; omega)

/-- The result of the reference, of a loop that ends with the read-outs, is the problem's. -/
theorem R_apply (s : State Ideal) (hs : ∀ l b h p, s.main_v57_8 (ix4 l b h p) = y (inp a) b l h p) (b : Fin 4) (l : Fin 2048) (e : Fin 1024) :
    R_main_v82 s a.a0 a.a1 a.a8 a.a9 a.a10 (ix3 b l e) = out (inp a) b l e := by
  unfold R_main_v82
  pointwise [dot_S4x2048x2048_S2048x1024_S4x2048x1024_2_0_01_1_n_n, dot_S4x2048x1024_S1024x2048_S4x2048x2048_2_0_01_1_n_n, dot_S4x2048x1024_S1024x6208_S4x2048x6208_2_0_01_1_n_n]
  simp only [hs]
  rfl

end Cert.ReferenceIdeal.Closed

end
-- ==== Proof.Ref.Result.lean ====
/- The reference's run: it ends with the output of the mathematics, its arguments unchanged. -/
module

public import proofs.«01_k».proof.Proof.Ref.Closed
public import proofs.«01_k».proof.Proof.Ref.Follow

@[expose] public section

set_option maxRecDepth 16384

noncomputable section

namespace Cert.ReferenceIdeal.Closed

open Idealize.ShloMosaic Idealize.ShloMosaic.TcCoe Idealize.SL.Sem
open Cert.ReferenceIdeal Cert.ReferenceIdeal.Gen Cert.ReferenceIdeal.Step Cert.Math

/-- The arguments in memory. -/
def args (m : (ℓ : Loc nD τ sig) → Buf (Elt Ideal) ℓ) (c : Dev nD) : Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)

/-- The result as an array. -/
def result (a : Inputs) : S4x2048x1024.Idx → EReal := fun j => out a (j 0) (j 1) (j 2)

/-- The result array, of a loop that ends with the read-outs. -/
theorem result_of (a : Args) (s : State Ideal) (hs : ∀ l b h p, s.main_v57_8 (ix4 l b h p) = y (inp a) b l h p) :
    R_main_v82 s a.a0 a.a1 a.a8 a.a9 a.a10 = result (inp a) := by
  funext j
  have ej : j = ix3 (j 0 : Fin 4) (j 1 : Fin 2048) (j 2 : Fin 1024) := by
    funext k; fin_cases k <;> rfl
  rw [ej]
  exact R_apply a s hs (j 0) (j 1) (j 2)

/-- The run of the reference: the result, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v82) = result (inp (args m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run _ _ _).mono (fun _ h c => ⟨(h c).1.trans (result_of (args m c) _ fun l b hd p => it_rows (args m c) 2048 le_rfl l l.isLt b hd p), (h c).2⟩)
    (Follow.run_iter m ρ (fun c => it (args m c)) (fun _ => rfl) (fun _ _ => rfl))

end Cert.ReferenceIdeal.Closed

end
-- ==== Proof.Equal.lean ====
/- The value claim: from memories that agree on the arguments, the kernel and the reference end with equal results, both
   the output of the mathematics of those arguments. -/
module

public import proofs.«01_k».proof.Defs
public import proofs.«01_k».proof.Proof.Val.Result
public import proofs.«01_k».proof.Proof.Ref.Result

@[expose] public section

set_option maxRecDepth 16384

noncomputable section

namespace Cert.Equal

open Idealize.ShloMosaic Idealize.ShloMosaic.TcCoe Idealize.SL.Sem

/-- Memories that agree on the arguments hold the same inputs. -/
theorem inputs_eq (m : (ℓ : Loc KernelIdeal.nD KernelIdeal.τ KernelIdeal.sig) → Buf (Elt Ideal) ℓ) (c : Dev KernelIdeal.nD) (a : ReferenceIdeal.Closed.Args)
    (h : a.a0 = m ((c.tc : Thread KernelIdeal.nD KernelIdeal.τ).loc KernelIdeal.main_arg0)
      ∧ a.a1 = m ((c.tc : Thread KernelIdeal.nD KernelIdeal.τ).loc KernelIdeal.main_arg1)
      ∧ a.a2 = m ((c.tc : Thread KernelIdeal.nD KernelIdeal.τ).loc KernelIdeal.main_arg2)
      ∧ a.a3 = m ((c.tc : Thread KernelIdeal.nD KernelIdeal.τ).loc KernelIdeal.main_arg3)
      ∧ a.a4 = m ((c.tc : Thread KernelIdeal.nD KernelIdeal.τ).loc KernelIdeal.main_arg4)
      ∧ a.a5 = m ((c.tc : Thread KernelIdeal.nD KernelIdeal.τ).loc KernelIdeal.main_arg5)
      ∧ a.a6 = m ((c.tc : Thread KernelIdeal.nD KernelIdeal.τ).loc KernelIdeal.main_arg6)
      ∧ a.a7 = m ((c.tc : Thread KernelIdeal.nD KernelIdeal.τ).loc KernelIdeal.main_arg7)
      ∧ a.a8 = m ((c.tc : Thread KernelIdeal.nD KernelIdeal.τ).loc KernelIdeal.main_arg8)
      ∧ a.a9 = m ((c.tc : Thread KernelIdeal.nD KernelIdeal.τ).loc KernelIdeal.main_arg9)
      ∧ a.a10 = m ((c.tc : Thread KernelIdeal.nD KernelIdeal.τ).loc KernelIdeal.main_arg10)) :
    ReferenceIdeal.Closed.inp a = KernelIdeal.Host.inp m c := by
  obtain ⟨h0, h1, h2, h3, h4, h5, h6, h7, h8, h9, h10⟩ := h
  unfold ReferenceIdeal.Closed.inp
  rw [h0, h1, h2, h3, h4, h5, h6, h7, h8, h9, h10]
  rfl

/-- The results of the kernel and of the reference are equal. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => KernelIdeal.Value.result (KernelIdeal.Host.inp m c), ?_, ?_⟩
  · exact (θ_run _ _ _).mono (fun _ h c => ⟨h.1 c, h.2.1 c⟩) (θ_run_and (KernelIdeal.Value.run m g) (KernelIdeal.Scan.frame_run (F := Ideal) m g))
  · exact (θ_run _ _ _).mono (fun _ h c => ⟨(h c).1.trans (congrArg KernelIdeal.Value.result (inputs_eq m c (ReferenceIdeal.Closed.args m' c) (hm c))), (h c).2⟩)
      (ReferenceIdeal.Closed.run m' g')

end Cert.Equal

end
-- ==== Proof.lean ====
module

public import proofs.«01_k».proof.Defs
public import proofs.«01_k».proof.Proof.Frames
public import proofs.«01_k».proof.Proof.Equal

@[expose] public section

noncomputable section

namespace Cert.Proof

open Idealize.ShloMosaic

/-- Everything the certificate claims. -/
theorem claim : Cert.Claim := ⟨Cert.Kernel.Gen.facts, Cert.KernelIdeal.Gen.facts, Cert.ReferenceIdeal.Gen.facts,
  Frames.kernel, Frames.kernelIdeal, Frames.referenceIdeal, trivial, Equal.algebraic⟩

end Cert.Proof

end
